-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v31) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_logits.lean ====
abbrev S8x4096x3584 : Shape := ⟨3, ![8, 4096, 3584]⟩
abbrev S8 : Shape := ⟨1, ![8]⟩
abbrev S8x4096x1024 : Shape := ⟨3, ![8, 4096, 1024]⟩
abbrev S_ : Shape := ⟨0, ![]⟩

class Facts : Prop where
  slices_S8x4096x3584_S8x4096x1024_0_0_2048 : S8x4096x3584.Slices ![0, 0, 2048] S8x4096x1024
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8x4096x3584 .f32) (main_arg1 : FVec F S8 .f32) : IVec S_ 1 :=
  let main_v0 : FVec F S8x4096x1024 .f32 := (extractStridedSlice S8x4096x1024 ![0, 0, 2048] · slices_S8x4096x3584_S8x4096x1024_0_0_2048) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_c : IVec S_ 1 := constantI S_ 1 1#1
  let main_v4 : IVec S_ 1 := (fun x v => Host.reduce IntOp.andi x v reducesTo_S8x4096x1024_S_d0_1_2 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  main_v9
-- ==== Kernel.lean ====
abbrev S8x4096x3584 : Shape := ⟨3, ![8, 4096, 3584]⟩
abbrev S8 : Shape := ⟨1, ![8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x1x1 : Shape := ⟨3, ![8, 1, 1]⟩
abbrev S8x1x256 : Shape := ⟨3, ![8, 1, 256]⟩
abbrev S8x4096x512 : Shape := ⟨3, ![8, 4096, 512]⟩
abbrev S1x256x512 : Shape := ⟨3, ![1, 256, 512]⟩
abbrev S8x256x1 : Shape := ⟨3, ![8, 256, 1]⟩
abbrev S256x512 : Shape := ⟨2, ![256, 512]⟩
abbrev S256x128 : Shape := ⟨2, ![256, 128]⟩
abbrev S1x256x128 : Shape := ⟨3, ![1, 256, 128]⟩
abbrev S1x1x256 : Shape := ⟨3, ![1, 1, 256]⟩
abbrev S1x256x1 : Shape := ⟨3, ![1, 256, 1]⟩

abbrev nBuf : Space → Nat
  | .hbm => 12
  | .vmem => 11
  | .smem => 0
  | _ => 0

abbrev bufTy : (tb : Table) → Fin (tcTables nBuf tb) → BufTy
  | .hbm, ⟨0, _⟩ => ⟨S8x4096x3584, .f32⟩
  | .hbm, ⟨1, _⟩ => ⟨S8, .f32⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .bf16⟩
  | .hbm, ⟨9, _⟩ => ⟨S8x1x1, .f32⟩
  | .hbm, ⟨10, _⟩ => ⟨S8x1x256, .f32⟩
  | .hbm, ⟨11, _⟩ => ⟨S8x4096x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S8x1x256, .f32⟩
  | .local _ .vmem, ⟨7, _⟩ => ⟨S256x256, .bf16⟩
  | .local _ .vmem, ⟨8, _⟩ => ⟨S1x256x512, .f32⟩
  | .local _ .vmem, ⟨9, _⟩ => ⟨S1x256x512, .f32⟩
  | .local _ .vmem, ⟨10, _⟩ => ⟨S8x256x1, .f32⟩
  | _, _ => ⟨S8x4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 16, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let arg1 : BitVec 32 := BitVec.ofNat 32 (i 1).val
  let v3 : BitVec 1 := Scalar.cmpi .sle arg2 arg1
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.subi arg1 arg2
  let c0_i32 : BitVec 32 := 0#32
  let v1 : BitVec 32 := Scalar.maxsi v0 c0_i32
  let c5_i32 : BitVec 32 := 5#32
  let c0_i32_0 : BitVec 32 := 0#32
  ![arg0.toNat, v1.toNat, c5_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.subi arg1 arg2
  let c0_i32 : BitVec 32 := 0#32
  let v1 : BitVec 32 := Scalar.maxsi v0 c0_i32
  let c6_i32 : BitVec 32 := 6#32
  let c0_i32_0 : BitVec 32 := 0#32
  ![arg0.toNat, v1.toNat, c6_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S8x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S8x4096x3584 : Shape := ⟨3, ![8, 4096, 3584]⟩
abbrev S8 : Shape := ⟨1, ![8]⟩
abbrev S8x4096x512 : Shape := ⟨3, ![8, 4096, 512]⟩
abbrev S8x4096x8x64 : Shape := ⟨4, ![8, 4096, 8, 64]⟩
abbrev S8x8x4096x4096 : Shape := ⟨4, ![8, 8, 4096, 4096]⟩
abbrev S_ : Shape := ⟨0, ![]⟩
abbrev S1x8x1x1 : Shape := ⟨4, ![1, 8, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x64x4096 : Shape := ⟨4, ![8, 8, 64, 4096]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x3584, .f32⟩
  | .hbm, ⟨1, _⟩ => ⟨S8, .f32⟩
  | .hbm, ⟨2, _⟩ => ⟨S8x4096x512, .f32⟩
  | .hbm, ⟨3, _⟩ => ⟨S8x4096x8x64, .f32⟩
  | .hbm, ⟨4, _⟩ => ⟨S8x4096x512, .f32⟩
  | .hbm, ⟨5, _⟩ => ⟨S8x4096x8x64, .f32⟩
  | .hbm, ⟨6, _⟩ => ⟨S8x4096x512, .f32⟩
  | .hbm, ⟨7, _⟩ => ⟨S8x4096x8x64, .f32⟩
  | .hbm, ⟨8, _⟩ => ⟨S8x8x4096x4096, .f32⟩
  | .hbm, ⟨9, _⟩ => ⟨S_, .f32⟩
  | .hbm, ⟨10, _⟩ => ⟨S8x8x4096x4096, .f32⟩
  | .hbm, ⟨11, _⟩ => ⟨S8x8x4096x4096, .f32⟩
  | .hbm, ⟨12, _⟩ => ⟨S1x8x1x1, .f32⟩
  | .hbm, ⟨13, _⟩ => ⟨S8x8x4096x4096, .f32⟩
  | .hbm, ⟨14, _⟩ => ⟨S8x8x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S8x8x4096x4096, .f32⟩
  | .hbm, ⟨22, _⟩ => ⟨S8x8x4096x4096, .f32⟩
  | .hbm, ⟨23, _⟩ => ⟨S_, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .i1⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S8x8x4096x4096, .f32⟩
  | .hbm, ⟨38, _⟩ => ⟨S_, .f32⟩
  | .hbm, ⟨39, _⟩ => ⟨S_, .f32⟩
  | .hbm, ⟨40, _⟩ => ⟨S8x8x4096x4096, .i1⟩
  | .hbm, ⟨41, _⟩ => ⟨S8x8x4096x4096, .f32⟩
  | .hbm, ⟨42, _⟩ => ⟨S8x8x4096x4096, .f32⟩
  | .hbm, ⟨43, _⟩ => ⟨S_, .f32⟩
  | .hbm, ⟨44, _⟩ => ⟨S_, .f32⟩
  | .hbm, ⟨45, _⟩ => ⟨S8x8x4096x4096, .f32⟩
  | .hbm, ⟨46, _⟩ => ⟨S8x8x4096x4096, .f32⟩
  | .hbm, ⟨47, _⟩ => ⟨S8x8x4096x4096, .f32⟩
  | .hbm, ⟨48, _⟩ => ⟨S_, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x4096x4096, .i1⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S8x8x4096x4096, .f32⟩
  | .hbm, ⟨64, _⟩ => ⟨S8x8x4096x4096, .f32⟩
  | .hbm, ⟨65, _⟩ => ⟨S_, .f32⟩
  | .hbm, ⟨66, _⟩ => ⟨S_, .f32⟩
  | .hbm, ⟨67, _⟩ => ⟨S8x8x4096x4096, .i1⟩
  | .hbm, ⟨68, _⟩ => ⟨S8x8x4096x4096, .f32⟩
  | .hbm, ⟨69, _⟩ => ⟨S8x8x4096x4096, .f32⟩
  | .hbm, ⟨70, _⟩ => ⟨S8x8x64x4096, .f32⟩
  | .hbm, ⟨71, _⟩ => ⟨S8x4096x8x64, .f32⟩
  | .hbm, ⟨72, _⟩ => ⟨S8x4096x512, .f32⟩
  | _, _ => ⟨S8x4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_call2_cst : Ref sig .tc := ⟨.hbm, 43, rfl⟩
abbrev main_call2_v0 : Ref sig .tc := ⟨.hbm, 44, rfl⟩
abbrev main_v21 : Ref sig .tc := ⟨.hbm, 45, rfl⟩
abbrev main_v22 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel2Ideal.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1, .f32⟩
  | .hbm, ⟨39, _⟩ => ⟨S8x4096x1024, .f32⟩
  | .hbm, ⟨40, _⟩ => ⟨S8x4096x1024, .f32⟩
  | .hbm, ⟨41, _⟩ => ⟨S1x1x1024, .f32⟩
  | .hbm, ⟨42, _⟩ => ⟨S8x4096x1024, .f32⟩
  | .hbm, ⟨43, _⟩ => ⟨S8x4096x1024, .f32⟩
  | .hbm, ⟨44, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x7184 : Shape := ⟨2, ![1024, 7184]⟩
abbrev S32768x1024 : Shape := ⟨2, ![32768, 1024]⟩
abbrev S1024x7168 : Shape := ⟨2, ![1024, 7168]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S32768x7168 : Shape := ⟨2, ![32768, 7168]⟩
abbrev S32768x128 : Shape := ⟨2, ![32768, 128]⟩
abbrev S1024x1024 : Shape := ⟨2, ![1024, 1024]⟩
abbrev S1024x1 : Shape := ⟨2, ![1024, 1]⟩

abbrev nBuf : Space → Nat
  | .hbm => 14
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x7184, .f32⟩
  | .hbm, ⟨3, _⟩ => ⟨S32768x1024, .f32⟩
  | .hbm, ⟨4, _⟩ => ⟨S1024x7168, .f32⟩
  | .hbm, ⟨5, _⟩ => ⟨S1024x7168, .bf16⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S1x1024, .f32⟩
  | .hbm, ⟨12, _⟩ => ⟨S32768x7168, .f32⟩
  | .hbm, ⟨13, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel3Ideal.lean ====
abbrev S8x4096x1024 : Shape := ⟨3, ![8, 4096, 1024]⟩
abbrev S1024 : Shape := ⟨1, ![1024]⟩
abbrev S1024x7184 : Shape := ⟨2, ![1024, 7184]⟩
abbrev S32768x1024 : Shape := ⟨2, ![32768, 1024]⟩
abbrev S1024x7168 : Shape := ⟨2, ![1024, 7168]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S32768x7168 : Shape := ⟨2, ![32768, 7168]⟩
abbrev S32768x128 : Shape := ⟨2, ![32768, 128]⟩
abbrev S1024x1024 : Shape := ⟨2, ![1024, 1024]⟩
abbrev S1024x1 : Shape := ⟨2, ![1024, 1]⟩

abbrev nBuf : Space → Nat
  | .hbm => 14
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x7184, .f32⟩
  | .hbm, ⟨3, _⟩ => ⟨S32768x1024, .f32⟩
  | .hbm, ⟨4, _⟩ => ⟨S1024x7168, .f32⟩
  | .hbm, ⟨5, _⟩ => ⟨S1024x7168, .bf16⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S1x1024, .f32⟩
  | .hbm, ⟨12, _⟩ => ⟨S32768x7168, .f32⟩
  | .hbm, ⟨13, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S8x4096x1024 : Shape := ⟨3, ![8, 4096, 1024]⟩
abbrev S1024 : Shape := ⟨1, ![1024]⟩
abbrev S1024x7184 : Shape := ⟨2, ![1024, 7184]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x7184 : Shape := ⟨3, ![8, 4096, 7184]⟩
abbrev S32768x7184 : Shape := ⟨2, ![32768, 7184]⟩
abbrev S32768x7168 : Shape := ⟨2, ![32768, 7168]⟩
abbrev S32768x16 : Shape := ⟨2, ![32768, 16]⟩
abbrev S32768x128 : Shape := ⟨2, ![32768, 128]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x7184, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x7184, .f32⟩
  | .hbm, ⟨20, _⟩ => ⟨S32768x7184, .f32⟩
  | .hbm, ⟨21, _⟩ => ⟨S32768x7168, .f32⟩
  | .hbm, ⟨22, _⟩ => ⟨S32768x16, .f32⟩
  | .hbm, ⟨23, _⟩ => ⟨S_, .i32⟩
  | .hbm, ⟨24, _⟩ => ⟨S_, .f32⟩
  | .hbm, ⟨25, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S1024x3592 : Shape := ⟨2, ![1024, 3592]⟩
abbrev S1024x2048 : Shape := ⟨2, ![1024, 2048]⟩
abbrev S1024x1536 : Shape := ⟨2, ![1024, 1536]⟩
abbrev S1024x3584 : Shape := ⟨2, ![1024, 3584]⟩
abbrev S32768x1024 : Shape := ⟨2, ![32768, 1024]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S32768x3584 : Shape := ⟨2, ![32768, 3584]⟩
abbrev S32768x128 : Shape := ⟨2, ![32768, 128]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3592, .f32⟩
  | .hbm, ⟨3, _⟩ => ⟨S1024x2048, .f32⟩
  | .hbm, ⟨4, _⟩ => ⟨S1024x1536, .f32⟩
  | .hbm, ⟨5, _⟩ => ⟨S1024x3584, .f32⟩
  | .hbm, ⟨6, _⟩ => ⟨S1024x3584, .bf16⟩
  | .hbm, ⟨7, _⟩ => ⟨S32768x1024, .f32⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1x1024, .f32⟩
  | .hbm, ⟨14, _⟩ => ⟨S32768x3584, .f32⟩
  | .hbm, ⟨15, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x128, .bf16⟩
  | .local _ .vmem, ⟨6, _⟩ => ⟨S1024x512, .f32⟩
  | .local _ .vmem, ⟨7, _⟩ => ⟨S1024x512, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel4Ideal.lean ====
abbrev S8x4096x1024 : Shape := ⟨3, ![8, 4096, 1024]⟩
abbrev S1024 : Shape := ⟨1, ![1024]⟩
abbrev S1024x3592 : Shape := ⟨2, ![1024, 3592]⟩
abbrev S1024x2048 : Shape := ⟨2, ![1024, 2048]⟩
abbrev S1024x1536 : Shape := ⟨2, ![1024, 1536]⟩
abbrev S1024x3584 : Shape := ⟨2, ![1024, 3584]⟩
abbrev S32768x1024 : Shape := ⟨2, ![32768, 1024]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S32768x3584 : Shape := ⟨2, ![32768, 3584]⟩
abbrev S32768x128 : Shape := ⟨2, ![32768, 128]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3592, .f32⟩
  | .hbm, ⟨3, _⟩ => ⟨S1024x2048, .f32⟩
  | .hbm, ⟨4, _⟩ => ⟨S1024x1536, .f32⟩
  | .hbm, ⟨5, _⟩ => ⟨S1024x3584, .f32⟩
  | .hbm, ⟨6, _⟩ => ⟨S1024x3584, .bf16⟩
  | .hbm, ⟨7, _⟩ => ⟨S32768x1024, .f32⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1x1024, .f32⟩
  | .hbm, ⟨14, _⟩ => ⟨S32768x3584, .f32⟩
  | .hbm, ⟨15, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x128, .bf16⟩
  | .local _ .vmem, ⟨6, _⟩ => ⟨S1024x512, .f32⟩
  | .local _ .vmem, ⟨7, _⟩ => ⟨S1024x512, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S8x4096x1024 : Shape := ⟨3, ![8, 4096, 1024]⟩
abbrev S1024 : Shape := ⟨1, ![1024]⟩
abbrev S1024x3592 : Shape := ⟨2, ![1024, 3592]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3592 : Shape := ⟨3, ![8, 4096, 3592]⟩
abbrev S32768x3592 : Shape := ⟨2, ![32768, 3592]⟩
abbrev S32768x2048 : Shape := ⟨2, ![32768, 2048]⟩
abbrev S32768x1536 : Shape := ⟨2, ![32768, 1536]⟩
abbrev S32768x3584 : Shape := ⟨2, ![32768, 3584]⟩
abbrev S32768x8 : Shape := ⟨2, ![32768, 8]⟩
abbrev S32768x128 : Shape := ⟨2, ![32768, 128]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3592, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x3592, .f32⟩
  | .hbm, ⟨20, _⟩ => ⟨S32768x3592, .f32⟩
  | .hbm, ⟨21, _⟩ => ⟨S32768x2048, .f32⟩
  | .hbm, ⟨22, _⟩ => ⟨S32768x1536, .f32⟩
  | .hbm, ⟨23, _⟩ => ⟨S32768x3584, .f32⟩
  | .hbm, ⟨24, _⟩ => ⟨S32768x8, .f32⟩
  | .hbm, ⟨25, _⟩ => ⟨S_, .i32⟩
  | .hbm, ⟨26, _⟩ => ⟨S_, .f32⟩
  | .hbm, ⟨27, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel5.lean ====
abbrev S8x4096x512 : Shape := ⟨3, ![8, 4096, 512]⟩
abbrev S8x4096x1024 : Shape := ⟨3, ![8, 4096, 1024]⟩
abbrev S1536x1024 : Shape := ⟨2, ![1536, 1024]⟩
abbrev S32768x512 : Shape := ⟨2, ![32768, 512]⟩
abbrev S32768x1024 : Shape := ⟨2, ![32768, 1024]⟩
abbrev S512x512 : Shape := ⟨2, ![512, 512]⟩
abbrev S512x1024 : Shape := ⟨2, ![512, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x512, .f32⟩
  | .hbm, ⟨1, _⟩ => ⟨S8x4096x1024, .f32⟩
  | .hbm, ⟨2, _⟩ => ⟨S8x4096x1024, .f32⟩
  | .hbm, ⟨3, _⟩ => ⟨S1536x1024, .f32⟩
  | .hbm, ⟨4, _⟩ => ⟨S32768x512, .f32⟩
  | .hbm, ⟨5, _⟩ => ⟨S32768x1024, .f32⟩
  | .hbm, ⟨6, _⟩ => ⟨S32768x1024, .f32⟩
  | .hbm, ⟨7, _⟩ => ⟨S1536x1024, .bf16⟩
  | .hbm, ⟨8, _⟩ => ⟨S32768x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1536x1024, .bf16⟩
  | .local _ .vmem, ⟨7, _⟩ => ⟨S512x1024, .f32⟩
  | .local _ .vmem, ⟨8, _⟩ => ⟨S512x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8x4096x512 : Shape := ⟨3, ![8, 4096, 512]⟩
abbrev S8x4096x1024 : Shape := ⟨3, ![8, 4096, 1024]⟩
abbrev S1536x1024 : Shape := ⟨2, ![1536, 1024]⟩
abbrev S8x4096x1536 : Shape := ⟨3, ![8, 4096, 1536]⟩
abbrev S32768x1024 : Shape := ⟨2, ![32768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x1024, .f32⟩
  | .hbm, ⟨2, _⟩ => ⟨S8x4096x1024, .f32⟩
  | .hbm, ⟨3, _⟩ => ⟨S1536x1024, .f32⟩
  | .hbm, ⟨4, _⟩ => ⟨S8x4096x1536, .f32⟩
  | .hbm, ⟨5, _⟩ => ⟨S8x4096x1024, .f32⟩
  | .hbm, ⟨6, _⟩ => ⟨S8x4096x1024, .f32⟩
  | .hbm, ⟨7, _⟩ => ⟨S32768x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel6.lean ====
abbrev S8x4096x512 : Shape := ⟨3, ![8, 4096, 512]⟩
abbrev S8x4096x1024 : Shape := ⟨3, ![8, 4096, 1024]⟩
abbrev S1024x1024 : Shape := ⟨2, ![1024, 1024]⟩
abbrev S32768x512 : Shape := ⟨2, ![32768, 512]⟩
abbrev S32768x1024 : Shape := ⟨2, ![32768, 1024]⟩
abbrev S512x512 : Shape := ⟨2, ![512, 512]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S1024x1024, .f32⟩
  | .hbm, ⟨4, _⟩ => ⟨S32768x512, .f32⟩
  | .hbm, ⟨5, _⟩ => ⟨S32768x512, .f32⟩
  | .hbm, ⟨6, _⟩ => ⟨S32768x1024, .f32⟩
  | .hbm, ⟨7, _⟩ => ⟨S1024x1024, .bf16⟩
  | .hbm, ⟨8, _⟩ => ⟨S32768x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8x4096x512 : Shape := ⟨3, ![8, 4096, 512]⟩
abbrev S8x4096x1024 : Shape := ⟨3, ![8, 4096, 1024]⟩
abbrev S1024x1024 : Shape := ⟨2, ![1024, 1024]⟩
abbrev S32768x1024 : Shape := ⟨2, ![32768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S1024x1024, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S32768x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x1024, .f32⟩
  | .hbm, ⟨27, _⟩ => ⟨S8x4096x1024, .f32⟩
  | .hbm, ⟨28, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel8.lean ====
abbrev S32x8x1024 : Shape := ⟨3, ![32, 8, 1024]⟩
abbrev S1024 : Shape := ⟨1, ![1024]⟩
abbrev S1024x7184 : Shape := ⟨2, ![1024, 7184]⟩
abbrev S256x1024 : Shape := ⟨2, ![256, 1024]⟩
abbrev S1024x7168 : Shape := ⟨2, ![1024, 7168]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S256x7168 : Shape := ⟨2, ![256, 7168]⟩
abbrev S256x128 : Shape := ⟨2, ![256, 128]⟩
abbrev S1024x1024 : Shape := ⟨2, ![1024, 1024]⟩
abbrev S256 : Shape := ⟨1, ![256]⟩
abbrev S256x1 : Shape := ⟨2, ![256, 1]⟩

abbrev nBuf : Space → Nat
  | .hbm => 14
  | .vmem => 9
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x7184, .f32⟩
  | .hbm, ⟨3, _⟩ => ⟨S256x1024, .f32⟩
  | .hbm, ⟨4, _⟩ => ⟨S1024x7168, .f32⟩
  | .hbm, ⟨5, _⟩ => ⟨S1024x7168, .bf16⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S1x1024, .f32⟩
  | .hbm, ⟨12, _⟩ => ⟨S256x7168, .f32⟩
  | .hbm, ⟨13, _⟩ => ⟨S256x128, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .bf16⟩
  | .local _ .vmem, ⟨5, _⟩ => ⟨S256x1024, .f32⟩
  | .local _ .vmem, ⟨6, _⟩ => ⟨S256x1024, .f32⟩
  | .local _ .vmem, ⟨7, _⟩ => ⟨S256x128, .f32⟩
  | .local _ .vmem, ⟨8, _⟩ => ⟨S256x1024, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![1, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference8Ideal.lean ====
abbrev S32x8x1024 : Shape := ⟨3, ![32, 8, 1024]⟩
abbrev S1024 : Shape := ⟨1, ![1024]⟩
abbrev S1024x7184 : Shape := ⟨2, ![1024, 7184]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x7184 : Shape := ⟨3, ![32, 8, 7184]⟩
abbrev S256x7184 : Shape := ⟨2, ![256, 7184]⟩
abbrev S256x7168 : Shape := ⟨2, ![256, 7168]⟩
abbrev S256x16 : Shape := ⟨2, ![256, 16]⟩
abbrev S256x128 : Shape := ⟨2, ![256, 128]⟩

abbrev nBuf : Space → Nat
  | .hbm => 26
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x7184, .f32⟩
  | .hbm, ⟨3, _⟩ => ⟨S32x8x1024, .f32⟩
  | .hbm, ⟨4, _⟩ => ⟨S_, .f32⟩
  | .hbm, ⟨5, _⟩ => ⟨S32x8, .f32⟩
  | .hbm, ⟨6, _⟩ => ⟨S32x8x1, .f32⟩
  | .hbm, ⟨7, _⟩ => ⟨S_, .f32⟩
  | .hbm, ⟨8, _⟩ => ⟨S32x8x1, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S32x8x1, .f32⟩
  | .hbm, ⟨14, _⟩ => ⟨S32x8x1024, .f32⟩
  | .hbm, ⟨15, _⟩ => ⟨S32x8x1024, .f32⟩
  | .hbm, ⟨16, _⟩ => ⟨S1x1x1024, .f32⟩
  | .hbm, ⟨17, _⟩ => ⟨S32x8x1024, .f32⟩
  | .hbm, ⟨18, _⟩ => ⟨S32x8x1024, .f32⟩
  | .hbm, ⟨19, _⟩ => ⟨S32x8x7184, .f32⟩
  | .hbm, ⟨20, _⟩ => ⟨S256x7184, .f32⟩
  | .hbm, ⟨21, _⟩ => ⟨S256x7168, .f32⟩
  | .hbm, ⟨22, _⟩ => ⟨S256x16, .f32⟩
  | .hbm, ⟨23, _⟩ => ⟨S_, .i32⟩
  | .hbm, ⟨24, _⟩ => ⟨S_, .f32⟩
  | .hbm, ⟨25, _⟩ => ⟨S256x128, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel9.lean ====
abbrev S32x8x1024 : Shape := ⟨3, ![32, 8, 1024]⟩
abbrev S1024 : Shape := ⟨1, ![1024]⟩
abbrev S1024x3592 : Shape := ⟨2, ![1024, 3592]⟩
abbrev S1024x2048 : Shape := ⟨2, ![1024, 2048]⟩
abbrev S1024x1536 : Shape := ⟨2, ![1024, 1536]⟩
abbrev S1024x3584 : Shape := ⟨2, ![1024, 3584]⟩
abbrev S256x1024 : Shape := ⟨2, ![256, 1024]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S256x3584 : Shape := ⟨2, ![256, 3584]⟩
abbrev S256x128 : Shape := ⟨2, ![256, 128]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩

abbrev nBuf : Space → Nat
  | .hbm => 16
  | .vmem => 9
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x3592, .f32⟩
  | .hbm, ⟨3, _⟩ => ⟨S1024x2048, .f32⟩
  | .hbm, ⟨4, _⟩ => ⟨S1024x1536, .f32⟩
  | .hbm, ⟨5, _⟩ => ⟨S1024x3584, .f32⟩
  | .hbm, ⟨6, _⟩ => ⟨S1024x3584, .bf16⟩
  | .hbm, ⟨7, _⟩ => ⟨S256x1024, .f32⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1x1024, .f32⟩
  | .hbm, ⟨14, _⟩ => ⟨S256x3584, .f32⟩
  | .hbm, ⟨15, _⟩ => ⟨S256x128, .f32⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S1024x128, .bf16⟩
  | .local _ .vmem, ⟨5, _⟩ => ⟨S256x512, .f32⟩
  | .local _ .vmem, ⟨6, _⟩ => ⟨S256x512, .f32⟩
  | .local _ .vmem, ⟨7, _⟩ => ⟨S256x128, .f32⟩
  | .local _ .vmem, ⟨8, _⟩ => ⟨S256x1024, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![1, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference9Ideal.lean ====
abbrev S32x8x1024 : Shape := ⟨3, ![32, 8, 1024]⟩
abbrev S1024 : Shape := ⟨1, ![1024]⟩
abbrev S1024x3592 : Shape := ⟨2, ![1024, 3592]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x3592 : Shape := ⟨3, ![32, 8, 3592]⟩
abbrev S256x3592 : Shape := ⟨2, ![256, 3592]⟩
abbrev S256x2048 : Shape := ⟨2, ![256, 2048]⟩
abbrev S256x1536 : Shape := ⟨2, ![256, 1536]⟩
abbrev S256x3584 : Shape := ⟨2, ![256, 3584]⟩
abbrev S256x8 : Shape := ⟨2, ![256, 8]⟩
abbrev S256x128 : Shape := ⟨2, ![256, 128]⟩

abbrev nBuf : Space → Nat
  | .hbm => 28
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x3592, .f32⟩
  | .hbm, ⟨3, _⟩ => ⟨S32x8x1024, .f32⟩
  | .hbm, ⟨4, _⟩ => ⟨S_, .f32⟩
  | .hbm, ⟨5, _⟩ => ⟨S32x8, .f32⟩
  | .hbm, ⟨6, _⟩ => ⟨S32x8x1, .f32⟩
  | .hbm, ⟨7, _⟩ => ⟨S_, .f32⟩
  | .hbm, ⟨8, _⟩ => ⟨S32x8x1, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S32x8x1, .f32⟩
  | .hbm, ⟨14, _⟩ => ⟨S32x8x1024, .f32⟩
  | .hbm, ⟨15, _⟩ => ⟨S32x8x1024, .f32⟩
  | .hbm, ⟨16, _⟩ => ⟨S1x1x1024, .f32⟩
  | .hbm, ⟨17, _⟩ => ⟨S32x8x1024, .f32⟩
  | .hbm, ⟨18, _⟩ => ⟨S32x8x1024, .f32⟩
  | .hbm, ⟨19, _⟩ => ⟨S32x8x3592, .f32⟩
  | .hbm, ⟨20, _⟩ => ⟨S256x3592, .f32⟩
  | .hbm, ⟨21, _⟩ => ⟨S256x2048, .f32⟩
  | .hbm, ⟨22, _⟩ => ⟨S256x1536, .f32⟩
  | .hbm, ⟨23, _⟩ => ⟨S256x3584, .f32⟩
  | .hbm, ⟨24, _⟩ => ⟨S256x8, .f32⟩
  | .hbm, ⟨25, _⟩ => ⟨S_, .i32⟩
  | .hbm, ⟨26, _⟩ => ⟨S_, .f32⟩
  | .hbm, ⟨27, _⟩ => ⟨S256x128, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel10.lean ====
abbrev S32x8x1024 : Shape := ⟨3, ![32, 8, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1x1024 : Shape := ⟨2, ![1, 1024]⟩
abbrev S1024x512 : Shape := ⟨2, ![1024, 512]⟩
abbrev S512x1024 : Shape := ⟨2, ![512, 1024]⟩
abbrev S256 : Shape := ⟨1, ![256]⟩
abbrev S256x1 : Shape := ⟨2, ![256, 1]⟩
abbrev S256x512 : Shape := ⟨2, ![256, 512]⟩

abbrev nBuf : Space → Nat
  | .hbm => 11
  | .vmem => 10
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S256x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference10Ideal.lean ====
abbrev S32x8x1024 : Shape := ⟨3, ![32, 8, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x4096 : Shape := ⟨3, ![32, 8, 4096]⟩
abbrev S256x1024 : Shape := ⟨2, ![256, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32x8x1024, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S32x8x1, .f32⟩
  | .hbm, ⟨16, _⟩ => ⟨S32x8x1024, .f32⟩
  | .hbm, ⟨17, _⟩ => ⟨S32x8x1024, .f32⟩
  | .hbm, ⟨18, _⟩ => ⟨S1x1x1024, .f32⟩
  | .hbm, ⟨19, _⟩ => ⟨S32x8x1024, .f32⟩
  | .hbm, ⟨20, _⟩ => ⟨S32x8x1024, .f32⟩
  | .hbm, ⟨21, _⟩ => ⟨S32x8x4096, .f32⟩
  | .hbm, ⟨22, _⟩ => ⟨S_, .f32⟩
  | .hbm, ⟨23, _⟩ => ⟨S32x8x4096, .f32⟩
  | .hbm, ⟨24, _⟩ => ⟨S32x8x4096, .f32⟩
  | .hbm, ⟨25, _⟩ => ⟨S32x8x4096, .f32⟩
  | .hbm, ⟨26, _⟩ => ⟨S32x8x1024, .f32⟩
  | .hbm, ⟨27, _⟩ => ⟨S32x8x1024, .f32⟩
  | .hbm, ⟨28, _⟩ => ⟨S32x8x1024, .f32⟩
  | .hbm, ⟨29, _⟩ => ⟨S_, .f32⟩
  | .hbm, ⟨30, _⟩ => ⟨S32x8, .f32⟩
  | .hbm, ⟨31, _⟩ => ⟨S32x8x1, .f32⟩
  | .hbm, ⟨32, _⟩ => ⟨S_, .f32⟩
  | .hbm, ⟨33, _⟩ => ⟨S32x8x1, .f32⟩
  | .hbm, ⟨34, _⟩ => ⟨S32x8x1, .f32⟩
  | .hbm, ⟨35, _⟩ => ⟨S_, .f32⟩
  | .hbm, ⟨36, _⟩ => ⟨S32x8x1, .f32⟩
  | .hbm, ⟨37, _⟩ => ⟨S32x8x1, .f32⟩
  | .hbm, ⟨38, _⟩ => ⟨S32x8x1, .f32⟩
  | .hbm, ⟨39, _⟩ => ⟨S32x8x1024, .f32⟩
  | .hbm, ⟨40, _⟩ => ⟨S32x8x1024, .f32⟩
  | .hbm, ⟨41, _⟩ => ⟨S1x1x1024, .f32⟩
  | .hbm, ⟨42, _⟩ => ⟨S32x8x1024, .f32⟩
  | .hbm, ⟨43, _⟩ => ⟨S32x8x1024, .f32⟩
  | .hbm, ⟨44, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.Points.lean ====
/- The kernel's grid, point by point: which of the body's two conditions hold there, the staging buffers the body is
   handed, and the carried scratch. A point is `t = (b·16 + i)·16 + j`: batch `b`, query block `i`, and `j` steps back
   from it along the keys. -/
module

public import proofs.«01_k».proof.Proof.Gen.KernelIdeal.Skeleton
public import proofs.«01_k».proof.Proof.Gen.KernelIdeal.Frame

@[expose] public section

noncomputable section

namespace Cert.KernelIdeal.Stick

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its query block: the body clears the output block and the carried sums. -/
abbrev First (i : grid0.Coords) : Prop := k0_cond1 i = 1#1
/-- The key block is not past the query block: the body adds its share. -/
abbrev Live (i : grid0.Coords) : Prop := k0_cond2 i = 1#1

/-- The grid coordinates of a point, as numbers. -/
theorem coord0 (t : Fin grid0.N) : (grid0.coords t 0).val = t.val / 256 % 8 :=
  Pipeline.Grid.coords_val t 0 (by decide) rfl
theorem coord1 (t : Fin grid0.N) : (grid0.coords t 1).val = t.val / 16 % 16 :=
  Pipeline.Grid.coords_val t 1 (by decide) rfl
theorem coord2 (t : Fin grid0.N) : (grid0.coords t 2).val = t.val % 16 := by
  have h : (grid0.coords t 2).val = t.val / 1 % 16 := Pipeline.Grid.coords_val t 2 (by decide) rfl
  rwa [Nat.div_one] at h

theorem first_iff (t : Fin grid0.N) : First (grid0.coords t) ↔ t.val % 16 = 0 := by
  have e2 := coord2 t
  simp only [First, k0_cond1, e2]
  word_cmp

theorem live_iff : ∀ t : Fin grid0.N, Live (grid0.coords t) ↔ t.val % 16 ≤ t.val / 16 % 16 := by
  decide +kernel

/-- The first point of a query block is live. -/
theorem live_of_first (t : Fin grid0.N) (h : First (grid0.coords t)) : Live (grid0.coords t) :=
  (live_iff t).2 (by rw [(first_iff t).1 h]; exact Nat.zero_le _)

/-- The staging buffer of each window at a point, and its wholeness. -/
abbrev mq (t : Fin cfg0.N) : Memref sig .tc .vmem S1x256x512 .f32 := win0_0.stage (cfg0.slots t 0)
abbrev hq (t : Fin cfg0.N) : (mq t).IsWhole := hstage0_0 ((cfg0.slots t 0).cast nbuf0_0)
abbrev mk (t : Fin cfg0.N) : Memref sig .tc .vmem S1x256x512 .f32 := win0_1.stage (cfg0.slots t 1)
abbrev hk (t : Fin cfg0.N) : (mk t).IsWhole := hstage0_1 ((cfg0.slots t 1).cast nbuf0_1)
abbrev mv (t : Fin cfg0.N) : Memref sig .tc .vmem S1x256x512 .f32 := win0_2.stage (cfg0.slots t 2)
abbrev hv (t : Fin cfg0.N) : (mv t).IsWhole := hstage0_2 ((cfg0.slots t 2).cast nbuf0_2)
abbrev mb (t : Fin cfg0.N) : Memref sig .tc .vmem S8x1x256 .f32 := win0_3.stage (cfg0.slots t 3)
abbrev hb (t : Fin cfg0.N) : (mb t).IsWhole := hstage0_3 ((cfg0.slots t 3).cast nbuf0_3)
abbrev mu (t : Fin cfg0.N) : Memref sig .tc .vmem S256x256 .bf16 := win0_4.stage (cfg0.slots t 4)
abbrev hu (t : Fin cfg0.N) : (mu t).IsWhole := hstage0_4 ((cfg0.slots t 4).cast nbuf0_4)
abbrev mo (t : Fin cfg0.N) : Memref sig .tc .vmem S1x256x512 .f32 := win0_5.stage (cfg0.slots t 5)
abbrev ho (t : Fin cfg0.N) : (mo t).IsWhole := hstage0_5 ((cfg0.slots t 5).cast nbuf0_5)
/-- The scratch holding, per head and query row, the sum over the key blocks already seen. -/
abbrev mc : Memref sig .tc .vmem S8x256x1 .f32 := Memref.whole cc0_scratch0

/-- The invariant the launch starts and ends with: the scratch at some contents, and the generator's register. -/
theorem rest_eq (c : Dev nD) :
    (Pipeline.ΦA spec0 c : sProp 𝕄)
      = iprop(iprop((∃ d, owns (c : Thread nD τ) mc fullShare d)) ∗ (∃ r, prngReg c r)) := by
  unfold Pipeline.ΦA; rw [scopedRest0_eq]; simp only [mc, owns_whole]; try rfl

end Cert.KernelIdeal.Stick

end
-- ==== Proof.Step.lean ====
/- What one live point does to the output block and to the carried sums, as functions of the blocks it loads.
   Heads are handled two at a time: a tile of 128 columns of the query, key and value blocks holds heads 2p and 2p+1, and
   the columns of the other head are zeroed in the query before the product. -/
module

public import Idealize.ShloMosaic.Lib.Pointwise
public import proofs.«01_k».proof.Proof.Points

@[expose] public section

noncomputable section

namespace Cert.KernelIdeal.Stick

open Cert.KernelIdeal Cert.KernelIdeal.Gen
open Idealize.ShloMosaic

variable {F : FTy → Type} [FloatOps F]

/-! ## One head -/

/-- The keys strictly before the query: block `j` steps back from query block `i`. -/
abbrev before (i : grid0.Coords) : IVec S256x256 1 :=
  k0_pay3 (BitVec.ofNat 32 (i 1).val) (BitVec.ofNat 32 (i 2).val)

/-- The columns of a tile that belong to its first head, and to its second. -/
abbrev lowHalf : IVec S256x128 1 := k0_pay4
abbrev highHalf : IVec S256x128 1 := xori k0_pay4 (constantI S256x128 1 1#1)

/-- The logits of one head: scaled queries against keys over the head's columns, plus the head's offset. -/
def logits (half : IVec S256x128 1) (q k : Vec F S1x256x128 .f32) (b : Vec F S1x1x256 .f32) : FVec F S256x256 .f32 :=
  addf
    (matmul dot_S256x128_S256x128_S256x256_1_1_0_0_n_n none
      (truncf .bf16 (select half (mulf (shapeCast S256x128 q shapeCasts_S1x256x128_S256x128) (broadcast S256x128 (Scalar.ofBits .f32 0x3E000000#32)))
        (broadcast S256x128 (Scalar.ofBits .f32 0x00000000#32))) bitsLt_bf16_f32)
      (truncf .bf16 (shapeCast S256x128 k shapeCasts_S1x256x128_S256x128) bitsLt_bf16_f32)
      (constant S256x256 .f32 0x00000000#32))
    (broadcastTo S256x256 (shapeCast S1x256 b shapeCasts_S1x1x256_S1x256) broadcasts_S1x256_S256x256)

/-- `log (1 + exp z)` at the keys before the query, zero elsewhere: minus the log of the share of the stick left. -/
def spent (msk : IVec S256x256 1) (z : FVec F S256x256 .f32) : FVec F S256x256 .f32 :=
  select msk
    (addf (maximumf z (broadcast S256x256 (Scalar.ofBits .f32 0x00000000#32)))
      (log1p (exp (subf (broadcast S256x256 (Scalar.ofBits .f32 0x00000000#32)) (absf z)))))
    (broadcast S256x256 (Scalar.ofBits .f32 0x00000000#32))

/-- The sums of `spent` over the later keys of the block: its rounded part and the rest, each against the triangle. -/
def later (u : FVec F S256x256 .bf16) (sp : FVec F S256x256 .f32) : FVec F S256x256 .f32 :=
  addf
    (matmul dot_S256x256_S256x256_S256x256_1_0_0_1_n_n none (truncf .bf16 sp bitsLt_bf16_f32) u (constant S256x256 .f32 0x00000000#32))
    (matmul dot_S256x256_S256x256_S256x256_1_0_0_1_n_n none
      (truncf .bf16 (subf sp (extf .f32 (truncf .bf16 sp bitsLt_bf16_f32) bitsLt_bf16_f32)) bitsLt_bf16_f32) u
      (constant S256x256 .f32 0x00000000#32))

/-- The stick-breaking weights of the block's keys, given the sums carried from the later blocks. -/
def weights (msk : IVec S256x256 1) (z sp aft : FVec F S256x256 .f32) (c : Vec F S1x256x1 .f32) : FVec F S256x256 .f32 :=
  select msk
    (exp (subf (subf (subf z sp) aft) (broadcastTo S256x256 (shapeCast S256x1 c shapeCasts_S1x256x1_S256x1) broadcasts_S256x1_S256x256)))
    (broadcast S256x256 (Scalar.ofBits .f32 0x00000000#32))

/-- One head's share of the output tile: its weights against the tile's values. -/
def share (msk : IVec S256x256 1) (u : FVec F S256x256 .bf16) (z : FVec F S256x256 .f32) (v : Vec F S1x256x128 .f32)
    (c : Vec F S1x256x1 .f32) : FVec F S256x128 .f32 :=
  matmul dot_S256x256_S256x128_S256x128_1_0_0_1_n_n none
    (truncf .bf16 (weights msk z (spent msk z) (later u (spent msk z)) c) bitsLt_bf16_f32)
    (truncf .bf16 (shapeCast S256x128 v shapeCasts_S1x256x128_S256x128) bitsLt_bf16_f32)
    (constant S256x128 .f32 0x00000000#32)

/-- The head's carried sum with this block's total added: what follows the first key, and the first key. -/
def carried (msk : IVec S256x256 1) (u : FVec F S256x256 .bf16) (z : FVec F S256x256 .f32) (c : Vec F S1x256x1 .f32) :
    Vec F S1x256x1 .f32 :=
  shapeCast S1x256x1
    (addf
      (addf (shapeCast S256x1 c shapeCasts_S1x256x1_S256x1)
        (extractStridedSlice S256x1 ![0, 0] (later u (spent msk z)) slices_S256x256_o0_0_S256x1))
      (extractStridedSlice S256x1 ![0, 0] (spent msk z) slices_S256x256_o0_0_S256x1))
    shapeCasts_S256x1_S1x256x1

/-- The output tile with both heads' shares added, each in its own columns. -/
def tile (msk : IVec S256x256 1) (u : FVec F S256x256 .bf16) (z₀ z₁ : FVec F S256x256 .f32) (v : Vec F S1x256x128 .f32)
    (c₀ c₁ : Vec F S1x256x1 .f32) (o : Vec F S1x256x128 .f32) : Vec F S1x256x128 .f32 :=
  shapeCast S1x256x128
    (addf (shapeCast S256x128 o shapeCasts_S1x256x128_S256x128) (select lowHalf (share msk u z₀ v c₀) (share msk u z₁ v c₁)))
    shapeCasts_S256x128_S1x256x128

/-! ## The block -/

/-- The columns of tile `p`, the offsets of head `h`, the carried sums of head `h`. -/
abbrev cols (p : Fin 4) : Rect S1x256x512 :=
  Rect.unit ![0, 0, 128 * p.val] ![1, 256, 128] (fun a => by revert p a; decide)
abbrev offs (h : Fin 8) : Rect S8x1x256 :=
  Rect.unit ![h.val, 0, 0] ![1, 1, 256] (fun a => by revert h a; decide)
abbrev sums (h : Fin 8) : Rect S8x256x1 :=
  Rect.unit ![h.val, 0, 0] ![1, 256, 1] (fun a => by revert h a; decide)

/-- The tile of a head, and the half of it that is the head's. -/
abbrev tileOf (h : Fin 8) : Fin 4 := ⟨h.val / 2, by omega⟩
abbrev halfOf (h : Fin 8) : IVec S256x128 1 := if h.val % 2 = 0 then lowHalf else highHalf

/-- The two heads of a tile. -/
abbrev head₀ (p : Fin 4) : Fin 8 := ⟨2 * p.val, by omega⟩
abbrev head₁ (p : Fin 4) : Fin 8 := ⟨2 * p.val + 1, by omega⟩

/-- Head `h`'s logits of a query block against a key block. -/
def headLogits (q k : Vec F S1x256x512 .f32) (b : Vec F S8x1x256 .f32) (h : Fin 8) : FVec F S256x256 .f32 :=
  logits (halfOf h) (View.ld q (cols (tileOf h))) (View.ld k (cols (tileOf h))) (View.ld b (offs h))

/-- Tile `p` of the new output block. -/
def outTile (msk : IVec S256x256 1) (u : FVec F S256x256 .bf16) (q k v : Vec F S1x256x512 .f32) (b : Vec F S8x1x256 .f32)
    (o : Vec F S1x256x512 .f32) (s : Vec F S8x256x1 .f32) (p : Fin 4) : Vec F S1x256x128 .f32 :=
  tile msk u (headLogits q k b (head₀ p)) (headLogits q k b (head₁ p)) (View.ld v (cols p))
    (View.ld s (sums (head₀ p))) (View.ld s (sums (head₁ p))) (View.ld o (cols p))

/-- Head `h` of the new carried sums. -/
def sumRow (msk : IVec S256x256 1) (u : FVec F S256x256 .bf16) (q k : Vec F S1x256x512 .f32) (b : Vec F S8x1x256 .f32)
    (s : Vec F S8x256x1 .f32) (h : Fin 8) : Vec F S1x256x1 .f32 :=
  carried msk u (headLogits q k b h) (View.ld s (sums h))

/-- The new output block, entry by entry: the entry of the tile its column lies in. -/
def newOut (msk : IVec S256x256 1) (u : FVec F S256x256 .bf16) (q k v : Vec F S1x256x512 .f32) (b : Vec F S8x1x256 .f32)
    (o : Vec F S1x256x512 .f32) (s : Vec F S8x256x1 .f32) : Vec F S1x256x512 .f32 := fun y =>
  outTile msk u q k v b o s ⟨(y 2).val / 128, by have : (y 2).val < 512 := (y 2).isLt; omega⟩
    (ix3 0 (y 1) ⟨(y 2).val % 128, Nat.mod_lt _ (by decide)⟩)

/-- The new carried sums. -/
def newSum (msk : IVec S256x256 1) (u : FVec F S256x256 .bf16) (q k : Vec F S1x256x512 .f32) (b : Vec F S8x1x256 .f32)
    (s : Vec F S8x256x1 .f32) : Vec F S8x256x1 .f32 := fun y =>
  sumRow msk u q k b s (y 0) (ix3 0 (y 1) 0)

/-! ## Where the pieces lie -/

private theorem cols_coord (p : Fin 4) (x : (cols p).shape.Idx) (a : Fin 3) :
    ((cols p).emb x a).val = ![0, 0, 128 * p.val] a + (x a).val := by
  show _ + 1 * _ = _; rw [Nat.one_mul]; rfl

private theorem sums_coord (h : Fin 8) (x : (sums h).shape.Idx) (a : Fin 3) :
    ((sums h).emb x a).val = ![h.val, 0, 0] a + (x a).val := by
  show _ + 1 * _ = _; rw [Nat.one_mul]; rfl

/-- In tile `p`'s columns the new output block is tile `p`. -/
theorem newOut_cols (msk : IVec S256x256 1) (u : FVec F S256x256 .bf16) (q k v : Vec F S1x256x512 .f32) (b : Vec F S8x1x256 .f32)
    (o : Vec F S1x256x512 .f32) (s : Vec F S8x256x1 .f32) (p : Fin 4) (x : (cols p).shape.Idx) :
    outTile msk u q k v b o s p x = newOut msk u q k v b o s ((cols p).emb x) := by
  have h0 : (x 0).val < 1 := (x 0).isLt
  have h2 : (x 2).val < 128 := (x 2).isLt
  have c1 := cols_coord p x 1
  have c2 := cols_coord p x 2
  simp only [Matrix.cons_val] at c1 c2
  unfold newOut
  congr 1
  · exact Fin.ext (by show p.val = ((cols p).emb x 2).val / 128; omega)
  · funext a
    match a with
    | ⟨0, _⟩ => exact Fin.ext (by show (x 0).val = 0; omega)
    | ⟨1, _⟩ => exact Fin.ext (by show (x 1).val = ((cols p).emb x 1).val; omega)
    | ⟨2, _⟩ => exact Fin.ext (by show (x 2).val = ((cols p).emb x 2).val % 128; omega)

/-- In head `h`'s row the new sums are head `h`'s. -/
theorem newSum_sums (msk : IVec S256x256 1) (u : FVec F S256x256 .bf16) (q k : Vec F S1x256x512 .f32) (b : Vec F S8x1x256 .f32)
    (s : Vec F S8x256x1 .f32) (h : Fin 8) (x : (sums h).shape.Idx) :
    sumRow msk u q k b s h x = newSum msk u q k b s ((sums h).emb x) := by
  have h0 : (x 0).val < 1 := (x 0).isLt
  have h2 : (x 2).val < 1 := (x 2).isLt
  have c0 := sums_coord h x 0
  have c1 := sums_coord h x 1
  simp only [Matrix.cons_val] at c0 c1
  unfold newSum
  congr 1
  · exact Fin.ext (by show h.val = ((sums h).emb x 0).val; omega)
  · funext a
    match a with
    | ⟨0, _⟩ => exact Fin.ext (by show (x 0).val = 0; omega)
    | ⟨1, _⟩ => exact Fin.ext (by show (x 1).val = ((sums h).emb x 1).val; omega)
    | ⟨2, _⟩ => exact Fin.ext (by show (x 2).val = 0; omega)

/-- The triangle of ones as the body holds it. -/
abbrev tri (u : Vec F S256x256 .bf16) : FVec F S256x256 .bf16 :=
  k0_pay5 (View.ld u (Rect.unit ![0, 0] ![256, 256] inb_S256x256_S256x256_0_0))

end Cert.KernelIdeal.Stick

end
-- ==== Proof.RunLater.lean ====
/- The kernel body at a point that is live and not the first of its query block, run on whole buffers: what its stores
   leave in the output block and in the carried sums, as the pieces the run finds. -/
module

public import proofs.«01_k».proof.Proof.Points

@[expose] public section

set_option maxRecDepth 16384

noncomputable section

namespace Cert.KernelIdeal.Stick

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The pieces written into the output block (first) and into the carried sums (second), with the proof that the body
    runs to them from the output block at `o` and the sums at `s`, the five inputs left as they were. -/
noncomputable def runLater (c : Dev nD) (i : grid0.Coords) (arg3 : Memref sig .tc .vmem S1x256x512 .f32) (harg3 : arg3.IsWhole) (arg4 : Memref sig .tc .vmem S1x256x512 .f32) (harg4 : arg4.IsWhole) (arg5 : Memref sig .tc .vmem S1x256x512 .f32) (harg5 : arg5.IsWhole) (arg6 : Memref sig .tc .vmem S8x1x256 .f32) (harg6 : arg6.IsWhole) (arg7 : Memref sig .tc .vmem S256x256 .bf16) (harg7 : arg7.IsWhole) (arg8 : Memref sig .tc .vmem S1x256x512 .f32) (harg8 : arg8.IsWhole) (arg9 : Memref sig .tc .vmem S8x256x1 .f32) (harg9 : arg9.IsWhole) (hf : ¬First i) (hl : Live i)
    (q k v : Vec F S1x256x512 .f32) (b : Vec F S8x1x256 .f32) (u : Vec F S256x256 .bf16) (o : Vec F S1x256x512 .f32) (s : Vec F S8x256x1 .f32) :
    { L : List (View.Piece (Elt F) S1x256x512 .f32) × List (View.Piece (Elt F) S8x256x1 .f32) //
      ∀ (E : Set ℕ) (K : PUnit → sProp 𝕄),
        iprop(owns (c : Thread nD τ) arg3 fullShare q ∗ owns (c : Thread nD τ) arg4 fullShare k ∗ owns (c : Thread nD τ) arg5 fullShare v ∗ owns (c : Thread nD τ) arg6 fullShare b ∗ owns (c : Thread nD τ) arg7 fullShare u ∗ owns (c : Thread nD τ) arg8 fullShare o ∗ owns (c : Thread nD τ) arg9 fullShare s
            ∗ (iprop(owns (c : Thread nD τ) arg3 fullShare q ∗ owns (c : Thread nD τ) arg4 fullShare k ∗ owns (c : Thread nD τ) arg5 fullShare v ∗ owns (c : Thread nD τ) arg6 fullShare b ∗ owns (c : Thread nD τ) arg7 fullShare u ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0_stick_breaking_prompt i arg3 harg3 arg4 harg4 arg5 harg5 arg6 harg6 arg7 harg7 arg8 harg8 arg9 harg9) K } := by
  refine ⟨⟨?_, ?_⟩, fun E K => ?run⟩
  case run =>
    simp only [cc0_stick_breaking_prompt_eq_skeleton]; unfold cc0_stick_breaking_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%fq, %hfq, Hq⟩, ⟨%fk, %hfk, Hk⟩, ⟨%fv, %hfv, Hv⟩, ⟨%fb, %hfb, Hb⟩, ⟨%fu, %hfu, Hu⟩, ⟨%fo, %hfo, Ho⟩, ⟨%fs, %hfs, Hs⟩, Hend⟩
    obtain rfl := harg3.eq_unread hfq; obtain rfl := harg4.eq_unread hfk; obtain rfl := harg5.eq_unread hfv; obtain rfl := harg6.eq_unread hfb; obtain rfl := harg7.eq_unread hfu; obtain rfl := harg8.eq_unread hfo; obtain rfl := harg9.eq_unread hfs
    sl_exec (disch := first | sl_exact hf | sl_exact hl)
    sl_step
    iapply Hend
    isplitl [Hq]
    · iexists _; isplitr; · ipureintro; exact harg3.read_unread _
      iexact Hq
    isplitl [Hk]
    · iexists _; isplitr; · ipureintro; exact harg4.read_unread _
      iexact Hk
    isplitl [Hv]
    · iexists _; isplitr; · ipureintro; exact harg5.read_unread _
      iexact Hv
    isplitl [Hb]
    · iexists _; isplitr; · ipureintro; exact harg6.read_unread _
      iexact Hb
    isplitl [Hu]
    · iexists _; isplitr; · ipureintro; exact harg7.read_unread _
      iexact Hu
    isplitl [Ho]
    · iexists _; iexact Ho
    iexists _; iexact Hs

end Cert.KernelIdeal.Stick

end
-- ==== Proof.LaterRead.lean ====
/- What the run at a live point that is not the first leaves: the output block and the sums of one step. -/
module

public import Idealize.ShloMosaic.Lib.Pipeline.ReadBack
public import proofs.«01_k».proof.Proof.Step
public import proofs.«01_k».proof.Proof.RunLater

@[expose] public section

set_option maxRecDepth 16384

noncomputable section

namespace Cert.KernelIdeal.Stick

open Cert.KernelIdeal Cert.KernelIdeal.Gen
open Idealize.ShloMosaic Idealize.ShloMosaic.TcCoe Idealize.ShloMosaic.Tactic

variable {F : FTy → Type} [FloatOps F]

/-- Loading a box of a buffer known whole reads the box of its contents. -/
theorem readAt_whole {κ : Kind} {sp : Space} {S : Shape} {e : EltTy} {M : Memref sig κ sp S e} (hM : M.IsWhole) (x : Vec F S e) (r : Rect S) :
    View.readAt (Elt F) M.view r.toLoadRect (hM.unread x) = View.ld x r := by
  rw [View.readAt_eq_ld, hM.read_unread]

/-- The tiles of one step, written over anything, read back as the new output block. -/
theorem read_out {κ : Kind} {sp : Space} (w : View sig κ sp S1x256x512 .f32) (f : w.ty.Contents (Elt F)) (msk : IVec S256x256 1)
    (t : FVec F S256x256 .bf16) (q k v : Vec F S1x256x512 .f32) (b : Vec F S8x1x256 .f32) (o : Vec F S1x256x512 .f32)
    (s : Vec F S8x256x1 .f32) (P : List (Fin 4)) (hP : ∀ p, p ∈ P) (L : List (View.Piece (Elt F) S1x256x512 .f32)) :
    w.read (Elt F) (w.writes (Elt F) f (P.map (fun p => ⟨cols p, outTile msk t q k v b o s p⟩) ++ L))
      = newOut msk t q k v b o s := by
  funext y
  have hm : ∃ p ∈ P.map (fun p => (⟨cols p, outTile msk t q k v b o s p⟩ : View.Piece (Elt F) S1x256x512 .f32)), y ∈ p.1.set := by
    have h2 : (y 2).val < 512 := (y 2).isLt
    refine ⟨_, List.mem_map_of_mem (hP ⟨(y 2).val / 128, by omega⟩), ?_⟩
    show y ∈ (cols _).set
    rw [Rect.mem_set_unit]
    intro a
    match a with
    | ⟨0, _⟩ => exact ⟨Nat.zero_le _, (y 0).isLt⟩
    | ⟨1, _⟩ => exact ⟨Nat.zero_le _, lt_of_lt_of_le (y 1).isLt (by show 256 ≤ 0 + 256; omega)⟩
    | ⟨2, _⟩ => exact ⟨by show 128 * ((y 2).val / 128) ≤ (y 2).val; omega, by show (y 2).val < 128 * ((y 2).val / 128) + 128; omega⟩
  rw [View.read_writes_apply_eq_canon _ _ _ _ (hm.imp fun p hp => ⟨List.mem_append_left L hp.1, hp.2⟩)]
  refine View.canon_append_of_pieces (newOut msk t q k v b o s) L _ (fun p hp => ?_) y hm
  obtain ⟨p, -, rfl⟩ := List.mem_map.mp hp
  exact newOut_cols _ _ _ _ _ _ _ _ p

/-- The heads of one step, written over anything, read back as the new sums. -/
theorem read_sum {κ : Kind} {sp : Space} (w : View sig κ sp S8x256x1 .f32) (f : w.ty.Contents (Elt F)) (msk : IVec S256x256 1)
    (t : FVec F S256x256 .bf16) (q k : Vec F S1x256x512 .f32) (b : Vec F S8x1x256 .f32)
    (s : Vec F S8x256x1 .f32) (P : List (Fin 8)) (hP : ∀ h, h ∈ P) (L : List (View.Piece (Elt F) S8x256x1 .f32)) :
    w.read (Elt F) (w.writes (Elt F) f (P.map (fun h => ⟨sums h, sumRow msk t q k b s h⟩) ++ L))
      = newSum msk t q k b s := by
  funext y
  have hm : ∃ p ∈ P.map (fun h => (⟨sums h, sumRow msk t q k b s h⟩ : View.Piece (Elt F) S8x256x1 .f32)), y ∈ p.1.set := by
    refine ⟨_, List.mem_map_of_mem (hP (y 0)), ?_⟩
    show y ∈ (sums _).set
    rw [Rect.mem_set_unit]
    intro a
    match a with
    | ⟨0, _⟩ => exact ⟨Nat.le_refl _, Nat.lt_succ_self _⟩
    | ⟨1, _⟩ => exact ⟨Nat.zero_le _, lt_of_lt_of_le (y 1).isLt (by show 256 ≤ 0 + 256; omega)⟩
    | ⟨2, _⟩ => exact ⟨Nat.zero_le _, (y 2).isLt⟩
  rw [View.read_writes_apply_eq_canon _ _ _ _ (hm.imp fun p hp => ⟨List.mem_append_left L hp.1, hp.2⟩)]
  refine View.canon_append_of_pieces (newSum msk t q k b s) L _ (fun p hp => ?_) y hm
  obtain ⟨h, -, rfl⟩ := List.mem_map.mp hp
  exact newSum_sums _ _ _ _ _ _ h

section
variable (c : Dev nD) (i : grid0.Coords) (arg3 : Memref sig .tc .vmem S1x256x512 .f32) (harg3 : arg3.IsWhole) (arg4 : Memref sig .tc .vmem S1x256x512 .f32) (harg4 : arg4.IsWhole) (arg5 : Memref sig .tc .vmem S1x256x512 .f32) (harg5 : arg5.IsWhole) (arg6 : Memref sig .tc .vmem S8x1x256 .f32) (harg6 : arg6.IsWhole) (arg7 : Memref sig .tc .vmem S256x256 .bf16) (harg7 : arg7.IsWhole) (arg8 : Memref sig .tc .vmem S1x256x512 .f32) (harg8 : arg8.IsWhole) (arg9 : Memref sig .tc .vmem S8x256x1 .f32) (harg9 : arg9.IsWhole) (hf : ¬First i) (hl : Live i)
    (q k v : Vec F S1x256x512 .f32) (b : Vec F S8x1x256 .f32) (u : Vec F S256x256 .bf16) (o : Vec F S1x256x512 .f32) (s : Vec F S8x256x1 .f32)

/-- The pieces of the run: the four tiles and the eight heads of one step. -/
theorem runLater_pieces :
    (runLater c i arg3 harg3 arg4 harg4 arg5 harg5 arg6 harg6 arg7 harg7 arg8 harg8 arg9 harg9 hf hl q k v b u o s).1
      = ([⟨cols 3, outTile (before i) (tri u) q k v b o s 3⟩, ⟨cols 2, outTile (before i) (tri u) q k v b o s 2⟩,
          ⟨cols 1, outTile (before i) (tri u) q k v b o s 1⟩, ⟨cols 0, outTile (before i) (tri u) q k v b o s 0⟩],
         [⟨sums 7, sumRow (before i) (tri u) q k b s 7⟩, ⟨sums 6, sumRow (before i) (tri u) q k b s 6⟩,
          ⟨sums 5, sumRow (before i) (tri u) q k b s 5⟩, ⟨sums 4, sumRow (before i) (tri u) q k b s 4⟩,
          ⟨sums 3, sumRow (before i) (tri u) q k b s 3⟩, ⟨sums 2, sumRow (before i) (tri u) q k b s 2⟩,
          ⟨sums 1, sumRow (before i) (tri u) q k b s 1⟩, ⟨sums 0, sumRow (before i) (tri u) q k b s 0⟩]) := by
  simp only [runLater]
  simp only [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19, runLater.sl.r_20, runLater.sl.r_21, runLater.sl.r_22, runLater.sl.r_23, runLater.sl.r_24, runLater.sl.r_25, runLater.sl.r_26, runLater.sl.r_27, runLater.sl.r_28, runLater.sl.r_29, runLater.sl.r_30, runLater.sl.r_31, runLater.sl.r_32, runLater.sl.r_33, runLater.sl.r_34, runLater.sl.r_35, runLater.sl.r_36, runLater.sl.r_37, runLater.sl.v100, runLater.sl.v160, runLater.sl.v204, runLater.sl.v222, runLater.sl.v264, runLater.sl.v308, runLater.sl.v326, runLater.sl.v368, runLater.sl.v412, runLater.sl.v430, readAt_whole]
  rfl

/-- The output block after the run: one step. -/
theorem runLater_out (f : arg8.view.ty.Contents (Elt F)) :
    arg8.view.read (Elt F) (arg8.view.writes (Elt F) f
        (runLater c i arg3 harg3 arg4 harg4 arg5 harg5 arg6 harg6 arg7 harg7 arg8 harg8 arg9 harg9 hf hl q k v b u o s).1.1)
      = newOut (before i) (tri u) q k v b o s := by
  rw [runLater_pieces]
  exact read_out _ _ _ _ _ _ _ _ _ _ [3, 2, 1, 0] (by decide) []

/-- The carried sums after the run: one step. -/
theorem runLater_sum (f : arg9.view.ty.Contents (Elt F)) :
    arg9.view.read (Elt F) (arg9.view.writes (Elt F) f
        (runLater c i arg3 harg3 arg4 harg4 arg5 harg5 arg6 harg6 arg7 harg7 arg8 harg8 arg9 harg9 hf hl q k v b u o s).1.2)
      = newSum (before i) (tri u) q k b s := by
  rw [runLater_pieces]
  exact read_sum _ _ _ _ _ _ _ _ [7, 6, 5, 4, 3, 2, 1, 0] (by decide) []

end
end Cert.KernelIdeal.Stick

end
-- ==== Proof.RunFirst.lean ====
/- The kernel body at the first point of a query block, run on whole buffers: what its stores
   leave in the output block and in the carried sums, as the pieces the run finds. -/
module

public import proofs.«01_k».proof.Proof.Points

@[expose] public section

set_option maxRecDepth 16384

noncomputable section

namespace Cert.KernelIdeal.Stick

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The pieces written into the output block (first) and into the carried sums (second), with the proof that the body
    runs to them whatever the output block and the sums held, the five inputs left as they were. -/
noncomputable def runFirst (c : Dev nD) (i : grid0.Coords) (arg3 : Memref sig .tc .vmem S1x256x512 .f32) (harg3 : arg3.IsWhole) (arg4 : Memref sig .tc .vmem S1x256x512 .f32) (harg4 : arg4.IsWhole) (arg5 : Memref sig .tc .vmem S1x256x512 .f32) (harg5 : arg5.IsWhole) (arg6 : Memref sig .tc .vmem S8x1x256 .f32) (harg6 : arg6.IsWhole) (arg7 : Memref sig .tc .vmem S256x256 .bf16) (harg7 : arg7.IsWhole) (arg8 : Memref sig .tc .vmem S1x256x512 .f32) (harg8 : arg8.IsWhole) (arg9 : Memref sig .tc .vmem S8x256x1 .f32) (harg9 : arg9.IsWhole) (hf : First i) (hl : Live i)
    (q k v : Vec F S1x256x512 .f32) (b : Vec F S8x1x256 .f32) (u : Vec F S256x256 .bf16) :
    { L : List (View.Piece (Elt F) S1x256x512 .f32) × List (View.Piece (Elt F) S8x256x1 .f32) //
      ∀ (E : Set ℕ) (K : PUnit → sProp 𝕄),
        iprop(owns (c : Thread nD τ) arg3 fullShare q ∗ owns (c : Thread nD τ) arg4 fullShare k ∗ owns (c : Thread nD τ) arg5 fullShare v ∗ owns (c : Thread nD τ) arg6 fullShare b ∗ owns (c : Thread nD τ) arg7 fullShare u ∗ (∃ d, owns (c : Thread nD τ) arg8 fullShare d) ∗ (∃ d, owns (c : Thread nD τ) arg9 fullShare d)
            ∗ (iprop(owns (c : Thread nD τ) arg3 fullShare q ∗ owns (c : Thread nD τ) arg4 fullShare k ∗ owns (c : Thread nD τ) arg5 fullShare v ∗ owns (c : Thread nD τ) arg6 fullShare b ∗ owns (c : Thread nD τ) arg7 fullShare u ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0_stick_breaking_prompt i arg3 harg3 arg4 harg4 arg5 harg5 arg6 harg6 arg7 harg7 arg8 harg8 arg9 harg9) K } := by
  refine ⟨⟨?_, ?_⟩, fun E K => ?run⟩
  case run =>
    simp only [cc0_stick_breaking_prompt_eq_skeleton]; unfold cc0_stick_breaking_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%fq, %hfq, Hq⟩, ⟨%fk, %hfk, Hk⟩, ⟨%fv, %hfv, Hv⟩, ⟨%fb, %hfb, Hb⟩, ⟨%fu, %hfu, Hu⟩, ⟨%o, %fo, %hfo, Ho⟩, ⟨%s, %fs, %hfs, Hs⟩, Hend⟩
    obtain rfl := harg3.eq_unread hfq; obtain rfl := harg4.eq_unread hfk; obtain rfl := harg5.eq_unread hfv; obtain rfl := harg6.eq_unread hfb; obtain rfl := harg7.eq_unread hfu;
    sl_exec (disch := first | sl_exact hf | sl_exact hl)
    sl_step
    iapply Hend
    isplitl [Hq]
    · iexists _; isplitr; · ipureintro; exact harg3.read_unread _
      iexact Hq
    isplitl [Hk]
    · iexists _; isplitr; · ipureintro; exact harg4.read_unread _
      iexact Hk
    isplitl [Hv]
    · iexists _; isplitr; · ipureintro; exact harg5.read_unread _
      iexact Hv
    isplitl [Hb]
    · iexists _; isplitr; · ipureintro; exact harg6.read_unread _
      iexact Hb
    isplitl [Hu]
    · iexists _; isplitr; · ipureintro; exact harg7.read_unread _
      iexact Hu
    isplitl [Ho]
    · iexists _; iexact Ho
    iexists _; iexact Hs

end Cert.KernelIdeal.Stick

end
-- ==== Proof.FirstRead.lean ====
/- What the run at the first point of a query block leaves: the output block and the sums of one step
   from zeros. -/
module

public import Idealize.ShloMosaic.Lib.Pipeline.ReadBack
public import proofs.«01_k».proof.Proof.LaterRead
public import proofs.«01_k».proof.Proof.RunFirst

@[expose] public section

set_option maxRecDepth 16384

noncomputable section

namespace Cert.KernelIdeal.Stick

open Cert.KernelIdeal Cert.KernelIdeal.Gen
open Idealize.ShloMosaic Idealize.ShloMosaic.TcCoe Idealize.ShloMosaic.Tactic

variable {F : FTy → Type} [FloatOps F]

/-- Loading a box of the sums after they were cleared reads the zeros there. -/
theorem load_sums {κ : Kind} {sp : Space} (w : View sig κ sp S8x256x1 .f32) (Z : Vec F S8x256x1 .f32) (r : Rect S8x256x1) :
    w.readCov (Val := Elt F) [⟨Rect.unit ![0, 0, 0] ![8, 256, 1] inb_S8x256x1_S8x256x1_0_0_0, Z⟩] r.toLoadRect = View.ld Z r :=
  View.readCov_fill w inb_S8x256x1_S8x256x1_0_0_0 Z [] r (by decide)

/-- Loading a box of the output block after it was cleared reads the zeros there. -/
theorem load_out {κ : Kind} {sp : Space} (w : View sig κ sp S1x256x512 .f32) (Z : Vec F S1x256x512 .f32) (r : Rect S1x256x512) :
    w.readCov (Val := Elt F) [⟨Rect.unit ![0, 0, 0] ![1, 256, 512] inb_S1x256x512_S1x256x512_0_0_0, Z⟩] r.toLoadRect = View.ld Z r :=
  View.readCov_fill w inb_S1x256x512_S1x256x512_0_0_0 Z [] r (by decide)

section
variable (c : Dev nD) (i : grid0.Coords) (arg3 : Memref sig .tc .vmem S1x256x512 .f32) (harg3 : arg3.IsWhole) (arg4 : Memref sig .tc .vmem S1x256x512 .f32) (harg4 : arg4.IsWhole) (arg5 : Memref sig .tc .vmem S1x256x512 .f32) (harg5 : arg5.IsWhole) (arg6 : Memref sig .tc .vmem S8x1x256 .f32) (harg6 : arg6.IsWhole) (arg7 : Memref sig .tc .vmem S256x256 .bf16) (harg7 : arg7.IsWhole) (arg8 : Memref sig .tc .vmem S1x256x512 .f32) (harg8 : arg8.IsWhole) (arg9 : Memref sig .tc .vmem S8x256x1 .f32) (harg9 : arg9.IsWhole) (hf : First i) (hl : Live i)
    (q k v : Vec F S1x256x512 .f32) (b : Vec F S8x1x256 .f32) (u : Vec F S256x256 .bf16)

/-- The pieces of the run: the four tiles and the eight heads of one step from zeros, over the clearing stores. -/
theorem runFirst_pieces :
    (runFirst c i arg3 harg3 arg4 harg4 arg5 harg5 arg6 harg6 arg7 harg7 arg8 harg8 arg9 harg9 hf hl q k v b u).1
      = ([⟨cols 3, outTile (before i) (tri u) q k v b k0_pay1 k0_pay2 3⟩, ⟨cols 2, outTile (before i) (tri u) q k v b k0_pay1 k0_pay2 2⟩,
          ⟨cols 1, outTile (before i) (tri u) q k v b k0_pay1 k0_pay2 1⟩, ⟨cols 0, outTile (before i) (tri u) q k v b k0_pay1 k0_pay2 0⟩, ⟨Rect.unit ![0, 0, 0] ![1, 256, 512] inb_S1x256x512_S1x256x512_0_0_0, k0_pay1⟩],
         [⟨sums 7, sumRow (before i) (tri u) q k b k0_pay2 7⟩, ⟨sums 6, sumRow (before i) (tri u) q k b k0_pay2 6⟩,
          ⟨sums 5, sumRow (before i) (tri u) q k b k0_pay2 5⟩, ⟨sums 4, sumRow (before i) (tri u) q k b k0_pay2 4⟩,
          ⟨sums 3, sumRow (before i) (tri u) q k b k0_pay2 3⟩, ⟨sums 2, sumRow (before i) (tri u) q k b k0_pay2 2⟩,
          ⟨sums 1, sumRow (before i) (tri u) q k b k0_pay2 1⟩, ⟨sums 0, sumRow (before i) (tri u) q k b k0_pay2 0⟩, ⟨Rect.unit ![0, 0, 0] ![8, 256, 1] inb_S8x256x1_S8x256x1_0_0_0, k0_pay2⟩]) := by
  simp only [runFirst]
  simp (disch := first | rfl | decide) only [View.readCov_skip, load_sums, load_out, runFirst.sl.v56, runFirst.sl.v118, runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.v100, runFirst.sl.v160, runFirst.sl.v204, runFirst.sl.v222, runFirst.sl.v264, runFirst.sl.v308, runFirst.sl.v326, runFirst.sl.v368, runFirst.sl.v412, runFirst.sl.v430, runFirst.sl.Hs_1, runFirst.sl.Hs_2, runFirst.sl.Hs_3, runFirst.sl.Hs_4, runFirst.sl.Hs_5, runFirst.sl.Hs_6, runFirst.sl.Hs_7, runFirst.sl.Hs_8, runFirst.sl.Ho_1, runFirst.sl.Ho_2, runFirst.sl.Ho_3, runFirst.sl.Ho_4, readAt_whole]
  rfl

/-- The output block after the run: one step from zeros. -/
theorem runFirst_out (f : arg8.view.ty.Contents (Elt F)) :
    arg8.view.read (Elt F) (arg8.view.writes (Elt F) f
        (runFirst c i arg3 harg3 arg4 harg4 arg5 harg5 arg6 harg6 arg7 harg7 arg8 harg8 arg9 harg9 hf hl q k v b u).1.1)
      = newOut (before i) (tri u) q k v b k0_pay1 k0_pay2 := by
  rw [runFirst_pieces]
  exact read_out _ _ _ _ _ _ _ _ _ _ [3, 2, 1, 0] (by decide) [_]

/-- The carried sums after the run: one step from zeros. -/
theorem runFirst_sum (f : arg9.view.ty.Contents (Elt F)) :
    arg9.view.read (Elt F) (arg9.view.writes (Elt F) f
        (runFirst c i arg3 harg3 arg4 harg4 arg5 harg5 arg6 harg6 arg7 harg7 arg8 harg8 arg9 harg9 hf hl q k v b u).1.2)
      = newSum (before i) (tri u) q k b k0_pay2 := by
  rw [runFirst_pieces]
  exact read_sum _ _ _ _ _ _ _ _ [7, 6, 5, 4, 3, 2, 1, 0] (by decide) [_]

end
end Cert.KernelIdeal.Stick

end
-- ==== Proof.RunIdle.lean ====
/- The kernel body at a point past the query block's last key block: it stores nothing. -/
module

public import proofs.«01_k».proof.Proof.Points

@[expose] public section

set_option maxRecDepth 16384

noncomputable section

namespace Cert.KernelIdeal.Stick

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body runs, every buffer left as it was. -/
theorem runIdle (c : Dev nD) (i : grid0.Coords) (arg3 : Memref sig .tc .vmem S1x256x512 .f32) (harg3 : arg3.IsWhole) (arg4 : Memref sig .tc .vmem S1x256x512 .f32) (harg4 : arg4.IsWhole) (arg5 : Memref sig .tc .vmem S1x256x512 .f32) (harg5 : arg5.IsWhole) (arg6 : Memref sig .tc .vmem S8x1x256 .f32) (harg6 : arg6.IsWhole) (arg7 : Memref sig .tc .vmem S256x256 .bf16) (harg7 : arg7.IsWhole) (arg8 : Memref sig .tc .vmem S1x256x512 .f32) (harg8 : arg8.IsWhole) (arg9 : Memref sig .tc .vmem S8x256x1 .f32) (harg9 : arg9.IsWhole) (hf : ¬First i) (hl : ¬Live i)
    (q k v : Vec F S1x256x512 .f32) (b : Vec F S8x1x256 .f32) (u : Vec F S256x256 .bf16) (o : Vec F S1x256x512 .f32) (s : Vec F S8x256x1 .f32)
    (E : Set ℕ) (K : PUnit → sProp 𝕄) :
    iprop(owns (c : Thread nD τ) arg3 fullShare q ∗ owns (c : Thread nD τ) arg4 fullShare k ∗ owns (c : Thread nD τ) arg5 fullShare v ∗ owns (c : Thread nD τ) arg6 fullShare b ∗ owns (c : Thread nD τ) arg7 fullShare u ∗ owns (c : Thread nD τ) arg8 fullShare o ∗ owns (c : Thread nD τ) arg9 fullShare s
        ∗ (iprop(owns (c : Thread nD τ) arg3 fullShare q ∗ owns (c : Thread nD τ) arg4 fullShare k ∗ owns (c : Thread nD τ) arg5 fullShare v ∗ owns (c : Thread nD τ) arg6 fullShare b ∗ owns (c : Thread nD τ) arg7 fullShare u ∗ owns (c : Thread nD τ) arg8 fullShare o ∗ owns (c : Thread nD τ) arg9 fullShare s) -∗ K ⟨⟩))
      ⊢ wp frame (wpE (defs₀ (F := F)) Variants.none c none) E (cc0_stick_breaking_prompt i arg3 harg3 arg4 harg4 arg5 harg5 arg6 harg6 arg7 harg7 arg8 harg8 arg9 harg9) K := by
  simp only [cc0_stick_breaking_prompt_eq_skeleton]; unfold cc0_stick_breaking_prompt_skel
  iintro ⟨Hq, Hk, Hv, Hb, Hu, Ho, Hs, Hend⟩
  sl_exec (disch := first | sl_exact hf | sl_exact hl)
  sl_step
  iapply Hend
  iframe Hq
  iframe Hk
  iframe Hv
  iframe Hb
  iframe Hu
  iframe Ho
  iexact Hs

end Cert.KernelIdeal.Stick

end
-- ==== Proof.Trajectory.lean ====
/- The whole run of the kernel: what the output block's buffer and the carried sums hold after each grid point, the proof
   that the body takes each point's state to the next, and the launch. -/
module

public import proofs.«01_k».proof.Proof.FirstRead
public import proofs.«01_k».proof.Proof.RunIdle
public import Idealize.ShloMosaic.Lib.Pipeline.TableIdle
public import Idealize.ShloMosaic.Lib.Claim

@[expose] public section

set_option maxRecDepth 16384

noncomputable section

namespace Cert.KernelIdeal.Stick

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- One live point's effect on the output block and the carried sums. -/
def next (c : Dev nD) (t : Fin cfg0.N) (p : Vec F S1x256x512 .f32 × Vec F S8x256x1 .f32) :
    Vec F S1x256x512 .f32 × Vec F S8x256x1 .f32 :=
  (newOut (before (grid0.coords t)) (tri (iblk m c 4 t)) (iblk m c 0 t) (iblk m c 1 t) (iblk m c 2 t) (iblk m c 3 t) p.1 p.2,
   newSum (before (grid0.coords t)) (tri (iblk m c 4 t)) (iblk m c 0 t) (iblk m c 1 t) (iblk m c 3 t) p.2)

/-- The output block and the carried sums after point `n`: a query block starts from zeros, adds a step at each of its
    live points, and stays as it is at the others. -/
def traj (c : Dev nD) : (n : ℕ) → n < cfg0.N → Vec F S1x256x512 .f32 × Vec F S8x256x1 .f32
  | 0, hn => next m c ⟨0, hn⟩ (k0_pay1, k0_pay2)
  | n + 1, hn =>
    if (n + 1) % 16 = 0 then next m c ⟨n + 1, hn⟩ (k0_pay1, k0_pay2)
    else if (n + 1) % 16 ≤ (n + 1) / 16 % 16 then next m c ⟨n + 1, hn⟩ (traj c n (Nat.lt_of_succ_lt hn))
    else traj c n (Nat.lt_of_succ_lt hn)

theorem traj_first (c : Dev nD) (t : Fin cfg0.N) (h : t.val % 16 = 0) :
    traj m c t.val t.isLt = next m c t (k0_pay1, k0_pay2) := by
  obtain ⟨n, hn⟩ := t
  cases n with
  | zero => rfl
  | succ n => exact if_pos h

theorem traj_later (c : Dev nD) (t : Fin cfg0.N) (h : ¬t.val % 16 = 0) (hl : t.val % 16 ≤ t.val / 16 % 16) :
    traj m c t.val t.isLt = next m c t (traj m c (t.val - 1) (Nat.lt_of_le_of_lt (Nat.sub_le _ _) t.isLt)) := by
  obtain ⟨n, hn⟩ := t
  cases n with
  | zero => exact absurd (Nat.zero_mod _) h
  | succ n => exact (if_neg h).trans (if_pos hl)

theorem traj_idle (c : Dev nD) (t : Fin cfg0.N) (h : ¬t.val % 16 = 0) (hl : ¬t.val % 16 ≤ t.val / 16 % 16) :
    traj m c t.val t.isLt = traj m c (t.val - 1) (Nat.lt_of_le_of_lt (Nat.sub_le _ _) t.isLt) := by
  obtain ⟨n, hn⟩ := t
  cases n with
  | zero => exact absurd (Nat.zero_mod _) h
  | succ n => exact (if_neg h).trans (if_neg hl)

/-! ## The proof data -/

/-- Before the first point the scratch holds anything; after point `n` the sums carried there. -/
def PhiS (c : Dev nD) : (n : ℕ) → n ≤ cfg0.N → sProp 𝕄
  | 0, _ => Pipeline.ΦA spec0 c
  | n + 1, hn => iprop(iprop(owns (c : Thread nD τ) mc fullShare (traj m c n hn).2) ∗ (∃ r, prngReg c r))

theorem PhiS_pos (c : Dev nD) (n : ℕ) (h : n ≤ cfg0.N) (hz : n ≠ 0) :
    PhiS m c n h = iprop(iprop(owns (c : Thread nD τ) mc fullShare (traj m c (n - 1) (by omega)).2) ∗ (∃ r, prngReg c r)) := by
  cases n with
  | zero => exact absurd rfl hz
  | succ n => rfl

/-- Whatever the invariant knows of the scratch may be forgotten. -/
theorem PhiS_forget (c : Dev nD) (n : ℕ) (h : n ≤ cfg0.N) :
    PhiS m c n h ⊢ iprop(iprop((∃ d, owns (c : Thread nD τ) mc fullShare d)) ∗ (∃ r, prngReg c r)) := by
  cases n with
  | zero => rw [← rest_eq]; exact Idealize.SL.BI.Entails.refl _
  | succ n =>
    rw [PhiS_pos m c _ h (Nat.succ_ne_zero n)]
    iintro ⟨Hs, Hg⟩
    isplitl [Hs]
    · iexists _; iexact Hs
    iexact Hg

/-- The pipeline's proof data: each input's buffer at its block, the output's at the block so far, the carried sums in the
    invariant, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (traj m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_b (c : Dev nD) (t : Fin cfg0.N) : (dats m 0 c).after 3 t = iblk m c 3 t := by dsimp only [dats]
theorem after_u (c : Dev nD) (t : Fin cfg0.N) : (dats m 0 c).after 4 t = iblk m c 4 t := by dsimp only [dats]
theorem after_o (c : Dev nD) (t : Fin cfg0.N) : (dats m 0 c).after 5 t = (traj m c t.val t.isLt).1 := by dsimp only [dats]

theorem before_q (c : Dev nD) (t : Fin cfg0.N) (d) : (dats m 0 c).before 0 t d = iblk m c 0 t :=
  before0_0_of m (dats m 0 c) (A_eq m c 0) (after_q m c) t d
theorem before_k (c : Dev nD) (t : Fin cfg0.N) (d) : (dats m 0 c).before 1 t d = iblk m c 1 t :=
  before0_1_of m (dats m 0 c) (A_eq m c 1) (after_k m c) t d
theorem before_v (c : Dev nD) (t : Fin cfg0.N) (d) : (dats m 0 c).before 2 t d = iblk m c 2 t :=
  before0_2_of m (dats m 0 c) (A_eq m c 2) (after_v m c) t d
theorem before_b (c : Dev nD) (t : Fin cfg0.N) (d) : (dats m 0 c).before 3 t d = iblk m c 3 t :=
  before0_3_of m (dats m 0 c) (A_eq m c 3) (after_b m c) t d
theorem before_u (c : Dev nD) (t : Fin cfg0.N) (d) : (dats m 0 c).before 4 t d = iblk m c 4 t :=
  before0_4_of m (dats m 0 c) (A_eq m c 4) (after_u m c) t d

/-! ## The output's buffer between points -/

/-- Where the body stores nothing into the output block the point is not a query block's first. -/
theorem not_first_of_idle (t : Fin cfg0.N) (h : cfg0.idle 5 (grid0.coords t) = true) :
    ¬t.val % 16 = 0 ∧ ¬t.val % 16 ≤ t.val / 16 % 16 := by
  have h' : (!(k0_cond1 (grid0.coords t) == 1#1) && !(k0_cond2 (grid0.coords t) == 1#1)) = true := h
  simp only [Bool.and_eq_true, Bool.not_eq_true', beq_eq_false_iff_ne, ne_eq] at h'
  exact ⟨fun e => h'.1 ((first_iff t).2 e), fun e => h'.2 ((live_iff t).2 e)⟩

/-- The output's buffer holds nothing of the kernel's only at a query block's first point. -/
theorem first_of_fresh : ∀ n, n ≤ cfg0.N → cfg0.fresh 5 n = true → n % 16 = 0
  | 0, _, _ => rfl
  | n + 1, hn, h => by
    rw [Cfg.fresh_succ cfg0 5 n hn, Bool.or_eq_true, Bool.and_eq_true] at h
    rcases h with h | ⟨hi, hf⟩
    · have := (flush0_5 ⟨n, hn⟩).1 h
      simp only at this; omega
    · exact absurd (first_of_fresh n (Nat.le_of_lt hn) hf) (not_first_of_idle ⟨n, hn⟩ hi).1

/-- Past a query block's first point the output's buffer holds what the point before left. -/
theorem before_o (c : Dev nD) (t : Fin cfg0.N) (h : ¬t.val % 16 = 0) (d) :
    (dats m 0 c).before 5 t d = (traj m c (t.val - 1) (Nat.lt_of_le_of_lt (Nat.sub_le _ _) t.isLt)).1 := by
  have hf : cfg0.fresh 5 t.val = false := by
    cases hc : cfg0.fresh 5 t.val
    · rfl
    · exact absurd (first_of_fresh t.val (Nat.le_of_lt t.isLt) hc) h
  rw [(dats m 0 c).before_out_traj 5 rfl (fun _ _ => rfl) (fun t hz hi _ => by
    have hn := not_first_of_idle t hi
    rw [after_o, after_o, traj_idle m c t hn.1 hn.2]) t.val t rfl d, hf, after_o]
  rfl

/-- The output's buffer at the block so far is what the point is to leave there. -/
theorem leaves_o (c : Dev nD) (t : Fin cfg0.N) :
    owns (c : Thread nD τ) (mo t) fullShare (traj m c t.val t.isLt).1 ⊢ ((dats m 0 c).leavesExact 5 t : sProp 𝕄) := by
  unfold Dat.leavesExact
  cases hi : cfg0.idle 5 (cfg0.grid.coords t)
  · simp only [after_o]; exact Idealize.SL.BI.Entails.refl _
  · cases hf : (cfg0.win 5).flush t
    · have hn := not_first_of_idle t hi
      simp only [before_o m c t hn.1, ← traj_idle m c t hn.1 hn.2]
      iintro H
      iexists (fun _ => Classical.arbitrary _)
      iexact H
    · simp only [after_o]; exact Idealize.SL.BI.Entails.refl _

theorem leaves_q (c : Dev nD) (t : Fin cfg0.N) : (dats m 0 c).leavesExact 0 t = owns (c : Thread nD τ) (mq t) fullShare (iblk m c 0 t) := by
  unfold Dat.leavesExact; rw [show cfg0.idle 0 (cfg0.grid.coords t) = false from rfl, after_q]
theorem leaves_k (c : Dev nD) (t : Fin cfg0.N) : (dats m 0 c).leavesExact 1 t = owns (c : Thread nD τ) (mk t) fullShare (iblk m c 1 t) := by
  unfold Dat.leavesExact; rw [show cfg0.idle 1 (cfg0.grid.coords t) = false from rfl, after_k]
theorem leaves_v (c : Dev nD) (t : Fin cfg0.N) : (dats m 0 c).leavesExact 2 t = owns (c : Thread nD τ) (mv t) fullShare (iblk m c 2 t) := by
  unfold Dat.leavesExact; rw [show cfg0.idle 2 (cfg0.grid.coords t) = false from rfl, after_v]
theorem leaves_b (c : Dev nD) (t : Fin cfg0.N) : (dats m 0 c).leavesExact 3 t = owns (c : Thread nD τ) (mb t) fullShare (iblk m c 3 t) := by
  unfold Dat.leavesExact; rw [show cfg0.idle 3 (cfg0.grid.coords t) = false from rfl, after_b]
theorem leaves_u (c : Dev nD) (t : Fin cfg0.N) : (dats m 0 c).leavesExact 4 t = owns (c : Thread nD τ) (mu t) fullShare (iblk m c 4 t) := by
  unfold Dat.leavesExact; rw [show cfg0.idle 4 (cfg0.grid.coords t) = false from rfl, after_u]

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (mq t) fullShare ((dats m 0 c).before 0 t d))
    ∗ (∃ d, owns (c : Thread nD τ) (mk t) fullShare ((dats m 0 c).before 1 t d))
    ∗ (∃ d, owns (c : Thread nD τ) (mv t) fullShare ((dats m 0 c).before 2 t d))
    ∗ (∃ d, owns (c : Thread nD τ) (mb t) fullShare ((dats m 0 c).before 3 t d))
    ∗ (∃ d, owns (c : Thread nD τ) (mu t) fullShare ((dats m 0 c).before 4 t d))
    ∗ (∃ d, owns (c : Thread nD τ) (mo t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 1600000 in
/-- The body at any point: a query block's first point starts from zeros, a live one steps from what the point before
    left, the others leave everything. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k, before_v, before_b, before_u, leaves_q, leaves_k, leaves_v, leaves_b, leaves_u]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), Phi_castSucc]
  rw [show (traj m c (t.val + 1 - 1) _).2 = (traj m c t.val t.isLt).2 from rfl]
  by_cases h0 : t.val % 16 = 0
  · have hf : First (grid0.coords t) := (first_iff t).2 h0
    have hl : Live (grid0.coords t) := live_of_first t hf
    iintro ⟨HP, Hw, ⟨%d0, Hq⟩, ⟨%d1, Hk⟩, ⟨%d2, Hv⟩, ⟨%d3, Hb⟩, ⟨%d4, Hu⟩, ⟨%d5, Ho⟩⟩
    ihave HP := (PhiS_forget m c _ _) $$ HP
    icases HP with ⟨Hs, Hg⟩
    iapply ((runFirst c (grid0.coords t) (mq t) (hq t) (mk t) (hk t) (mv t) (hv t) (mb t) (hb t) (mu t) (hu t) (mo t) (ho t) mc (Memref.isWhole_whole _) hf hl (iblk m c 0 t) (iblk m c 1 t) (iblk m c 2 t) (iblk m c 3 t) (iblk m c 4 t)).2 Set.univ _)
    isplitl [Hq]; · iexact Hq
    isplitl [Hk]; · iexact Hk
    isplitl [Hv]; · iexact Hv
    isplitl [Hb]; · iexact Hb
    isplitl [Hu]; · iexact Hu
    isplitl [Ho]; · iexists _; iexact Ho
    isplitl [Hs]; · iexact Hs
    iintro ⟨Hq, Hk, Hv, Hb, Hu, ⟨%fo, Ho⟩, ⟨%fs, Hs⟩⟩
    isplitl [Hs Hg]
    · isplitl [Hs]
      · unfold owns; iexists _; isplitr
        swap; · iexact Hs
        ipureintro
        rw [traj_first m c t h0]; exact runFirst_sum c _ _ _ _ _ _ _ _ _ _ _ _ _ _ _ _ _ _ _ _ _ _ _
      iexact Hg
    isplitl [Hw]; · iexact Hw
    isplitl [Hq]; · iexact Hq
    isplitl [Hk]; · iexact Hk
    isplitl [Hv]; · iexact Hv
    isplitl [Hb]; · iexact Hb
    isplitl [Hu]; · iexact Hu
    iapply (leaves_o m c t)
    unfold owns; iexists _; isplitr
    swap; · iexact Ho
    ipureintro
    rw [traj_first m c t h0]; exact runFirst_out c _ _ _ _ _ _ _ _ _ _ _ _ _ _ _ _ _ _ _ _ _ _ _
  · have hf : ¬First (grid0.coords t) := fun h => h0 ((first_iff t).1 h)
    have hz : t.val ≠ 0 := fun h => h0 (by rw [h])
    rw [PhiS_pos m c _ _ hz]
    simp only [before_o m c t h0]
    by_cases h1 : t.val % 16 ≤ t.val / 16 % 16
    · have hl : Live (grid0.coords t) := (live_iff t).2 h1
      iintro ⟨⟨Hs, Hg⟩, Hw, ⟨%d0, Hq⟩, ⟨%d1, Hk⟩, ⟨%d2, Hv⟩, ⟨%d3, Hb⟩, ⟨%d4, Hu⟩, ⟨%d5, Ho⟩⟩
      iapply ((runLater c (grid0.coords t) (mq t) (hq t) (mk t) (hk t) (mv t) (hv t) (mb t) (hb t) (mu t) (hu t) (mo t) (ho t) mc (Memref.isWhole_whole _) hf hl (iblk m c 0 t) (iblk m c 1 t) (iblk m c 2 t) (iblk m c 3 t) (iblk m c 4 t) _ _).2 Set.univ _)
      isplitl [Hq]; · iexact Hq
      isplitl [Hk]; · iexact Hk
      isplitl [Hv]; · iexact Hv
      isplitl [Hb]; · iexact Hb
      isplitl [Hu]; · iexact Hu
      isplitl [Ho]; · iexact Ho
      isplitl [Hs]; · iexact Hs
      iintro ⟨Hq, Hk, Hv, Hb, Hu, ⟨%fo, Ho⟩, ⟨%fs, Hs⟩⟩
      isplitl [Hs Hg]
      · isplitl [Hs]
        · unfold owns; iexists _; isplitr
          swap; · iexact Hs
          ipureintro
          rw [traj_later m c t h0 h1]; exact runLater_sum c _ _ _ _ _ _ _ _ _ _ _ _ _ _ _ _ _ _ _ _ _ _ _ _ _
        iexact Hg
      isplitl [Hw]; · iexact Hw
      isplitl [Hq]; · iexact Hq
      isplitl [Hk]; · iexact Hk
      isplitl [Hv]; · iexact Hv
      isplitl [Hb]; · iexact Hb
      isplitl [Hu]; · iexact Hu
      iapply (leaves_o m c t)
      unfold owns; iexists _; isplitr
      swap; · iexact Ho
      ipureintro
      rw [traj_later m c t h0 h1]; exact runLater_out c _ _ _ _ _ _ _ _ _ _ _ _ _ _ _ _ _ _ _ _ _ _ _ _ _
    · have hl : ¬Live (grid0.coords t) := fun h => h1 ((live_iff t).1 h)
      iintro ⟨⟨Hs, Hg⟩, Hw, ⟨%d0, Hq⟩, ⟨%d1, Hk⟩, ⟨%d2, Hv⟩, ⟨%d3, Hb⟩, ⟨%d4, Hu⟩, ⟨%d5, Ho⟩⟩
      iapply (runIdle c (grid0.coords t) (mq t) (hq t) (mk t) (hk t) (mv t) (hv t) (mb t) (hb t) (mu t) (hu t) (mo t) (ho t) mc (Memref.isWhole_whole _) hf hl (iblk m c 0 t) (iblk m c 1 t) (iblk m c 2 t) (iblk m c 3 t) (iblk m c 4 t) _ _ Set.univ _)
      isplitl [Hq]; · iexact Hq
      isplitl [Hk]; · iexact Hk
      isplitl [Hv]; · iexact Hv
      isplitl [Hb]; · iexact Hb
      isplitl [Hu]; · iexact Hu
      isplitl [Ho]; · iexact Ho
      isplitl [Hs]; · iexact Hs
      iintro ⟨Hq, Hk, Hv, Hb, Hu, Ho, Hs⟩
      rw [← traj_idle m c t h0 h1]
      isplitl [Hs Hg]
      · isplitl [Hs]
        · iexact Hs
        iexact Hg
      isplitl [Hw]; · iexact Hw
      isplitl [Hq]; · iexact Hq
      isplitl [Hk]; · iexact Hk
      isplitl [Hv]; · iexact Hv
      isplitl [Hb]; · iexact Hb
      isplitl [Hu]; · iexact Hu
      iapply (leaves_o m c t)
      iexact Ho

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

theorem launch_in (c : Dev nD) : Pipeline.ΦA spec0 c ⊢ (dats m 0 c).Φ 0 := by
  rw [show (dats m 0 c).Φ 0 = PhiS m c 0 (Nat.zero_le _) from rfl]
  exact Idealize.SL.BI.Entails.refl _

theorem launch_out (c : Dev nD) : (dats m 0 c).Φ (Fin.last cfg0.N) ⊢ Pipeline.ΦA spec0 c := by
  rw [show (dats m 0 c).Φ (Fin.last cfg0.N) = PhiS m c cfg0.N (Nat.le_refl _) from rfl, rest_eq]
  exact PhiS_forget m c _ _

-- the launch theorem's implicit arguments are found by unfolding plain definitions in a metavariable's type
set_option backward.isDefEq.respectTransparency.types false in
/-- From any memory with zero counters every fair execution ends, at the proof data's arrays and with the counters zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := launch_in m) (hout := launch_out m)

/-- The arguments end as they began and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The result's buffer ends at the output array after the last point. -/
theorem run_result : θ_run defs (onTc (τ := τ) (main (F := F))) ⟨m, fun _ => 0, ρ⟩ (fun r => ∀ c : Dev nD,
      r.2.mem ((c.tc : Thread nD τ).loc main_v9) = (dats m 0 c).arrAt 5 cfg0.N) :=
  (θ_run defs _ _).mono (fun _ h c => (h.1 c).1 5) (run_main m ρ)

end Cert.KernelIdeal.Stick

end
-- ==== Proof.KernelFrame.lean ====
/- The kernel as printed is the idealized one's text at machine floats: its body, its launch and its host operations are
   the same, so its run is the idealized kernel's. -/
module

public import proofs.«01_k».proof.Defs
public import proofs.«01_k».proof.Proof.Gen.Kernel
public import proofs.«01_k».proof.Proof.Trajectory

@[expose] public section

set_option maxRecDepth 8000

noncomputable section

namespace Cert.Kernel

open Idealize.ShloMosaic Idealize.SL.Sem

/-- The bodies are one. -/
theorem body_eq (i : KernelIdeal.grid0.Coords) (q k v o : Memref KernelIdeal.sig .tc .vmem KernelIdeal.S1x256x512 .f32)
    (b : Memref KernelIdeal.sig .tc .vmem KernelIdeal.S8x1x256 .f32) (u : Memref KernelIdeal.sig .tc .vmem KernelIdeal.S256x256 .bf16)
    (s : Memref KernelIdeal.sig .tc .vmem KernelIdeal.S8x256x1 .f32)
    (hq : q.IsWhole) (hk : k.IsWhole) (hv : v.IsWhole) (hb : b.IsWhole) (hu : u.IsWhole) (ho : o.IsWhole) (hs : s.IsWhole) :
    cc0_stick_breaking_prompt (F := Bits) i q hq k hk v hv b hb u hu o ho s hs
      = KernelIdeal.cc0_stick_breaking_prompt (F := Bits) i q hq k hk v hv b hb u hu o ho s hs := by
  unfold cc0_stick_breaking_prompt KernelIdeal.cc0_stick_breaking_prompt
  rfl

/-- So are the definitions a launch calls. -/
theorem defs_eq : defs (F := Bits) = KernelIdeal.defs (F := Bits) := by
  refine congrArg (Pipeline.defs KernelIdeal.pcfgs) ?_
  unfold defs₀ KernelIdeal.defs₀
  refine congrArg Defs.onTc (funext fun l => funext fun x => ?_)
  match l, x with
  | 0, (t, s) => exact body_eq _ _ _ _ _ _ _ _ _ _ _ _ _ _ _

/-- The kernel's frame. -/
theorem frame (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact KernelIdeal.Stick.frame (F := Bits) m g

end Cert.Kernel

end
-- ==== Proof.Stick.lean ====
/- Stick-breaking attention for one query, as mathematics: the row `z` of its logits against the 4096 keys, what a key
   takes of the stick (`log (1 + exp z)` in logarithms), the sums of these over the keys from a position on, the weights.
   The sums and the weighted values are split at blocks of 256 keys. -/
module

public import Idealize.ShloMosaic.Lib.Pointwise

@[expose] public section

noncomputable section

namespace Cert.Stick

open Idealize.ShloMosaic

/-! ## `log (1 + exp z)` -/

/-- `log (1 + exp z)`, in the form that does not overflow. -/
def softplus (z : ℝ) : ℝ := max z 0 + Real.log (1 + Real.exp (-|z|))

/-- The two signs of the argument differ by the argument: the larger of `z` and 0, less the larger of `−z` and 0, is `z`. -/
theorem softplus_neg (z : ℝ) : softplus (-z) = softplus z - z := by
  unfold softplus
  rw [abs_neg]
  rcases le_total z 0 with h | h
  · rw [max_eq_left (by linarith : (0 : ℝ) ≤ -z), max_eq_right h]; ring
  · rw [max_eq_right (by linarith : -z ≤ 0), max_eq_left h]; ring

/-- Extended-real absolute value of a number. -/
theorem abs_coe (z : ℝ) : max (z : EReal) (-(z : EReal)) = ((|z| : ℝ) : EReal) := by
  rw [← EReal.coe_neg]
  rcases le_total z 0 with h | h
  · rw [abs_of_nonpos h, max_eq_right (EReal.coe_le_coe_iff.2 (by linarith))]
  · rw [abs_of_nonneg h, max_eq_left (EReal.coe_le_coe_iff.2 (by linarith))]

theorem max_zero_coe (z : ℝ) : max (z : EReal) 0 = ((max z 0 : ℝ) : EReal) := by
  rcases le_total z 0 with h | h
  · rw [max_eq_right h, max_eq_right (by exact_mod_cast h), EReal.coe_zero]
  · rw [max_eq_left h, max_eq_left (by exact_mod_cast h)]

theorem log1p_exp_coe (z : ℝ) : Ideal.log1p (Ideal.exp (z : EReal)) = ((Real.log (1 + Real.exp z) : ℝ) : EReal) := by
  have h := Real.exp_pos z
  rw [Ideal.exp_coe, Ideal.log1p, ← EReal.coe_one, ← EReal.coe_add, Ideal.log_coe, if_neg (by linarith)]

/-- The operations' value at a number is `softplus`. -/
theorem softplus_coe (z : ℝ) :
    max (z : EReal) 0 + Ideal.log1p (Ideal.exp (-(max (z : EReal) (-(z : EReal))))) = ((softplus z : ℝ) : EReal) := by
  rw [abs_coe, max_zero_coe, ← EReal.coe_neg, log1p_exp_coe, ← EReal.coe_add]; rfl

/-! ## Sums from a position on -/

/-- The sum of `f` over the positions from `n` on. -/
def tail {M : Type} [AddCommMonoid M] (f : Fin 4096 → M) (n : ℕ) : M := ∑ K : Fin 4096, if n ≤ K.val then f K else 0

theorem tail_zero {M : Type} [AddCommMonoid M] (f : Fin 4096 → M) : tail f 0 = ∑ K, f K := by
  unfold tail; exact Finset.sum_congr rfl fun K _ => if_pos (Nat.zero_le _)

/-- A tail in which every term is zero. -/
theorem tail_eq_zero {M : Type} [AddCommMonoid M] (f : Fin 4096 → M) (n : ℕ) (h : ∀ K : Fin 4096, n ≤ K.val → f K = 0) :
    tail f n = 0 := by
  unfold tail
  refine Finset.sum_eq_zero fun K _ => ?_
  split
  · exact h K ‹_›
  · rfl

/-- The positions of a block of 256 that lie from `n + t` on: the sum over the block's places from `t` on. -/
theorem block_sum {M : Type} [AddCommMonoid M] (f : Fin 4096 → M) (n t : ℕ) (hn : n + 256 ≤ 4096) :
    (∑ K : Fin 4096, if n + t ≤ K.val ∧ K.val < n + 256 then f K else 0)
      = ∑ s : Fin 256, if t ≤ s.val then f ⟨n + s.val, by omega⟩ else 0 := by
  rw [← Finset.sum_filter, ← Finset.sum_filter]
  symm
  refine Finset.sum_bij (fun s _ => ⟨n + s.val, by omega⟩) ?_ ?_ ?_ ?_
  · intro s hs
    have := (Finset.mem_filter.1 hs).2
    exact Finset.mem_filter.2 ⟨Finset.mem_univ _, by show n + t ≤ n + s.val ∧ n + s.val < n + 256; omega⟩
  · intro a _ b _ h
    have : n + a.val = n + b.val := congrArg Fin.val h
    exact Fin.ext (by omega)
  · intro K hK
    have := (Finset.mem_filter.1 hK).2
    exact ⟨⟨K.val - n, by omega⟩, Finset.mem_filter.2 ⟨Finset.mem_univ _, by show t ≤ K.val - n; omega⟩,
      Fin.ext (by show n + (K.val - n) = K.val; omega)⟩
  · intro _ _; rfl

/-- A tail that starts inside a block: the rest of the block, then the later blocks. -/
theorem tail_block {M : Type} [AddCommMonoid M] (f : Fin 4096 → M) (n t : ℕ) (hn : n + 256 ≤ 4096) (ht : t ≤ 256) :
    tail f (n + t) = tail f (n + 256) + ∑ s : Fin 256, if t ≤ s.val then f ⟨n + s.val, by omega⟩ else 0 := by
  rw [← block_sum f n t hn]
  unfold tail
  rw [← Finset.sum_add_distrib]
  refine Finset.sum_congr rfl fun K _ => ?_
  by_cases h1 : n + 256 ≤ K.val
  · rw [if_pos (by omega), if_pos h1, if_neg (by omega), add_zero]
  · by_cases h2 : n + t ≤ K.val
    · rw [if_pos h2, if_neg h1, if_pos (by omega), zero_add]
    · rw [if_neg h2, if_neg h1, if_neg (by omega), add_zero]

/-- A tail less its first term. -/
theorem tail_succ (f : Fin 4096 → ℝ) (K : Fin 4096) : tail f K.val - f K = tail f (K.val + 1) := by
  rw [sub_eq_iff_eq_add]
  unfold tail
  have e : f K = ∑ K' : Fin 4096, if K' = K then f K' else 0 := by rw [Finset.sum_ite_eq' Finset.univ K f]; simp
  conv_rhs => rw [e]
  rw [← Finset.sum_add_distrib]
  refine Finset.sum_congr rfl fun K' _ => ?_
  by_cases h : K' = K
  · subst h; simp
  · have h' : K'.val ≠ K.val := fun e => h (Fin.ext e)
    rw [if_neg h, add_zero]
    exact if_congr (by omega) rfl rfl

/-- A sum of numbers, in the extended reals. -/
theorem coe_sum {ι : Type} (s : Finset ι) (f : ι → ℝ) : ((∑ x ∈ s, f x : ℝ) : EReal) = ∑ x ∈ s, ((f x : ℝ) : EReal) := by
  classical
  induction s using Finset.induction_on with
  | empty => simp
  | insert a s ha ih => rw [Finset.sum_insert ha, Finset.sum_insert ha, EReal.coe_add, ih]

/-! ## The weights -/

/-- What key `K` takes of the stick, in logarithms: nothing from the query's position on. -/
def take (z : Fin 4096 → ℝ) (Q : ℕ) (K : Fin 4096) : ℝ := if K.val < Q then softplus (z K) else 0

theorem take_later (z : Fin 4096 → ℝ) {Q n : ℕ} (h : Q ≤ n) : tail (take z Q) n = 0 :=
  tail_eq_zero _ _ fun K hK => if_neg (by omega)

/-- The weight of key `K`: its own fraction of what the later keys have left. -/
def weight (z : Fin 4096 → ℝ) (Q : ℕ) (K : Fin 4096) : ℝ :=
  if K.val < Q then Real.exp (z K - softplus (z K) - tail (take z Q) (K.val + 1)) else 0

/-- The values of the keys from `n` on, weighted. -/
def taken (z : Fin 4096 → ℝ) (Q : ℕ) (v : Fin 4096 → EReal) (n : ℕ) : EReal :=
  tail (fun K => ((weight z Q K : ℝ) : EReal) * v K) n

theorem taken_later (z : Fin 4096 → ℝ) {Q n : ℕ} (v : Fin 4096 → EReal) (h : Q ≤ n) : taken z Q v n = 0 :=
  tail_eq_zero _ _ fun K hK => by rw [weight, if_neg (by omega), EReal.coe_zero, zero_mul]

end Cert.Stick

end
-- ==== Proof.StepValue.lean ====
/- One head's step over a block of keys, in numbers: where row `r` of the logits is the row `z` of numbers at keys `n …
   n + 255`, the triangle is the strict one and the carried sum is what the later keys take, the share of the output is the
   block's weighted values and the new carried sum is what the keys from `n` on take. -/
module

public import proofs.«01_k».proof.Proof.Step
public import proofs.«01_k».proof.Proof.Stick

@[expose] public section

noncomputable section

namespace Cert.KernelIdeal.Stick

open Cert.KernelIdeal Cert.KernelIdeal.Gen Cert.Stick
open Idealize.ShloMosaic

/-! ## The operations of a step at an index -/

theorem logits_at (half : IVec S256x128 1) (q k : Vec Ideal S1x256x128 .f32) (b : Vec Ideal S1x1x256 .f32) (r s : Fin 256) :
    logits half q k b (ix2 r s)
      = (∑ x : Fin 128, Scalar.select (half (ix2 r x)) (q (ix3 0 r x) * Ideal.ofBits FTy.f32 0x3E000000#32 * k (ix3 0 s x)) 0)
        + b (ix3 0 0 s) := by
  pointwise [logits]

theorem spent_at (msk : IVec S256x256 1) (z : FVec Ideal S256x256 .f32) (r s : Fin 256) :
    spent msk z (ix2 r s)
      = Scalar.select (msk (ix2 r s))
          (max (z (ix2 r s)) 0 + Ideal.log1p (Ideal.exp (0 - FloatOps.absf (z (ix2 r s))))) 0 := by
  pointwise [spent]

theorem later_at (u : FVec Ideal S256x256 .bf16) (sp : FVec Ideal S256x256 .f32) (r s : Fin 256) :
    later u sp (ix2 r s)
      = (∑ x : Fin 256, sp (ix2 r x) * u (ix2 x s)) + ∑ x : Fin 256, (sp (ix2 r x) - sp (ix2 r x)) * u (ix2 x s) := by
  pointwise [later]

theorem weights_at (msk : IVec S256x256 1) (z sp aft : FVec Ideal S256x256 .f32) (c : Vec Ideal S1x256x1 .f32) (r s : Fin 256) :
    weights msk z sp aft c (ix2 r s)
      = Scalar.select (msk (ix2 r s))
          (Ideal.exp (z (ix2 r s) - sp (ix2 r s) - aft (ix2 r s) - c (ix3 0 r 0))) 0 := by
  pointwise [weights]

theorem share_at (msk : IVec S256x256 1) (u : FVec Ideal S256x256 .bf16) (z : FVec Ideal S256x256 .f32)
    (v : Vec Ideal S1x256x128 .f32) (c : Vec Ideal S1x256x1 .f32) (r : Fin 256) (l : Fin 128) :
    share msk u z v c (ix2 r l)
      = ∑ x : Fin 256, weights msk z (spent msk z) (later u (spent msk z)) c (ix2 r x) * v (ix3 0 x l) := by
  pointwise [share]

theorem carried_at (msk : IVec S256x256 1) (u : FVec Ideal S256x256 .bf16) (z : FVec Ideal S256x256 .f32)
    (c : Vec Ideal S1x256x1 .f32) (r : Fin 256) :
    carried msk u z c (ix3 0 r 0) = c (ix3 0 r 0) + later u (spent msk z) (ix2 r 0) + spent msk z (ix2 r 0) := by
  pointwise [carried]

theorem tile_at (msk : IVec S256x256 1) (u : FVec Ideal S256x256 .bf16) (z₀ z₁ : FVec Ideal S256x256 .f32)
    (v : Vec Ideal S1x256x128 .f32) (c₀ c₁ : Vec Ideal S1x256x1 .f32) (o : Vec Ideal S1x256x128 .f32) (r : Fin 256)
    (l : Fin 128) :
    tile msk u z₀ z₁ v c₀ c₁ o (ix3 0 r l)
      = o (ix3 0 r l) + Scalar.select (lowHalf (ix2 r l)) (share msk u z₀ v c₀ (ix2 r l)) (share msk u z₁ v c₁ (ix2 r l)) := by
  pointwise [tile]

/-! ## A row of a block -/

/-- Row `r` of a block of keys starting at key `n`, for the query at position `Q`: its logits are the numbers `z`, the mask
    keeps the keys before the query, and the triangle's column `s` selects the later places. -/
structure Row (msk : IVec S256x256 1) (u : FVec Ideal S256x256 .bf16) (zb : FVec Ideal S256x256 .f32) (r : Fin 256)
    (z : Fin 4096 → ℝ) (Q n : ℕ) (hn : n + 256 ≤ 4096) : Prop where
  logit : ∀ s : Fin 256, zb (ix2 r s) = ((z ⟨n + s.val, by omega⟩ : ℝ) : EReal)
  mask : ∀ s : Fin 256, msk (ix2 r s) = BitVec.ofBool (decide (n + s.val < Q))
  tri : ∀ x s : Fin 256, u (ix2 x s) = if s.val < x.val then 1 else 0

theorem select_ofBool {α : Type} (p : Prop) [Decidable p] (a b : α) :
    Scalar.select (BitVec.ofBool (decide p)) a b = if p then a else b := by
  unfold Scalar.select
  by_cases h : p <;> simp [h]

section
variable {msk : IVec S256x256 1} {u : FVec Ideal S256x256 .bf16} {zb : FVec Ideal S256x256 .f32} {r : Fin 256}
  {z : Fin 4096 → ℝ} {Q n : ℕ} {hn : n + 256 ≤ 4096}

/-- What the block's keys take. -/
theorem Row.spent (R : Row msk u zb r z Q n hn) (s : Fin 256) :
    spent msk zb (ix2 r s) = ((take z Q ⟨n + s.val, by omega⟩ : ℝ) : EReal) := by
  rw [spent_at, R.mask, select_ofBool, R.logit, Ideal.absf_def, zero_sub, softplus_coe]
  unfold take
  split <;> rfl

/-- What the later keys of the block take: the rounding's remainder adds nothing. -/
theorem Row.later (R : Row msk u zb r z Q n hn) (s : Fin 256) :
    later u (Stick.spent msk zb) (ix2 r s)
      = ((∑ x : Fin 256, if s.val < x.val then take z Q ⟨n + x.val, by omega⟩ else 0 : ℝ) : EReal) := by
  rw [later_at]
  have h0 : (∑ x : Fin 256, (Stick.spent msk zb (ix2 r x) - Stick.spent msk zb (ix2 r x)) * u (ix2 x s)) = 0 :=
    Finset.sum_eq_zero fun x _ => by
      rw [R.spent, ← EReal.coe_sub, sub_self, EReal.coe_zero, zero_mul]
  rw [h0, add_zero, coe_sum]
  refine Finset.sum_congr rfl fun x _ => ?_
  rw [R.spent, R.tri]
  split
  · rw [mul_one]
  · rw [mul_zero, EReal.coe_zero]

/-- The weights of the block's keys. -/
theorem Row.weights (R : Row msk u zb r z Q n hn) {c : Vec Ideal S1x256x1 .f32}
    (hc : c (ix3 0 r 0) = ((tail (take z Q) (n + 256) : ℝ) : EReal)) (s : Fin 256) :
    weights msk zb (Stick.spent msk zb) (Stick.later u (Stick.spent msk zb)) c (ix2 r s)
      = ((weight z Q ⟨n + s.val, by omega⟩ : ℝ) : EReal) := by
  rw [weights_at, R.mask, select_ofBool, R.logit, R.spent, R.later, hc, ← EReal.coe_sub, ← EReal.coe_sub, ← EReal.coe_sub,
    Ideal.exp_coe]
  unfold weight
  by_cases h : n + s.val < Q
  · rw [if_pos h, if_pos h]
    congr 2
    have e := tail_block (take z Q) n (s.val + 1) hn (by omega)
    rw [show (⟨n + s.val, by omega⟩ : Fin 4096).val + 1 = n + (s.val + 1) from rfl, e]
    have t : take z Q ⟨n + s.val, by omega⟩ = softplus (z ⟨n + s.val, by omega⟩) := if_pos h
    rw [t, sub_sub _ (∑ x, _) _, add_comm (∑ x, _)]
    rfl
  · rw [if_neg h, if_neg h, EReal.coe_zero]

/-- The head's share of the output: the block's values, weighted. -/
theorem Row.share (R : Row msk u zb r z Q n hn) {c : Vec Ideal S1x256x1 .f32}
    (hc : c (ix3 0 r 0) = ((tail (take z Q) (n + 256) : ℝ) : EReal)) (v : Vec Ideal S1x256x128 .f32) (l : Fin 128)
    (vf : Fin 4096 → EReal) (hv : ∀ s : Fin 256, v (ix3 0 s l) = vf ⟨n + s.val, by omega⟩) :
    taken z Q vf (n + 256) + share msk u zb v c (ix2 r l) = taken z Q vf n := by
  have e := tail_block (fun K => ((weight z Q K : ℝ) : EReal) * vf K) n 0 hn (by omega)
  rw [Nat.add_zero] at e
  unfold taken
  rw [e, share_at]
  congr 1
  refine Finset.sum_congr rfl fun s _ => ?_
  rw [R.weights hc, hv, if_pos (Nat.zero_le _)]

/-- The new carried sum: what the keys from the block's first on take. -/
theorem Row.carried (R : Row msk u zb r z Q n hn) {c : Vec Ideal S1x256x1 .f32}
    (hc : c (ix3 0 r 0) = ((tail (take z Q) (n + 256) : ℝ) : EReal)) :
    carried msk u zb c (ix3 0 r 0) = ((tail (take z Q) n : ℝ) : EReal) := by
  have e0 := tail_block (take z Q) n 1 hn (by omega)
  have e1 := tail_succ (take z Q) ⟨n, by omega⟩
  have e2 : (∑ x : Fin 256, if (0 : Fin 256).val < x.val then take z Q ⟨n + x.val, by omega⟩ else 0)
      = ∑ x : Fin 256, if 1 ≤ x.val then take z Q ⟨n + x.val, by omega⟩ else 0 := rfl
  have e3 : take z Q ⟨n + (0 : Fin 256).val, by omega⟩ = take z Q ⟨n, by omega⟩ := rfl
  rw [carried_at, hc, R.later, R.spent, ← EReal.coe_add, ← EReal.coe_add, e2, e3, ← e0]
  congr 1
  rw [← e1]; ring

end

end Cert.KernelIdeal.Stick

end
-- ==== Proof.HeadValue.lean ====
/- The step over the whole block, head by head: a head's logits are the products of its 64 columns of the query and key
   blocks, and its columns of the output and its carried sums change as the one-head step says. The mask and the
   triangle in positions. -/
module

public import proofs.«01_k».proof.Proof.StepValue

@[expose] public section

noncomputable section

namespace Cert.KernelIdeal.Stick

open Cert.KernelIdeal Cert.KernelIdeal.Gen Cert.Stick
open Idealize.ShloMosaic

/-- Column `d` of head `h`. -/
abbrev lane (h : Fin 8) (d : Fin 64) : Fin 512 := ⟨64 * h.val + d.val, by omega⟩

/-- A signed comparison of two words that are small as naturals. -/
theorem slt_small (a b : BitVec 32) (m n : ℕ) (ha : a.toNat = m) (hb : b.toNat = n) (hm : m < 2 ^ 31) (hn : n < 2 ^ 31) :
    IntOp.cmpi .slt a b = BitVec.ofBool (decide (m < n)) := by
  show BitVec.ofBool (a.slt b) = _
  rw [BitVec.slt_eq_decide, BitVec.toInt_eq_toNat_of_lt (by omega), BitVec.toInt_eq_toNat_of_lt (by omega), ha, hb]
  simp only [Nat.cast_lt]

/-- The first half of a tile's columns, and the second. -/
theorem lowHalf_at (r : Fin 256) (x : Fin 128) : lowHalf (ix2 r x) = BitVec.ofBool (decide (x.val < 64)) := by
  unfold lowHalf k0_pay4
  pointwise
  exact slt_small _ _ _ _ (by rw [BitVec.toNat_ofNat]; omega) rfl (by omega) (by omega)

theorem highHalf_at (r : Fin 256) (x : Fin 128) : highHalf (ix2 r x) = BitVec.ofBool (decide (64 ≤ x.val)) := by
  show IntOp.xori (lowHalf (ix2 r x)) 1#1 = _
  rw [lowHalf_at]
  by_cases h : x.val < 64
  · rw [decide_eq_true h, decide_eq_false (by omega)]; rfl
  · rw [decide_eq_false h, decide_eq_true (by omega)]; rfl

/-- A block's number times 256 plus a place in it, as a word. -/
theorem place_toNat (w : BitVec 32) (n s : ℕ) (hw : w.toNat = n) (hn : n < 16) (hs : s < 256) :
    (IntOp.addi (Scalar.muli w 256#32) (BitVec.ofNat 32 s)).toNat = 256 * n + s := by
  show (w * 256#32 + BitVec.ofNat 32 s).toNat = _
  rw [BitVec.toNat_add, BitVec.toNat_mul, BitVec.toNat_ofNat, hw]
  show (n * 256 % 4294967296 + s % 4294967296) % 4294967296 = _
  omega

/-- The keys strictly before the query, at block `i` of queries and block `i − j` of keys. -/
theorem before_at (i : grid0.Coords) (h : (i 2).val ≤ (i 1).val) (r s : Fin 256) :
    before i (ix2 r s) = BitVec.ofBool (decide (256 * ((i 1).val - (i 2).val) + s.val < 256 * (i 1).val + r.val)) := by
  have h1 : (i 1).val < 16 := (i 1).isLt
  have w1 : (BitVec.ofNat 32 (i 1).val).toNat = (i 1).val := by rw [BitVec.toNat_ofNat]; omega
  have w2 : (Scalar.subi (BitVec.ofNat 32 (i 1).val) (BitVec.ofNat 32 (i 2).val)).toNat = (i 1).val - (i 2).val := by
    show (BitVec.ofNat 32 (i 1).val - BitVec.ofNat 32 (i 2).val).toNat = _
    rw [BitVec.toNat_sub, BitVec.toNat_ofNat, BitVec.toNat_ofNat]
    omega
  unfold before k0_pay3
  pointwise
  exact slt_small _ _ _ _ (place_toNat _ _ _ w2 (by omega) s.isLt) (place_toNat _ _ _ w1 h1 r.isLt) (by omega) (by omega)

theorem tri_at (u : Vec Ideal S256x256 .bf16) (x s : Fin 256) : tri u (ix2 x s) = u (ix2 x s) := by
  unfold tri k0_pay5
  pointwise

/-- A sum over a tile's columns is the sums over its two halves. -/
theorem sum_halves (f : Fin 128 → EReal) :
    ∑ x : Fin 128, f x = (∑ d : Fin 64, f ⟨d.val, by omega⟩) + ∑ d : Fin 64, f ⟨64 + d.val, by omega⟩ :=
  Fin.sum_univ_add (a := 64) (b := 64) f

/-- A column's place in its head's tile. -/
abbrev place (h : Fin 8) (d : Fin 64) : Fin 128 := ⟨64 * (h.val % 2) + d.val, by omega⟩

/-- A tile of a block, at a head's column. -/
theorem ld_cols (q : Vec Ideal S1x256x512 .f32) (h : Fin 8) (r : Fin 256) (d : Fin 64) :
    View.ld q (cols (tileOf h)) (ix3 0 r (place h d)) = q (ix3 0 r (lane h d)) := by
  pointwise
  congr 2
  exact Fin.ext (by show 128 * (h.val / 2) + (64 * (h.val % 2) + d.val) = 64 * h.val + d.val; omega)

/-- A sum over a head's half of its tile. -/
theorem sum_half (h : Fin 8) (r : Fin 256) (f : Fin 128 → EReal) :
    (∑ x : Fin 128, Scalar.select (halfOf h (ix2 r x)) (f x) 0) = ∑ d : Fin 64, f (place h d) := by
  rw [sum_halves]
  unfold halfOf
  by_cases e : h.val % 2 = 0
  · simp only [if_pos e, lowHalf_at, select_ofBool]
    rw [Finset.sum_eq_zero (s := Finset.univ) (f := fun d : Fin 64 => if 64 + d.val < 64 then _ else 0)
      (fun d _ => if_neg (by omega)), add_zero]
    refine Finset.sum_congr rfl fun d _ => ?_
    rw [if_pos d.isLt]
    exact congrArg f (Fin.ext (by show d.val = 64 * (h.val % 2) + d.val; omega))
  · simp only [if_neg e, highHalf_at, select_ofBool]
    rw [Finset.sum_eq_zero (s := Finset.univ) (f := fun d : Fin 64 => if 64 ≤ d.val then _ else 0)
      (fun d _ => if_neg (by omega)), zero_add]
    refine Finset.sum_congr rfl fun d _ => ?_
    rw [if_pos (by omega)]
    exact congrArg f (Fin.ext (by show 64 + d.val = 64 * (h.val % 2) + d.val; omega))

/-- A head's logits. -/
theorem headLogits_at (q k : Vec Ideal S1x256x512 .f32) (b : Vec Ideal S8x1x256 .f32) (h : Fin 8) (r s : Fin 256) :
    headLogits q k b h (ix2 r s)
      = (∑ d : Fin 64, q (ix3 0 r (lane h d)) * Ideal.ofBits FTy.f32 0x3E000000#32 * k (ix3 0 s (lane h d)))
        + b (ix3 h 0 s) := by
  unfold headLogits
  rw [logits_at, sum_half h r fun x => View.ld q (cols (tileOf h)) (ix3 0 r x) * Ideal.ofBits FTy.f32 0x3E000000#32
    * View.ld k (cols (tileOf h)) (ix3 0 s x)]
  congr 1
  · exact Finset.sum_congr rfl fun d _ => by rw [ld_cols, ld_cols]
  · pointwise

/-- A head's columns of the new output block. -/
theorem newOut_at (msk : IVec S256x256 1) (u : FVec Ideal S256x256 .bf16) (q k v : Vec Ideal S1x256x512 .f32)
    (b : Vec Ideal S8x1x256 .f32) (o : Vec Ideal S1x256x512 .f32) (s : Vec Ideal S8x256x1 .f32) (h : Fin 8) (r : Fin 256)
    (d : Fin 64) :
    newOut msk u q k v b o s (ix3 0 r (lane h d))
      = o (ix3 0 r (lane h d))
        + share msk u (headLogits q k b h) (View.ld v (cols (tileOf h))) (View.ld s (sums h)) (ix2 r (place h d)) := by
  have e : newOut msk u q k v b o s (ix3 0 r (lane h d)) = outTile msk u q k v b o s (tileOf h) (ix3 0 r (place h d)) := by
    unfold newOut
    congr 1
    · exact Fin.ext (by show (64 * h.val + d.val) / 128 = h.val / 2; omega)
    · congr 1
      exact Fin.ext (by show (64 * h.val + d.val) % 128 = 64 * (h.val % 2) + d.val; omega)
  rw [e]
  unfold outTile
  rw [tile_at, ld_cols, lowHalf_at, select_ofBool]
  by_cases c : h.val % 2 = 0
  · have e0 : head₀ (tileOf h) = h := Fin.ext (by show 2 * (h.val / 2) = h.val; omega)
    rw [if_pos (by show 64 * (h.val % 2) + d.val < 64; omega), e0]
  · have e1 : head₁ (tileOf h) = h := Fin.ext (by show 2 * (h.val / 2) + 1 = h.val; omega)
    rw [if_neg (by show ¬ 64 * (h.val % 2) + d.val < 64; omega), e1]

/-- A head's new carried sums. -/
theorem newSum_at (msk : IVec S256x256 1) (u : FVec Ideal S256x256 .bf16) (q k : Vec Ideal S1x256x512 .f32)
    (b : Vec Ideal S8x1x256 .f32) (s : Vec Ideal S8x256x1 .f32) (h : Fin 8) (r : Fin 256) :
    newSum msk u q k b s (ix3 h r 0) = carried msk u (headLogits q k b h) (View.ld s (sums h)) (ix3 0 r 0) := rfl

theorem ld_sums (s : Vec Ideal S8x256x1 .f32) (h : Fin 8) (r : Fin 256) :
    View.ld s (sums h) (ix3 0 r 0) = s (ix3 h r 0) := by
  pointwise

end Cert.KernelIdeal.Stick

end
-- ==== Proof.Blocks.lean ====
/- What each grid point's blocks hold, as entries of the arguments: the query block's rows, the key and value blocks' rows
   `j` blocks before them, the heads' offsets, the strict triangle of ones. -/
module

public import Idealize.ShloMosaic.Lib.Pipeline.ValueKit
public import Idealize.ShloMosaic.Lib.Pipeline.Covers
public import proofs.«01_k».proof.Proof.HeadValue
public import proofs.«01_k».proof.Proof.Trajectory

@[expose] public section

noncomputable section

namespace Cert.KernelIdeal.Stick

open Cert.KernelIdeal Cert.KernelIdeal.Gen Cert.Stick
open Idealize.ShloMosaic Idealize.ShloMosaic.TcCoe

variable (m : (ℓ : Loc nD τ sig) → Buf (Elt Ideal) ℓ)

theorem small_word (n : ℕ) (h : n < 4294967296) : (BitVec.ofNat 32 n).toNat = n := by
  rw [BitVec.toNat_ofNat]; exact Nat.mod_eq_of_lt h

/-- The place of each window's block, block by block. -/
theorem at_q (t : Fin cfg0.N) : (cfg0.win 0).index t = ![t.val / 256 % 8, t.val / 16 % 16, 4] := by
  show cc0_transform_0 (grid0.coords t) = _
  unfold cc0_transform_0
  rw [coord0, coord1]
  funext a
  match a with
  | ⟨0, _⟩ => exact small_word _ (by omega)
  | ⟨1, _⟩ => exact small_word _ (by omega)
  | ⟨2, _⟩ => rfl

/-- The block of keys a live point reads, as a word. -/
theorem back_toNat (i j : ℕ) (h : j ≤ i) (hi : i < 16) :
    (Scalar.maxsi (Scalar.subi (BitVec.ofNat 32 i) (BitVec.ofNat 32 j)) 0#32).toNat = i - j := by
  revert h; revert j; interval_cases i <;> (intro j h; interval_cases j <;> rfl)

theorem at_k (t : Fin cfg0.N) (h : t.val % 16 ≤ t.val / 16 % 16) :
    (cfg0.win 1).index t = ![t.val / 256 % 8, t.val / 16 % 16 - t.val % 16, 5] := by
  show cc0_transform_1 (grid0.coords t) = _
  unfold cc0_transform_1
  rw [coord0, coord1, coord2]
  funext a
  match a with
  | ⟨0, _⟩ => exact small_word _ (by omega)
  | ⟨1, _⟩ => exact back_toNat _ _ h (by omega)
  | ⟨2, _⟩ => rfl

theorem at_v (t : Fin cfg0.N) (h : t.val % 16 ≤ t.val / 16 % 16) :
    (cfg0.win 2).index t = ![t.val / 256 % 8, t.val / 16 % 16 - t.val % 16, 6] := by
  show cc0_transform_2 (grid0.coords t) = _
  unfold cc0_transform_2
  rw [coord0, coord1, coord2]
  funext a
  match a with
  | ⟨0, _⟩ => exact small_word _ (by omega)
  | ⟨1, _⟩ => exact back_toNat _ _ h (by omega)
  | ⟨2, _⟩ => rfl

theorem at_b (t : Fin cfg0.N) : (cfg0.win 3).index t = ![0, 0, 0] := rfl
theorem at_u (t : Fin cfg0.N) : (cfg0.win 4).index t = ![0, 0] := rfl

theorem at_o (t : Fin cfg0.N) : (cfg0.win 5).index t = ![t.val / 256 % 8, t.val / 16 % 16, 0] := by
  show cc0_transform_5 (grid0.coords t) = _
  unfold cc0_transform_5
  rw [coord0, coord1]
  funext a
  match a with
  | ⟨0, _⟩ => exact small_word _ (by omega)
  | ⟨1, _⟩ => exact small_word _ (by omega)
  | ⟨2, _⟩ => rfl

theorem q_at (c : Dev nD) (t : Fin cfg0.N) (b : Fin 8) (i : Fin 16) (hb : t.val / 256 % 8 = b.val) (hi : t.val / 16 % 16 = i.val)
    (r : Fin 256) (l : Fin 512) :
    iblk m c 0 t (ix3 0 r l)
      = m ((c : Thread nD τ).loc main_arg0) (ix3 b ⟨256 * i.val + r.val, by omega⟩ ⟨2048 + l.val, by omega⟩) := by
  have e := at_q t
  rw [hb, hi] at e
  blk_ext [iblk, V, e]

theorem k_at (c : Dev nD) (t : Fin cfg0.N) (b : Fin 8) (n : Fin 16) (hb : t.val / 256 % 8 = b.val)
    (h : t.val % 16 ≤ t.val / 16 % 16) (hn : t.val / 16 % 16 - t.val % 16 = n.val) (s : Fin 256) (l : Fin 512) :
    iblk m c 1 t (ix3 0 s l)
      = m ((c : Thread nD τ).loc main_arg0) (ix3 b ⟨256 * n.val + s.val, by omega⟩ ⟨2560 + l.val, by omega⟩) := by
  have e := at_k t h
  rw [hb, hn] at e
  blk_ext [iblk, V, e]

theorem v_at (c : Dev nD) (t : Fin cfg0.N) (b : Fin 8) (n : Fin 16) (hb : t.val / 256 % 8 = b.val)
    (h : t.val % 16 ≤ t.val / 16 % 16) (hn : t.val / 16 % 16 - t.val % 16 = n.val) (s : Fin 256) (l : Fin 512) :
    iblk m c 2 t (ix3 0 s l)
      = m ((c : Thread nD τ).loc main_arg0) (ix3 b ⟨256 * n.val + s.val, by omega⟩ ⟨3072 + l.val, by omega⟩) := by
  have e := at_v t h
  rw [hb, hn] at e
  blk_ext [iblk, V, e]

/-- The heads' offsets as the host lays them out. -/
theorem V_offs (c : Dev nD) (h : Fin 8) (s : Fin 256) :
    V m c main_v8 (ix3 h 0 s) = m ((c : Thread nD τ).loc main_arg1) (ix1 h) := by
  entry_read
  pointwise

theorem b_at (c : Dev nD) (t : Fin cfg0.N) (h : Fin 8) (s : Fin 256) :
    iblk m c 3 t (ix3 h 0 s) = m ((c : Thread nD τ).loc main_arg1) (ix1 h) := by
  rw [← V_offs m c h s]
  have e := at_b t
  blk_ext [iblk, e]

/-- The triangle as the host makes it. -/
theorem V_tri (c : Dev nD) (x s : Fin 256) : V m c main_v6 (ix2 x s) = if s.val < x.val then (1 : EReal) else 0 := by
  entry_read
  pointwise
  have e : IntOp.cmpi CmpIPredicate.sgt (BitVec.ofNat 32 x.val) (BitVec.ofNat 32 s.val) = BitVec.ofBool (decide (s.val < x.val)) :=
    slt_small _ _ _ _ (small_word _ (by omega)) (small_word _ (by omega)) (by omega) (by omega)
  rw [e]
  by_cases h : s.val < x.val
  · rw [if_pos h, decide_eq_true h]
    simp [FloatOps.uitofp]
  · rw [if_neg h, decide_eq_false h]
    simp [FloatOps.uitofp]

theorem u_at (c : Dev nD) (t : Fin cfg0.N) (x s : Fin 256) :
    iblk m c 4 t (ix2 x s) = if s.val < x.val then (1 : EReal) else 0 := by
  rw [← V_tri m c x s]
  have e := at_u t
  blk_ext [iblk, e]

end Cert.KernelIdeal.Stick

end
-- ==== Proof.Problem.lean ====
/- The attention as mathematics of the two arguments: the projection `X` (batch, position, column) holds the queries in
   columns 2048…2559, the keys in 2560…3071 and the values in 3072…3583, head by head; `B` is the heads' offsets. -/
module

public import proofs.«01_k».proof.Proof.Stick

@[expose] public section

noncomputable section

namespace Cert.Stick

open Idealize.ShloMosaic

variable (X : Fin 8 → Fin 4096 → Fin 3584 → EReal) (B : Fin 8 → EReal)

/-- Column `d` of head `h` among the queries, the keys, the values. -/
abbrev qcol (h : Fin 8) (d : Fin 64) : Fin 3584 := ⟨2048 + (64 * h.val + d.val), by omega⟩
abbrev kcol (h : Fin 8) (d : Fin 64) : Fin 3584 := ⟨2560 + (64 * h.val + d.val), by omega⟩
abbrev vcol (h : Fin 8) (d : Fin 64) : Fin 3584 := ⟨3072 + (64 * h.val + d.val), by omega⟩

/-- The queries, the keys and the offsets are numbers. -/
structure Finite : Prop where
  proj : ∀ (b : Fin 8) (s : Fin 4096) (l : Fin 3584), 2048 ≤ l.val → l.val < 3072 → X b s l ≠ ⊤ ∧ X b s l ≠ ⊥
  offs : ∀ h : Fin 8, B h ≠ ⊤ ∧ B h ≠ ⊥

/-- The logit of query `Q` and key `K` in head `h`. -/
def logit (b h : Fin 8) (Q K : Fin 4096) : ℝ :=
  (∑ d : Fin 64, (X b Q (qcol h d)).toReal * (X b K (kcol h d)).toReal) * (1 / 8) + (B h).toReal

/-- The attention's output at query `Q`, column `d` of head `h`. -/
def attention (b : Fin 8) (Q : Fin 4096) (h : Fin 8) (d : Fin 64) : EReal :=
  taken (logit X B b h Q) Q.val (fun K => X b K (vcol h d)) 0

/-- The scale's word denotes one eighth. -/
theorem scale_word : Ideal.ofBits FTy.f32 0x3E000000#32 = ((1 / 8 : ℝ) : EReal) := by
  simp [Ideal.ofBits, Ideal.ieee, -EReal.coe_mul]; norm_num

variable {X B}

theorem Finite.q (f : Finite X B) (b h : Fin 8) (Q : Fin 4096) (d : Fin 64) :
    X b Q (qcol h d) = (((X b Q (qcol h d)).toReal : ℝ) : EReal) :=
  have e := f.proj b Q (qcol h d) (by show 2048 ≤ 2048 + _; omega) (by show 2048 + (64 * h.val + d.val) < 3072; omega)
  (EReal.coe_toReal e.1 e.2).symm

theorem Finite.k (f : Finite X B) (b h : Fin 8) (K : Fin 4096) (d : Fin 64) :
    X b K (kcol h d) = (((X b K (kcol h d)).toReal : ℝ) : EReal) :=
  have e := f.proj b K (kcol h d) (by show 2048 ≤ 2560 + _; omega) (by show 2560 + (64 * h.val + d.val) < 3072; omega)
  (EReal.coe_toReal e.1 e.2).symm

theorem Finite.b (f : Finite X B) (h : Fin 8) : B h = (((B h).toReal : ℝ) : EReal) :=
  (EReal.coe_toReal (f.offs h).1 (f.offs h).2).symm

/-- The logit with the scale on each product's first factor. -/
theorem logit_scaled (f : Finite X B) (b h : Fin 8) (Q K : Fin 4096) :
    (∑ d : Fin 64, X b Q (qcol h d) * Ideal.ofBits FTy.f32 0x3E000000#32 * X b K (kcol h d)) + B h
      = ((logit X B b h Q K : ℝ) : EReal) := by
  rw [f.b h, scale_word]
  have e : ∀ d : Fin 64, X b Q (qcol h d) * ((1 / 8 : ℝ) : EReal) * X b K (kcol h d)
      = (((X b Q (qcol h d)).toReal * (1 / 8) * (X b K (kcol h d)).toReal : ℝ) : EReal) := fun d => by
    rw [EReal.coe_mul, EReal.coe_mul, ← f.q b h Q d, ← f.k b h K d]
  rw [Finset.sum_congr rfl fun d _ => e d, ← coe_sum, ← EReal.coe_add]
  congr 1
  unfold logit
  rw [Finset.sum_mul]
  congr 1
  exact Finset.sum_congr rfl fun d _ => by ring

/-- The logit with the scale on the sum. -/
theorem logit_summed (f : Finite X B) (b h : Fin 8) (Q K : Fin 4096) :
    (∑ d : Fin 64, X b Q (qcol h d) * X b K (kcol h d)) * Ideal.ofBits FTy.f32 0x3E000000#32 + B h
      = ((logit X B b h Q K : ℝ) : EReal) := by
  rw [f.b h, scale_word]
  have e : ∀ d : Fin 64, X b Q (qcol h d) * X b K (kcol h d)
      = (((X b Q (qcol h d)).toReal * (X b K (kcol h d)).toReal : ℝ) : EReal) := fun d => by
    rw [EReal.coe_mul, ← f.q b h Q d, ← f.k b h K d]
  rw [Finset.sum_congr rfl fun d _ => e d, ← coe_sum, ← EReal.coe_mul, ← EReal.coe_add]
  rfl

end Cert.Stick

end
-- ==== Proof.Fold.lean ====
/- What the kernel's buffers hold after each point, and the array after the run: after `j` steps back from query block `i`
   the output block holds the weighted values of the keys from block `i − j` on and the carried sums what those keys take;
   after the last step the output block is the attention's, and the blocks are the array. -/
module

public import proofs.«01_k».proof.Proof.Blocks
public import proofs.«01_k».proof.Proof.Problem

@[expose] public section

noncomputable section

namespace Cert.KernelIdeal.Stick

open Cert.KernelIdeal Cert.KernelIdeal.Gen Cert.Stick
open Idealize.ShloMosaic Idealize.ShloMosaic.TcCoe

variable (m : (ℓ : Loc nD τ sig) → Buf (Elt Ideal) ℓ)

/-- The arguments, by position. -/
def proj (c : Dev nD) (b : Fin 8) (s : Fin 4096) (l : Fin 3584) : EReal := m ((c : Thread nD τ).loc main_arg0) (ix3 b s l)
def bias (c : Dev nD) (h : Fin 8) : EReal := m ((c : Thread nD τ).loc main_arg1) (ix1 h)

/-- A query block's position in the sequence. -/
abbrev qpos (i : Fin 16) (r : Fin 256) : Fin 4096 := ⟨256 * i.val + r.val, by omega⟩

/-- The buffers hold the weighted values of the keys from `n` on and what these keys take, for the queries of block `i`. -/
structure Holds (c : Dev nD) (b : Fin 8) (i : Fin 16) (n : ℕ) (p : Vec Ideal S1x256x512 .f32 × Vec Ideal S8x256x1 .f32) :
    Prop where
  out : ∀ (h : Fin 8) (r : Fin 256) (d : Fin 64), p.1 (ix3 0 r (lane h d))
    = taken (logit (proj m c) (bias m c) b h (qpos i r)) (qpos i r).val (fun K => proj m c b K (vcol h d)) n
  sum : ∀ (h : Fin 8) (r : Fin 256), p.2 (ix3 h r 0)
    = ((tail (take (logit (proj m c) (bias m c) b h (qpos i r)) (qpos i r).val) n : ℝ) : EReal)

variable {m}

/-- Zeros are what the keys past the query block give. -/
theorem holds_zero (c : Dev nD) (b : Fin 8) (i : Fin 16) {n : ℕ} (hn : 256 * i.val + 256 ≤ n) :
    Holds m c b i n (k0_pay1 (F := Ideal), k0_pay2 (F := Ideal)) where
  out h r d := by
    rw [taken_later _ _ (by show 256 * i.val + r.val ≤ n; omega)]
    show k0_pay1 (F := Ideal) (ix3 0 r (lane h d)) = 0
    unfold k0_pay1
    pointwise
  sum h r := by
    rw [take_later _ (by show 256 * i.val + r.val ≤ n; omega), EReal.coe_zero]
    show k0_pay2 (F := Ideal) (ix3 h r 0) = 0
    unfold k0_pay2
    pointwise

/-- A live point adds its block. -/
theorem holds_next (c : Dev nD) (f : Finite (proj m c) (bias m c)) (t : Fin cfg0.N) (b : Fin 8) (i n : Fin 16)
    (hb : t.val / 256 % 8 = b.val) (hi : t.val / 16 % 16 = i.val) (hl : t.val % 16 ≤ t.val / 16 % 16)
    (hn : t.val / 16 % 16 - t.val % 16 = n.val) (p : Vec Ideal S1x256x512 .f32 × Vec Ideal S8x256x1 .f32)
    (H : Holds m c b i (256 * n.val + 256) p) : Holds m c b i (256 * n.val) (next m c t p) := by
  have row (h : Fin 8) (r : Fin 256) :
      Row (before (grid0.coords t)) (tri (iblk m c 4 t)) (headLogits (iblk m c 0 t) (iblk m c 1 t) (iblk m c 3 t) h) r
        (logit (proj m c) (bias m c) b h (qpos i r)) (qpos i r).val (256 * n.val) (by omega) := by
    refine ⟨fun s => ?_, fun s => ?_, fun x s => ?_⟩
    · rw [headLogits_at, ← logit_scaled f, b_at]
      unfold proj bias
      congr 1
      refine Finset.sum_congr rfl fun d _ => ?_
      rw [q_at m c t b i hb hi, k_at m c t b n hb hl hn]
    · have e1 := coord1 t
      have e2 := coord2 t
      rw [before_at _ (by rw [e1, e2]; exact hl), e1, e2, hn, hi]
    · rw [tri_at, u_at]
  have car (h : Fin 8) (r : Fin 256) : View.ld p.2 (sums h) (ix3 0 r 0)
      = ((tail (take (logit (proj m c) (bias m c) b h (qpos i r)) (qpos i r).val) (256 * n.val + 256) : ℝ) : EReal) := by
    rw [ld_sums, H.sum]
  refine ⟨fun h r d => ?_, fun h r => ?_⟩
  · show newOut _ _ _ _ _ _ _ _ (ix3 0 r (lane h d)) = _
    rw [newOut_at, H.out]
    refine (row h r).share (car h r) _ _ (fun K => proj m c b K (vcol h d)) fun s => ?_
    rw [ld_cols, v_at m c t b n hb hl hn]
    rfl
  · show newSum _ _ _ _ _ _ (ix3 h r 0) = _
    rw [newSum_at]
    exact (row h r).carried (car h r)

/-- After each point. -/
theorem holds_traj (c : Dev nD) (f : Finite (proj m c) (bias m c)) (b : Fin 8) (i : Fin 16) :
    ∀ (k : ℕ) (hk : k < cfg0.N), k / 256 % 8 = b.val → k / 16 % 16 = i.val →
      Holds m c b i (256 * (k / 16 % 16 - k % 16)) (traj m c k hk) := by
  intro k
  induction k with
  | zero =>
    intro hk hb hi
    have e := traj_first m c ⟨0, hk⟩ rfl
    rw [show traj m c 0 hk = _ from e]
    exact holds_next c f ⟨0, hk⟩ b i ⟨0 / 16 % 16 - 0 % 16, by omega⟩ hb hi (Nat.zero_le _) rfl _
      (holds_zero c b i (by rw [← hi]))
  | succ k ih =>
    intro hk hb hi
    by_cases h0 : (k + 1) % 16 = 0
    · rw [show traj m c (k + 1) hk = _ from traj_first m c ⟨k + 1, hk⟩ h0]
      have := holds_next c f ⟨k + 1, hk⟩ b i ⟨(k + 1) / 16 % 16 - (k + 1) % 16, by omega⟩ hb hi
        (by show (k + 1) % 16 ≤ (k + 1) / 16 % 16; omega) rfl _ (holds_zero c b i (by show _ ≤ 256 * ((k + 1) / 16 % 16 - (k + 1) % 16) + 256; omega))
      exact this
    · by_cases hl : (k + 1) % 16 ≤ (k + 1) / 16 % 16
      · rw [show traj m c (k + 1) hk = _ from traj_later m c ⟨k + 1, hk⟩ h0 hl]
        have h := ih (Nat.lt_of_succ_lt hk) (by omega) (by omega)
        rw [show 256 * (k / 16 % 16 - k % 16) = 256 * ((k + 1) / 16 % 16 - (k + 1) % 16) + 256 by omega] at h
        exact holds_next c f ⟨k + 1, hk⟩ b i ⟨(k + 1) / 16 % 16 - (k + 1) % 16, by omega⟩ hb hi hl rfl _ h
      · rw [show traj m c (k + 1) hk = _ from traj_idle m c ⟨k + 1, hk⟩ h0 hl]
        have h := ih (Nat.lt_of_succ_lt hk) (by omega) (by omega)
        rw [show 256 * (k / 16 % 16 - k % 16) = 256 * ((k + 1) / 16 % 16 - (k + 1) % 16) by omega] at h
        exact h

variable (m)

/-- The array of the attention's outputs. -/
def outArray (c : Dev nD) : Vec Ideal S8x4096x512 .f32 := fun y =>
  attention (proj m c) (bias m c) (y 0) (y 1) ⟨(y 2).val / 64, by have : (y 2).val < 512 := (y 2).isLt; omega⟩
    ⟨(y 2).val % 64, Nat.mod_lt _ (by decide)⟩

theorem outArray_at (c : Dev nD) (Y : S8x4096x512.Idx) (b : Fin 8) (Q : Fin 4096) (h : Fin 8) (d : Fin 64)
    (h0 : (Y 0).val = b.val) (h1 : (Y 1).val = Q.val) (h2 : (Y 2).val = 64 * h.val + d.val) :
    outArray m c Y = attention (proj m c) (bias m c) b Q h d := by
  unfold outArray
  congr 1
  · exact Fin.ext h0
  · exact Fin.ext h1
  · exact Fin.ext (by show (Y 2).val / 64 = h.val; omega)
  · exact Fin.ext (by show (Y 2).val % 64 = d.val; omega)

variable {m}

/-- Every block of the array is some point's. -/
theorem covers : (cfg0.win 5).Covers := by
  refine Pipeline.Window.covers_of_index_surj _ rfl (by decide) fun β => ?_
  have b0 : (β 0).val < 8 := (β 0).isLt
  have b1 : (β 1).val < 16 := (β 1).isLt
  have b2 : (β 2).val < 1 := (β 2).isLt
  refine ⟨⟨((β 0).val * 16 + (β 1).val) * 16, by show _ < 2048; omega⟩, fun a => ?_⟩
  rw [at_o]
  match a with
  | ⟨0, _⟩ => show ((β 0).val * 16 + (β 1).val) * 16 / 256 % 8 = (β 0).val; omega
  | ⟨1, _⟩ => show ((β 0).val * 16 + (β 1).val) * 16 / 16 % 16 = (β 1).val; omega
  | ⟨2, _⟩ => show 0 = (β 2).val; omega

/-- The result array after the run. -/
theorem arr_eq (c : Dev nD) (f : Finite (proj m c) (bias m c)) : (dats m 0 c).arrAt 5 cfg0.N = outArray m c := by
  refine (dats m 0 c).arrAt_eq_of_covers 5 _ covers fun t hf y => ?_
  have e := at_o t
  have h15 : t.val % 16 = 15 := (flush0_5 t).1 hf
  have y0 : (y 0).val < 1 := (y 0).isLt
  have y1 : (y 1).val < 256 := (y 1).isLt
  have y2 : (y 2).val < 512 := (y 2).isLt
  have e0 : (((cfg0.win 5).blk t).view.emb y 0).val = t.val / 256 % 8 := by
    blk_simp [e]
  have e1 : (((cfg0.win 5).blk t).view.emb y 1).val = 256 * (t.val / 16 % 16) + (y 1).val := by
    blk_simp [e]; omega
  have e2 : (((cfg0.win 5).blk t).view.emb y 2).val = (y 2).val := by
    blk_simp [e]
  have H := holds_traj c f ⟨t.val / 256 % 8, by omega⟩ ⟨t.val / 16 % 16, by omega⟩ t.val t.isLt rfl rfl
  rw [show 256 * (t.val / 16 % 16 - t.val % 16) = 0 by omega] at H
  have O := H.out ⟨(y 2).val / 64, by omega⟩ ⟨(y 1).val, y1⟩ ⟨(y 2).val % 64, by omega⟩
  have ey : (ix3 0 ⟨(y 1).val, y1⟩ (lane ⟨(y 2).val / 64, by omega⟩ ⟨(y 2).val % 64, by omega⟩) : S1x256x512.Idx) = y := by
    funext a
    match a with
    | ⟨0, _⟩ => exact Fin.ext (by show 0 = (y 0).val; omega)
    | ⟨1, _⟩ => rfl
    | ⟨2, _⟩ => exact Fin.ext (by show 64 * ((y 2).val / 64) + (y 2).val % 64 = (y 2).val; omega)
  have R := outArray_at m c (((cfg0.win 5).blk t).view.emb y) ⟨t.val / 256 % 8, by omega⟩
    (qpos ⟨t.val / 16 % 16, by omega⟩ ⟨(y 1).val, y1⟩) ⟨(y 2).val / 64, by omega⟩ ⟨(y 2).val % 64, by omega⟩ e0 e1
    (e2.trans (by show _ = 64 * ((y 2).val / 64) + (y 2).val % 64; omega))
  refine Eq.trans ?_ R.symm
  blk_simp
  rw [after_o]
  exact (congrArg (traj m c t.val t.isLt).1 ey.symm).trans O

end Cert.KernelIdeal.Stick

end
-- ==== Proof.WindowSum.lean ====
/- A sum along the last axis that starts at each entry: a window as long as the axis, of which what lies past the end
   counts nothing, holds at each entry the tail of the row from that entry on. -/
module

public import Idealize.ShloMosaic.Lib.Pointwise
public import proofs.«01_k».proof.Proof.Stick

@[expose] public section

noncomputable section

namespace Cert.Stick

open Idealize.ShloMosaic

/-- Adding a list's terms one after another. -/
theorem foldl_add {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- A head's logits' shape, and the window's. -/
abbrev S4 : Shape := ⟨4, ![8, 8, 4096, 4096]⟩
abbrev W4 : Shape := ⟨4, ![1, 1, 1, 4096]⟩

/-- A sum over a window along the last axis. -/
theorem sum_window (g : W4.Idx → EReal) : ∑ w : W4.Idx, g w = ∑ w : Fin 4096, g (ix4 0 0 0 w) := by
  refine Fintype.sum_equiv ⟨fun w => (w 3 : Fin 4096), fun w => ix4 0 0 0 w, fun w => ?_, fun w => rfl⟩ _ _ fun w => ?_
  · funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl
  · congr 1
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl

/-- A tail, with its terms counted from its start. -/
theorem tail_shift (f : Fin 4096 → EReal) (n : Nat) :
    ∑ w : Fin 4096, (if h : n + w.val < 4096 then f ⟨n + w.val, h⟩ else 0) = tail f n := by
  unfold tail
  rw [← Finset.sum_filter_add_sum_filter_not Finset.univ (fun w : Fin 4096 => n + w.val < 4096),
    ← Finset.sum_filter, Finset.sum_eq_zero (s := Finset.univ.filter fun w : Fin 4096 => ¬ n + w.val < 4096)
      (fun w hw => dif_neg (Finset.mem_filter.mp hw).2), add_zero]
  refine Finset.sum_bij' (fun w hw => ⟨n + w.val, (Finset.mem_filter.mp hw).2⟩) (fun K _ => ⟨K.val - n, by omega⟩) ?_ ?_ ?_ ?_ ?_
  · intro w hw
    exact Finset.mem_filter.mpr ⟨Finset.mem_univ _, by show n ≤ n + w.val; omega⟩
  · intro K hK
    have := (Finset.mem_filter.mp hK).2
    exact Finset.mem_filter.mpr ⟨Finset.mem_univ _, by show n + (K.val - n) < 4096; omega⟩
  · intro w hw
    exact Fin.ext (by show n + w.val - n = w.val; omega)
  · intro K hK
    have := (Finset.mem_filter.mp hK).2
    exact Fin.ext (by show n + (K.val - n) = K.val; omega)
  · intro w hw
    rw [dif_pos (Finset.mem_filter.mp hw).2]

/-- The windowed sum at an index. -/
theorem cumsum_at {u : Shape} (x : FVec Ideal S4 .f32) (init : u.Idx → EReal)
    (h : S4.ReduceWindows ![1, 1, 1, 4096] ![1, 1, 1, 1] ![0, 0, 0, 0] ![0, 0, 0, 4095] S4)
    (hu : 0 < u.numel) (hinit : init (Shape.Idx.first hu) = 0) (b h' : Fin 8) (Q K : Fin 4096) :
    Host.reduceWindowAdd ![1, 1, 1, 4096] ![1, 1, 1, 1] ![0, 0, 0, 0] ![0, 0, 0, 4095] x init h hu (ix4 b h' Q K)
      = tail (fun K' => x (ix4 b h' Q K')) K.val := by
  unfold Host.reduceWindowAdd
  rw [Ideal.hostReduceWindowAdd_def, hinit]
  unfold Ideal.hostReduceWindowAdd Host.reduceWindow
  dsimp only
  refine (foldl_add _ _ _).trans ?_
  rw [zero_add, ← List.ofFn_eq_map, List.sum_ofFn]
  refine (Fintype.sum_equiv W4.rowMajor.symm _ (fun w : W4.Idx =>
    if hw : K.val + (w 3 : Fin 4096).val < 4096 then x (ix4 b h' Q ⟨K.val + (w 3 : Fin 4096).val, hw⟩) else 0)
    fun i => ?_).trans ((sum_window _).trans (tail_shift (fun K' => x (ix4 b h' Q K')) K.val))
  have w0 : (W4.rowMajor.symm i 0).val = 0 := Nat.lt_one_iff.mp (W4.rowMajor.symm i 0).isLt
  have w1 : (W4.rowMajor.symm i 1).val = 0 := Nat.lt_one_iff.mp (W4.rowMajor.symm i 1).isLt
  have w2 : (W4.rowMajor.symm i 2).val = 0 := Nat.lt_one_iff.mp (W4.rowMajor.symm i 2).isLt
  by_cases hw : K.val + (W4.rowMajor.symm i 3 : Fin 4096).val < 4096
  · rw [dif_pos hw, dif_pos]
    · congr 1
      funext a
      match a with
      | ⟨0, _⟩ => exact Fin.ext (by show b.val * 1 + (W4.rowMajor.symm i 0).val - 0 = b.val; omega)
      | ⟨1, _⟩ => exact Fin.ext (by show h'.val * 1 + (W4.rowMajor.symm i 1).val - 0 = h'.val; omega)
      | ⟨2, _⟩ => exact Fin.ext (by show Q.val * 1 + (W4.rowMajor.symm i 2).val - 0 = Q.val; omega)
      | ⟨3, _⟩ => exact Fin.ext (by show K.val * 1 + (W4.rowMajor.symm i 3).val - 0 = K.val + (W4.rowMajor.symm i 3).val; omega)
    · intro a
      match a with
      | ⟨0, _⟩ => exact ⟨Nat.zero_le _, by show b.val * 1 + (W4.rowMajor.symm i 0).val - 0 < 8; omega⟩
      | ⟨1, _⟩ => exact ⟨Nat.zero_le _, by show h'.val * 1 + (W4.rowMajor.symm i 1).val - 0 < 8; omega⟩
      | ⟨2, _⟩ => exact ⟨Nat.zero_le _, by show Q.val * 1 + (W4.rowMajor.symm i 2).val - 0 < 4096; omega⟩
      | ⟨3, _⟩ => exact ⟨Nat.zero_le _, by show K.val * 1 + (W4.rowMajor.symm i 3).val - 0 < 4096; omega⟩
  · rw [dif_neg hw, dif_neg]
    intro hin
    have h3 := (hin 3).2
    exact hw (by change K.val * 1 + (W4.rowMajor.symm i 3).val - 0 < 4096 at h3; omega)

end Cert.Stick

end
-- ==== Proof.RefValue.lean ====
/- What the reference's result holds: at batch `b`, query `Q`, column `d` of head `h`, the attention of the mathematics.
   Each operation is read at an index; the softplus is the one of the numbers, and the reversed running sum a tail. -/
module

public import proofs.«01_k».proof.Proof.Gen.ReferenceIdeal.Read
public import proofs.«01_k».proof.Proof.Problem
public import proofs.«01_k».proof.Proof.WindowSum

@[expose] public section

noncomputable section

namespace Cert.ReferenceIdeal.Stick

open Cert.ReferenceIdeal Cert.ReferenceIdeal.Gen Cert.ReferenceIdeal.Read Cert.Stick
open Idealize.ShloMosaic

variable (x0 : FVec Ideal S8x4096x3584 .f32) (x1 : FVec Ideal S8 .f32)

/-- The arguments by their coordinates. -/
abbrev proj (b : Fin 8) (s : Fin 4096) (l : Fin 3584) : EReal := x0 (ix3 b s l)
abbrev bias (h : Fin 8) : EReal := x1 (ix1 h)

/-! ## The three parts of the projection, by heads -/

theorem query_at (b : Fin 8) (s : Fin 4096) (h : Fin 8) (d : Fin 64) :
    val_main_v1 (F := Ideal) x0 (ix4 b s h d) = proj x0 b s (qcol h d) := by
  rw [val_main_v1_apply, val_main_v0_apply]
  refine congrArg x0 (funext fun a => ?_)
  match a with
  | ⟨0, _⟩ => exact Fin.ext (by show (((b.val * 4096 + s.val) * 8 + h.val) * 64 + d.val) / 2097152 = b.val; omega)
  | ⟨1, _⟩ => exact Fin.ext (by show (((b.val * 4096 + s.val) * 8 + h.val) * 64 + d.val) / 512 % 4096 = s.val; omega)
  | ⟨2, _⟩ => exact Fin.ext (by
      show 2048 + (((b.val * 4096 + s.val) * 8 + h.val) * 64 + d.val) % 512 = 2048 + (64 * h.val + d.val); omega)

theorem key_at (b : Fin 8) (s : Fin 4096) (h : Fin 8) (d : Fin 64) :
    val_main_v3 (F := Ideal) x0 (ix4 b s h d) = proj x0 b s (kcol h d) := by
  rw [val_main_v3_apply, val_main_v2_apply]
  refine congrArg x0 (funext fun a => ?_)
  match a with
  | ⟨0, _⟩ => exact Fin.ext (by show (((b.val * 4096 + s.val) * 8 + h.val) * 64 + d.val) / 2097152 = b.val; omega)
  | ⟨1, _⟩ => exact Fin.ext (by show (((b.val * 4096 + s.val) * 8 + h.val) * 64 + d.val) / 512 % 4096 = s.val; omega)
  | ⟨2, _⟩ => exact Fin.ext (by
      show 2560 + (((b.val * 4096 + s.val) * 8 + h.val) * 64 + d.val) % 512 = 2560 + (64 * h.val + d.val); omega)

theorem value_at (b : Fin 8) (s : Fin 4096) (h : Fin 8) (d : Fin 64) :
    val_main_v5 (F := Ideal) x0 (ix4 b s h d) = proj x0 b s (vcol h d) := by
  rw [val_main_v5_apply, val_main_v4_apply]
  refine congrArg x0 (funext fun a => ?_)
  match a with
  | ⟨0, _⟩ => exact Fin.ext (by show (((b.val * 4096 + s.val) * 8 + h.val) * 64 + d.val) / 2097152 = b.val; omega)
  | ⟨1, _⟩ => exact Fin.ext (by show (((b.val * 4096 + s.val) * 8 + h.val) * 64 + d.val) / 512 % 4096 = s.val; omega)
  | ⟨2, _⟩ => exact Fin.ext (by
      show 3072 + (((b.val * 4096 + s.val) * 8 + h.val) * 64 + d.val) % 512 = 3072 + (64 * h.val + d.val); omega)

/-! ## The logits and the mask -/

/-- The sum of a head's products. -/
theorem product_at (b h : Fin 8) (Q K : Fin 4096) :
    val_main_v6 (F := Ideal) x0 (ix4 b h Q K) = ∑ d : Fin 64, proj x0 b Q (qcol h d) * proj x0 b K (kcol h d) := by
  rw [val_main_v6_apply]
  refine Finset.sum_congr rfl fun d _ => ?_
  rw [← query_at, ← key_at]
  congr 2
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

/-- The offsets, at every query and key. -/
theorem offset_at (b h : Fin 8) (Q K : Fin 4096) : val_main_v10 (F := Ideal) x1 (ix4 b h Q K) = bias x1 h := by
  rw [val_main_v10_apply, val_main_v9_apply]
  refine congrArg x1 (funext fun a => ?_)
  match a with
  | ⟨0, _⟩ => rfl

variable {x0 x1}

/-- The logits. -/
theorem logit_at (f : Finite (proj x0) (bias x1)) (b h : Fin 8) (Q K : Fin 4096) :
    val_main_v11 (F := Ideal) x0 x1 (ix4 b h Q K) = ((logit (proj x0) (bias x1) b h Q K : ℝ) : EReal) := by
  rw [← logit_summed f, val_main_v11_apply, val_main_v8_apply, product_at, offset_at, val_main_v7_apply, val_main_cst_apply]
  rfl

/-- The mask keeps the keys before the query. -/
theorem mask_at (Q K : Fin 4096) : val_main_v17 (F := Ideal) (ix2 Q K) = BitVec.ofBool (decide (K.val < Q.val)) := by
  rw [val_main_v17_apply, val_main_v15_apply, val_main_v13_apply, val_main_v12_apply, val_main_v16_apply, val_main_v14_apply,
    val_main_v12_apply]
  show BitVec.ofBool ((BitVec.ofNat 32 K.val).slt (BitVec.ofNat 32 Q.val)) = _
  rw [BitVec.slt_eq_decide, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  simp only [Nat.cast_lt]

theorem mask1_at (b h : Fin 8) (Q K : Fin 4096) :
    val_main_call1_v1 (F := Ideal) (ix4 b h Q K) = BitVec.ofBool (decide (K.val < Q.val)) := by
  rw [val_main_call1_v1_apply, ← mask_at]
  congr 1
  funext a
  match a with
  | ⟨0, _⟩ => rfl
  | ⟨1, _⟩ => rfl

theorem mask4_at (b h : Fin 8) (Q K : Fin 4096) :
    val_main_call4_v1 (F := Ideal) (ix4 b h Q K) = BitVec.ofBool (decide (K.val < Q.val)) := by
  rw [val_main_call4_v1_apply, ← mask_at]
  congr 1
  funext a
  match a with
  | ⟨0, _⟩ => rfl
  | ⟨1, _⟩ => rfl

theorem keep {α : Type} (p : Prop) [Decidable p] (a b : α) :
    Scalar.select (BitVec.ofBool (decide p)) a b = if p then a else b := by
  unfold Scalar.select
  by_cases h : p <;> simp [h]

/-! ## The softplus -/

theorem zero_word : Ideal.ofBits FTy.f32 0x00000000#32 = 0 := by simp [Ideal.ofBits, Ideal.ieee]

/-- The operations of the softplus, at a number. -/
theorem softplus_ops (z : ℝ) :
    Scalar.select (FloatOps.cmpf (F := Ideal) (φ := .f32) .une ((z : EReal) - 0) ((z : EReal) - 0)) ((z : EReal) + 0)
      (max (z : EReal) 0 + Ideal.log1p (Ideal.exp (-(max ((z : EReal) - 0) (-((z : EReal) - 0)))))) = ((softplus z : ℝ) : EReal) := by
  rw [sub_zero, softplus_coe]
  exact (congrArg (Scalar.select · _ _) (Ideal.cmp_une (z : EReal) z)).trans (by rw [decide_eq_false (by simp)]; rfl)

theorem softplus0_at {i : S8x8x4096x4096.Idx} {z : ℝ} (e : val_main_call0_v0 (F := Ideal) x0 x1 i = (z : EReal)) :
    val_main_call0_v1 (F := Ideal) x0 x1 i = ((softplus z : ℝ) : EReal) := by
  rw [← softplus_ops, val_main_call0_v1_apply, val_main_call0_call0_v4_apply, val_main_call0_call0_v6_apply,
    val_main_call0_call0_v11_apply, val_main_call0_call0_v1_apply, val_main_call0_call0_v10_apply,
    val_main_call0_call0_v9_apply, val_main_call0_call0_v8_apply, val_main_call0_call0_v7_apply,
    val_main_call0_call0_v3_apply, val_main_call0_call0_v0_apply, val_main_call0_call0_v2_apply,
    val_main_call0_call0_v5_apply, val_main_call0_call0_cst_apply, e, Ideal.ofBits_def, zero_word]
  rfl

theorem softplus3_at {i : S8x8x4096x4096.Idx} {z : ℝ} (e : val_main_call3_v0 (F := Ideal) x0 x1 i = (z : EReal)) :
    val_main_call3_v1 (F := Ideal) x0 x1 i = ((softplus z : ℝ) : EReal) := by
  rw [← softplus_ops, val_main_call3_v1_apply, val_main_call3_call0_v4_apply, val_main_call3_call0_v6_apply,
    val_main_call3_call0_v11_apply, val_main_call3_call0_v1_apply, val_main_call3_call0_v10_apply,
    val_main_call3_call0_v9_apply, val_main_call3_call0_v8_apply, val_main_call3_call0_v7_apply,
    val_main_call3_call0_v3_apply, val_main_call3_call0_v0_apply, val_main_call3_call0_v2_apply,
    val_main_call3_call0_v5_apply, val_main_call3_call0_cst_apply, e, Ideal.ofBits_def, zero_word]
  rfl

/-! ## The weights -/

section
variable (f : Finite (proj x0) (bias x1)) (b h : Fin 8) (Q : Fin 4096)
include f

/-- What a key leaves, in logarithms. -/
theorem left_at (K : Fin 4096) :
    val_main_v20 (F := Ideal) x0 x1 (ix4 b h Q K) = ((-take (logit (proj x0) (bias x1) b h Q) Q.val K : ℝ) : EReal) := by
  have e : val_main_call0_v0 (F := Ideal) x0 x1 (ix4 b h Q K) = ((logit (proj x0) (bias x1) b h Q K : ℝ) : EReal) := by
    rw [val_main_call0_v0_apply, val_main_v18_apply, logit_at f]
    exact neg_neg (((logit (proj x0) (bias x1) b h Q K : ℝ) : EReal))
  rw [val_main_v20_apply, mask1_at, keep, val_main_v19_apply, softplus0_at e, val_main_call1_v2_apply, val_main_call1_v0_apply,
    val_main_cst_0_apply, Ideal.ofBits_def, zero_word, Ideal.hostNegf_def]
  unfold take
  split
  · exact (EReal.coe_neg _).symm
  · simp

/-- What the keys from `K` on leave. -/
theorem leftFrom_at (K : Fin 4096) :
    val_main_v21 (F := Ideal) x0 x1 (ix4 b h Q K)
      = ((-tail (take (logit (proj x0) (bias x1) b h Q) Q.val) K.val : ℝ) : EReal) := by
  unfold val_main_v21
  rw [cumsum_at _ _ _ _ (by rw [val_main_call2_v0_apply, val_main_call2_cst_apply, Ideal.ofBits_def, zero_word])]
  unfold tail
  rw [← Finset.sum_neg_distrib, coe_sum]
  refine Finset.sum_congr rfl fun K' _ => ?_
  show (if K.val ≤ K'.val then val_main_v20 (F := Ideal) x0 x1 (ix4 b h Q K') else 0) = _
  rw [left_at f]
  split
  · rfl
  · simp

/-- What the keys after `K` leave. -/
theorem leftAfter_at (K : Fin 4096) :
    val_main_v22 (F := Ideal) x0 x1 (ix4 b h Q K)
      = ((-tail (take (logit (proj x0) (bias x1) b h Q) Q.val) (K.val + 1) : ℝ) : EReal) := by
  rw [val_main_v22_apply, leftFrom_at f, left_at f, Ideal.subf_def, ← EReal.coe_sub, ← tail_succ]
  congr 1
  ring

/-- The weights. -/
theorem weight_at (K : Fin 4096) :
    val_main_v26 (F := Ideal) x0 x1 (ix4 b h Q K)
      = ((weight (logit (proj x0) (bias x1) b h Q) Q.val K : ℝ) : EReal) := by
  have e : val_main_call3_v0 (F := Ideal) x0 x1 (ix4 b h Q K) = ((-logit (proj x0) (bias x1) b h Q K : ℝ) : EReal) := by
    rw [val_main_call3_v0_apply, logit_at f, EReal.coe_neg]
    rfl
  rw [val_main_v26_apply, mask4_at, keep, val_main_v25_apply, val_main_v24_apply, val_main_v23_apply, softplus3_at e,
    leftAfter_at f, val_main_call4_v2_apply, val_main_call4_v0_apply, val_main_cst_1_apply, Ideal.ofBits_def, zero_word,
    Ideal.hostNegf_def, Ideal.negf_def, Ideal.addf_def, Ideal.hostUnary_exp_def, softplus_neg, ← EReal.coe_neg, ← EReal.coe_add,
    Ideal.exp_coe]
  unfold weight
  split
  · congr 2
    ring
  · simp

end

/-! ## The result -/

/-- The weighted values, head by head. -/
theorem weighted_at (f : Finite (proj x0) (bias x1)) (b h : Fin 8) (d : Fin 64) (Q : Fin 4096) :
    val_main_v27 (F := Ideal) x0 x1 (ix4 b h d Q) = attention (proj x0) (bias x1) b Q h d := by
  rw [val_main_v27_apply]
  unfold attention taken
  rw [tail_zero]
  refine Finset.sum_congr rfl fun K _ => ?_
  rw [← weight_at f, mul_comm]
  refine congrArg₂ (· * ·) (congrArg _ ?_) ((congrArg _ ?_).trans (value_at x0 b K h d))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

/-- The reference's result. -/
theorem result_at (f : Finite (proj x0) (bias x1)) (b : Fin 8) (Q : Fin 4096) (l : Fin 512) :
    val_main_v29 (F := Ideal) x0 x1 (ix3 b Q l)
      = attention (proj x0) (bias x1) b Q ⟨l.val / 64, by omega⟩ ⟨l.val % 64, by omega⟩ := by
  rw [val_main_v29_apply, val_main_v28_apply, ← weighted_at f]
  congr 1
  funext a
  match a with
  | ⟨0, _⟩ => exact Fin.ext (by show ((b.val * 4096 + Q.val) * 512 + l.val) / 2097152 = b.val; omega)
  | ⟨1, _⟩ => exact Fin.ext (by show ((b.val * 4096 + Q.val) * 512 + l.val) / 64 % 8 = l.val / 64; omega)
  | ⟨2, _⟩ => exact Fin.ext (by show ((b.val * 4096 + Q.val) * 512 + l.val) % 64 = l.val % 64; omega)
  | ⟨3, _⟩ => exact Fin.ext (by show ((b.val * 4096 + Q.val) * 512 + l.val) / 512 % 4096 = Q.val; omega)

end Cert.ReferenceIdeal.Stick

end
-- ==== Proof.Precondition.lean ====
/- What the precondition says: the queries, the keys and the offsets are numbers. Its two conjuncts are each a reduction
   by "and" of the comparison of absolute values with infinity. -/
module

public import proofs.«01_k».proof.Pre_finite_logits
public import proofs.«01_k».proof.Proof.Problem
public import Idealize.ShloMosaic.Lib.ReduceAll
public import Idealize.ShloMosaic.Lib.Pipeline.Value

@[expose] public section

noncomputable section

namespace Cert.Pre_finite_logits

open Cert.Stick
open Idealize.ShloMosaic

/-- The facts the predicate states. -/
instance facts : Facts where
  slices_S8x4096x3584_S8x4096x1024_0_0_2048 := by decide
  bcast_S_S8x4096x1024 := by decide
  reducesTo_S8x4096x1024_S_d0_1_2 := by decide
  h_S_ := by decide
  bcast_S_S8 := by decide
  reducesTo_S8_S_d0 := by decide

/-- The word of infinity. -/
theorem inf_word : Ideal.ofBits FTy.f32 0x7F800000#32 = ⊤ := by simp [Ideal.ofBits, Ideal.ieee]

/-- A value whose absolute value is below infinity is a number. -/
theorem number {x : EReal} (h : max x (-x) < ⊤) : x ≠ ⊤ ∧ x ≠ ⊥ := by
  rw [max_lt_iff] at h
  refine ⟨h.1.ne, fun e => ?_⟩
  rw [e, EReal.neg_bot] at h
  exact lt_irrefl _ h.2

theorem below {x : EReal} (h : FloatOps.cmpf (F := Ideal) (φ := .f32) .olt (FloatOps.hostAbsf (F := Ideal) (φ := .f32) x)
    (Ideal.ofBits FTy.f32 0x7F800000#32) = 1#1) : x ≠ ⊤ ∧ x ≠ ⊥ := by
  refine number ?_
  rw [Ideal.hostAbsf_def, Ideal.absf_def, inf_word] at h
  have h' := (Ideal.cmp_olt _ _).symm.trans h
  by_contra hn
  rw [decide_eq_false hn] at h'
  exact absurd h' (by decide)

/-- The precondition, read. -/
theorem finite {x0 : FVec Ideal S8x4096x3584 .f32} {x1 : FVec Ideal S8 .f32} (h : fn (F := Ideal) x0 x1 = fun _ => 1#1) :
    Finite (fun b s l => x0 (ix3 b s l)) (fun h => x1 (ix1 h)) := by
  have e := congrFun h (fun a => a.elim0)
  unfold fn at e
  obtain ⟨e0, e1⟩ := IntOp.andi_eq_one.1 e
  haveI : Subsingleton S_.Idx := ⟨fun a b => funext fun i => i.elim0⟩
  refine ⟨fun b s l h0 h1 => ?_, fun h => ?_⟩
  · have r := Host.reduce_andi_all _ _ _ _ _ e0 (ix3 b s ⟨l.val - 2048, by omega⟩)
    have r' := below r
    have a : extractStridedSlice S8x4096x1024 ![0, 0, 2048] x0 facts.slices_S8x4096x3584_S8x4096x1024_0_0_2048
        (ix3 b s ⟨l.val - 2048, by omega⟩) = x0 (ix3 b s l) :=
      extractStridedSlice_apply ![0, 0, 2048] x0 facts.slices_S8x4096x3584_S8x4096x1024_0_0_2048 _ _ fun i => match i with
        | ⟨0, _⟩ => by show b.val = 0 + b.val; omega
        | ⟨1, _⟩ => by show s.val = 0 + s.val; omega
        | ⟨2, _⟩ => by show l.val = 2048 + (l.val - 2048); omega
    rw [← a]
    exact r'
  · exact below (Host.reduce_andi_all _ _ _ _ _ e1 (ix1 h))

end Cert.Pre_finite_logits

end
-- ==== Proof.Rms.lean ====
/- The normalisation of a row: each entry over the root of the mean square, times its gain. Kernels and references of the
   projections and of the feed-forward block are read in these terms. -/
module

public import Idealize.ShloMosaic.PureOps.Ideal

@[expose] public section

noncomputable section

namespace Cert.Layer

open Idealize.ShloMosaic

/-- The factor of a row: one over the root of the mean square and a small constant. -/
def scale (x : Fin 1024 → EReal) : EReal :=
  Ideal.rsqrt (Ideal.div (∑ j, x j * x j) (Ideal.ofBits FTy.f32 0x44800000#32) + Ideal.ofBits FTy.f32 0x3727C5AC#32)

/-- The normalised row. -/
def normed (x w : Fin 1024 → EReal) (k : Fin 1024) : EReal := x k * scale x * w k

end Cert.Layer

end
-- ==== Proof.MlpProblem.lean ====
/- The feed-forward block on one row: normalise, take the squared positive part of the products with the first matrix, add
   their products with the second to the row, normalise again. -/
module

public import proofs.«01_k».proof.Proof.Rms

@[expose] public section

noncomputable section

namespace Cert.Layer

open Idealize.ShloMosaic

/-- One unit: the squared positive part of the row's product with the unit's column. -/
def unit (h col : Fin 1024 → EReal) : EReal := max (∑ k, h k * col k) 0 * max (∑ k, h k * col k) 0

/-- The row with what the units give added. -/
def summed (x nw : Fin 1024 → EReal) (up : Fin 1024 → Fin 4096 → EReal) (down : Fin 4096 → Fin 1024 → EReal) (k : Fin 1024) :
    EReal :=
  x k + ∑ f, unit (normed x nw) (fun j => up j f) * down f k

/-- The block's row. -/
def feed (x nw : Fin 1024 → EReal) (up : Fin 1024 → Fin 4096 → EReal) (down : Fin 4096 → Fin 1024 → EReal)
    (nf : Fin 1024 → EReal) : Fin 1024 → EReal :=
  normed (summed x nw up down) nf

/-- What units `0 … n − 1` give. -/
def given (h : Fin 1024 → EReal) (up : Fin 1024 → Fin 4096 → EReal) (down : Fin 4096 → Fin 1024 → EReal) (n : ℕ) (k : Fin 1024) :
    EReal :=
  ∑ f ∈ Finset.range n, if hf : f < 4096 then unit h (fun j => up j ⟨f, hf⟩) * down ⟨f, hf⟩ k else 0

theorem given_zero (h : Fin 1024 → EReal) (up : Fin 1024 → Fin 4096 → EReal) (down : Fin 4096 → Fin 1024 → EReal) (k : Fin 1024) :
    given h up down 0 k = 0 := rfl

/-- A block of 512 units more. -/
theorem given_block (h : Fin 1024 → EReal) (up : Fin 1024 → Fin 4096 → EReal) (down : Fin 4096 → Fin 1024 → EReal) (n : ℕ)
    (hn : n + 512 ≤ 4096) (k : Fin 1024) :
    given h up down n k + ∑ e : Fin 512, unit h (fun j => up j ⟨n + e.val, by omega⟩) * down ⟨n + e.val, by omega⟩ k
      = given h up down (n + 512) k := by
  unfold given
  rw [Finset.sum_range_add]
  refine congrArg (_ + ·) ?_
  rw [Finset.sum_range]
  exact Finset.sum_congr rfl fun (e : Fin 512) _ => by rw [dif_pos (show n + e.val < 4096 by omega)]

/-- All units. -/
theorem given_all (h : Fin 1024 → EReal) (up : Fin 1024 → Fin 4096 → EReal) (down : Fin 4096 → Fin 1024 → EReal) (k : Fin 1024) :
    given h up down 4096 k = ∑ f, unit h (fun j => up j f) * down f k := by
  unfold given
  rw [Finset.sum_range]
  exact Finset.sum_congr rfl fun f _ => by rw [dif_pos f.isLt]

end Cert.Layer

end
-- ==== Proof.MlpStep.lean ====
/- What one grid point of the feed-forward kernel computes, at a row and a column of its blocks: the normalised rows, the
   first block's zeros, a block's products added, the normalised sum. -/
module

public import Idealize.ShloMosaic.Lib.Pipeline.ValueKit
public import proofs.«01_k».proof.Proof.Gen.Kernel2Ideal.Frame
public import proofs.«01_k».proof.Proof.MlpProblem

@[expose] public section

set_option maxRecDepth 16384

noncomputable section

namespace Cert.Kernel2Ideal.Mlp

open Cert.Kernel2Ideal Cert.Kernel2Ideal.Gen Cert.Layer
open Idealize.ShloMosaic Idealize.ShloMosaic.TcCoe

theorem start_at (x : FVec Ideal S1024x1024 .f32) (w : FVec Ideal S1x1024 .f32) (r k : Fin 1024) :
    k0_pay1 (F := Ideal) x w (ix2 r k) = normed (fun j => x (ix2 r j)) (fun j => w (ix2 0 j)) k := by
  unfold normed scale
  pointwise [k0_pay1]

theorem zero_at (i : S1024x1024.Idx) : k0_pay2 (F := Ideal) i = 0 := by
  pointwise [k0_pay2]

theorem add_at (h : FVec Ideal S1024x1024 .bf16) (u : FVec Ideal S1024x512 .bf16) (a : FVec Ideal S1024x1024 .f32)
    (d : FVec Ideal S512x1024 .bf16) (r k : Fin 1024) :
    k0_pay3 (F := Ideal) h u a d (ix2 r k)
      = a (ix2 r k) + ∑ f : Fin 512, unit (fun j => h (ix2 r j)) (fun j => u (ix2 j f)) * d (ix2 f k) := by
  unfold unit
  pointwise [k0_pay3]

theorem finish_at (x a : FVec Ideal S1024x1024 .f32) (w : FVec Ideal S1x1024 .f32) (r k : Fin 1024) :
    k0_pay4 (F := Ideal) x a w (ix2 r k) = normed (fun j => x (ix2 r j) + a (ix2 r j)) (fun j => w (ix2 0 j)) k := by
  unfold normed scale
  pointwise [k0_pay4]

end Cert.Kernel2Ideal.Mlp

end
-- ==== Proof.MlpBlocks.lean ====
/- What each grid point's blocks of the feed-forward kernel hold, as entries of the arguments: 1024 rows, 512 columns of the
   first matrix and 512 rows of the second, the gains. -/
module

public import proofs.«01_k».proof.Proof.MlpStep

@[expose] public section

noncomputable section

namespace Cert.Kernel2Ideal.Mlp

open Cert.Kernel2Ideal Cert.Kernel2Ideal.Gen Cert.Layer
open Idealize.ShloMosaic Idealize.ShloMosaic.TcCoe

variable (m : (ℓ : Loc nD τ sig) → Buf (Elt Ideal) ℓ)

/-- The arguments, by position; a row is a batch's and a place's. -/
def rows (c : Dev nD) (R : Fin 32768) (k : Fin 1024) : EReal :=
  m ((c : Thread nD τ).loc main_arg0) (ix3 ⟨R.val / 4096, by omega⟩ ⟨R.val % 4096, by omega⟩ k)
def gain (c : Dev nD) (k : Fin 1024) : EReal := m ((c : Thread nD τ).loc main_arg1) (ix1 k)
def up (c : Dev nD) (k : Fin 1024) (f : Fin 4096) : EReal := m ((c : Thread nD τ).loc main_arg2) (ix2 k f)
def down (c : Dev nD) (f : Fin 4096) (k : Fin 1024) : EReal := m ((c : Thread nD τ).loc main_arg3) (ix2 f k)
def gain' (c : Dev nD) (k : Fin 1024) : EReal := m ((c : Thread nD τ).loc main_arg4) (ix1 k)

/-- The place of each window's block. -/
theorem at_x : ∀ t : Fin cfg0.N, (cfg0.win 0).index t = ![t.val / 8, 0] := by decide +kernel
theorem at_w : ∀ t : Fin cfg0.N, (cfg0.win 1).index t = ![0, 0] := by decide +kernel
theorem at_u : ∀ t : Fin cfg0.N, (cfg0.win 2).index t = ![0, t.val % 8] := by decide +kernel
theorem at_d : ∀ t : Fin cfg0.N, (cfg0.win 3).index t = ![t.val % 8, 0] := by decide +kernel
theorem at_f : ∀ t : Fin cfg0.N, (cfg0.win 4).index t = ![0, 0] := by decide +kernel
theorem at_o : ∀ t : Fin cfg0.N, (cfg0.win 5).index t = ![t.val / 8, 0] := by decide +kernel

theorem point_lt (t : Fin cfg0.N) : t.val < 256 := t.isLt

/-- The arguments as the host lays them out. -/
theorem rows_entry (c : Dev nD) (R : Fin 32768) (k : Fin 1024) : V m c main_v0 (ix2 R k) = rows m c R k := by
  unfold rows
  entry_read
  pointwise
theorem gain_entry (c : Dev nD) (k : Fin 1024) : V m c main_v3 (ix2 0 k) = gain m c k := by
  unfold gain
  entry_read
  pointwise
theorem up_entry (c : Dev nD) (k : Fin 1024) (f : Fin 4096) : V m c main_v1 (ix2 k f) = up m c k f := by
  unfold up
  entry_read
  pointwise
theorem down_entry (c : Dev nD) (f : Fin 4096) (k : Fin 1024) : V m c main_v2 (ix2 f k) = down m c f k := by
  unfold down
  entry_read
  pointwise
theorem gain'_entry (c : Dev nD) (k : Fin 1024) : V m c main_v4 (ix2 0 k) = gain' m c k := by
  unfold gain'
  entry_read
  pointwise

theorem x_at (c : Dev nD) (t : Fin cfg0.N) (i : Fin 32) (hi : t.val / 8 = i.val) (r k : Fin 1024) :
    iblk m c 0 t (ix2 r k) = rows m c ⟨1024 * i.val + r.val, by omega⟩ k := by
  rw [← rows_entry]
  have e := at_x t
  rw [hi] at e
  blk_ext [iblk, e]

theorem w_at (c : Dev nD) (t : Fin cfg0.N) (k : Fin 1024) : iblk m c 1 t (ix2 0 k) = gain m c k := by
  rw [← gain_entry]
  blk_ext [iblk, at_w t]

theorem u_at (c : Dev nD) (t : Fin cfg0.N) (j : Fin 8) (hj : t.val % 8 = j.val) (k : Fin 1024) (f : Fin 512) :
    iblk m c 2 t (ix2 k f) = up m c k ⟨512 * j.val + f.val, by omega⟩ := by
  rw [← up_entry]
  have e := at_u t
  rw [hj] at e
  blk_ext [iblk, e]

theorem d_at (c : Dev nD) (t : Fin cfg0.N) (j : Fin 8) (hj : t.val % 8 = j.val) (f : Fin 512) (k : Fin 1024) :
    iblk m c 3 t (ix2 f k) = down m c ⟨512 * j.val + f.val, by omega⟩ k := by
  rw [← down_entry]
  have e := at_d t
  rw [hj] at e
  blk_ext [iblk, e]

theorem f_at (c : Dev nD) (t : Fin cfg0.N) (k : Fin 1024) : iblk m c 4 t (ix2 0 k) = gain' m c k := by
  rw [← gain'_entry]
  blk_ext [iblk, at_f t]

end Cert.Kernel2Ideal.Mlp

end
-- ==== Proof.MlpFold.lean ====
/- What the feed-forward kernel's buffers hold after each point, and the array after the run: after block `j` the first buffer
   holds the normalised rows, the second what units `0 … 512·j + 511` give; after the last block the output block holds the
   rows of the whole block, and the blocks are the array. -/
module

public import Idealize.ShloMosaic.Lib.Pipeline.Covers
public import proofs.«01_k».proof.Proof.MlpBlocks

@[expose] public section

noncomputable section

namespace Cert.Kernel2Ideal.Mlp

open Cert.Kernel2Ideal Cert.Kernel2Ideal.Gen Cert.Layer
open Idealize.ShloMosaic Idealize.ShloMosaic.TcCoe

variable (m : (ℓ : Loc nD τ sig) → Buf (Elt Ideal) ℓ)

/-- A block's row in the array. -/
abbrev place (i : Fin 32) (r : Fin 1024) : Fin 32768 := ⟨1024 * i.val + r.val, by omega⟩

/-- The carried buffers hold the normalised rows of block `i` and what the first `n` units give. -/
structure Holds (c : Dev nD) (i : Fin 32) (n : ℕ)
    (p : Vec Ideal S1024x1024 .f32 × Vec Ideal S1024x1024 .bf16 × Vec Ideal S1024x1024 .f32) : Prop where
  row : ∀ r k : Fin 1024, p.2.1 (ix2 r k) = normed (rows m c (place i r)) (gain m c) k
  sum : ∀ r k : Fin 1024, p.2.2 (ix2 r k) = given (normed (rows m c (place i r)) (gain m c)) (up m c) (down m c) n k

/-- The output block holds the rows of the feed-forward block. -/
def Done (c : Dev nD) (i : Fin 32) (o : Vec Ideal S1024x1024 .f32) : Prop :=
  ∀ r k : Fin 1024, o (ix2 r k) = feed (rows m c (place i r)) (gain m c) (up m c) (down m c) (gain' m c) k

variable {m}

/-- A carried buffer read whole. -/
theorem carried_row (v : Vec Ideal S1024x1024 .bf16) : View.read (Elt Ideal) (View.whole cc0_scratch0)
    ((Memref.isWhole_whole (κ := .tc) cc0_scratch0).unread (Val := Elt Ideal) v) = v :=
  Memref.IsWhole.read_unread (Memref.isWhole_whole (κ := .tc) cc0_scratch0) v
theorem carried_sum (v : Vec Ideal S1024x1024 .f32) : View.read (Elt Ideal) (View.whole cc0_scratch1)
    ((Memref.isWhole_whole (κ := .tc) cc0_scratch1).unread (Val := Elt Ideal) v) = v :=
  Memref.IsWhole.read_unread (Memref.isWhole_whole (κ := .tc) cc0_scratch1) v

/-- A point starts a block of rows with them normalised. -/
theorem row_first (c : Dev nD) (t : Fin cfg0.N) (i : Fin 32) (hi : t.val / 8 = i.val) (r k : Fin 1024) :
    k0_pay1 (F := Ideal) (iblk m c 0 t) (iblk m c 1 t) (ix2 r k) = normed (rows m c (place i r)) (gain m c) k := by
  rw [start_at]
  refine congrFun (congrArg₂ normed (funext fun j => ?_) (funext fun j => ?_)) k
  · exact x_at m c t i hi r j
  · exact w_at m c t j

/-- A point adds its block of units. -/
theorem sum_next (c : Dev nD) (t : Fin cfg0.N) (i : Fin 32) (j : Fin 8) (hj : t.val % 8 = j.val)
    (h : Vec Ideal S1024x1024 .bf16) (a : Vec Ideal S1024x1024 .f32)
    (eh : ∀ r k : Fin 1024, h (ix2 r k) = normed (rows m c (place i r)) (gain m c) k)
    (ea : ∀ r k : Fin 1024, a (ix2 r k) = given (normed (rows m c (place i r)) (gain m c)) (up m c) (down m c) (512 * j.val) k)
    (r k : Fin 1024) :
    k0_pay3 (F := Ideal) h (iblk m c 2 t) a (iblk m c 3 t) (ix2 r k)
      = given (normed (rows m c (place i r)) (gain m c)) (up m c) (down m c) (512 * j.val + 512) k := by
  rw [add_at, ea, ← given_block _ _ _ _ (by omega)]
  refine congrArg (_ + ·) (Finset.sum_congr rfl fun f _ => ?_)
  rw [d_at m c t j hj]
  refine congrArg (· * _) (congrArg₂ unit (funext fun l => eh r l) (funext fun l => ?_))
  exact u_at m c t j hj l f

/-- The first point of a block of rows. -/
theorem holds_first (c : Dev nD) (t : Fin cfg0.N) (h0 : t.val % 8 = 0) (i : Fin 32) (hi : t.val / 8 = i.val) :
    Holds m c i 512 (outsAt0 m c t.val t.isLt) := by
  rw [outsAt0_A m c t h0 (by omega)]
  refine ⟨fun r k => ?_, fun r k => ?_⟩
  · frame_out
    exact row_first c t i hi r k
  · frame_out
    exact sum_next c t i 0 h0 _ _ (row_first c t i hi) (fun r k => (zero_at _).trans (given_zero _ _ _ k).symm) r k

/-- A later point, over what the point before left. -/
theorem holds_later (c : Dev nD) (t : Fin cfg0.N) (i : Fin 32) (j : Fin 8) (hj : t.val % 8 = j.val) (h0 : ¬t.val % 8 = 0)
    (H : Holds m c i (512 * j.val) (outsAt0 m c (t.val - 1) (Nat.lt_of_le_of_lt (Nat.sub_le _ _) t.isLt))) :
    Holds m c i (512 * j.val + 512) (outsAt0 m c t.val t.isLt) := by
  by_cases h1 : t.val % 8 = 7
  · rw [outsAt0_C m c t h0 h1]
    refine ⟨fun r k => ?_, fun r k => ?_⟩
    · frame_out
      exact H.row r k
    · frame_out
      rw [carried_row, carried_sum]
      exact sum_next c t i j hj _ _ H.row H.sum r k
  · rw [outsAt0_B m c t h0 h1]
    refine ⟨fun r k => ?_, fun r k => ?_⟩
    · frame_out
      exact H.row r k
    · frame_out
      rw [carried_row, carried_sum]
      exact sum_next c t i j hj _ _ H.row H.sum r k

/-- After each point. -/
theorem holds (c : Dev nD) : ∀ (n : ℕ) (hn : n < cfg0.N) (i : Fin 32), n / 8 = i.val →
    Holds m c i (512 * (n % 8) + 512) (outsAt0 m c n hn) := by
  intro n
  induction n with
  | zero => exact fun hn i hi => holds_first c ⟨0, hn⟩ rfl i hi
  | succ n ih =>
    intro hn i hi
    by_cases h0 : (n + 1) % 8 = 0
    · rw [h0]
      exact holds_first c ⟨n + 1, hn⟩ h0 i hi
    · have H := ih (Nat.lt_of_succ_lt hn) i (by omega)
      rw [show 512 * (n % 8) + 512 = 512 * ((n + 1) % 8) by omega] at H
      exact holds_later c ⟨n + 1, hn⟩ i ⟨(n + 1) % 8, by omega⟩ rfl h0 H

/-- The last point of a block of rows stores them. -/
theorem done (c : Dev nD) (t : Fin cfg0.N) (h7 : t.val % 8 = 7) (i : Fin 32) (hi : t.val / 8 = i.val) :
    Done m c i (outsAt0 m c t.val t.isLt).1 := by
  have lt := point_lt t
  have H := holds (m := m) c (t.val - 1) (Nat.lt_of_le_of_lt (Nat.sub_le _ _) t.isLt) i (by omega)
  rw [show 512 * ((t.val - 1) % 8) + 512 = 512 * (7 : Fin 8).val by show _ = 512 * 7; omega] at H
  rw [outsAt0_C m c t (by omega) h7]
  intro r k
  frame_out
  rw [carried_row, carried_sum]
  refine (finish_at _ _ _ r k).trans ?_
  refine congrFun (congrArg₂ normed (funext fun j => ?_) (funext fun j => ?_)) k
  · rw [x_at m c t i hi r j]
    rw [sum_next c t i 7 h7 _ _ H.row H.sum r j]
    exact congrArg (rows m c (place i r) j + ·) (given_all _ _ _ j)
  · exact f_at m c t j

variable (m)

/-- The array of the feed-forward block's rows. -/
def outArray (c : Dev nD) : Vec Ideal S32768x1024 .f32 := fun y =>
  feed (rows m c (y 0)) (gain m c) (up m c) (down m c) (gain' m c) (y 1)

variable {m}

/-- Every block of the array is some point's. -/
theorem covers : (cfg0.win 5).Covers := by
  refine Pipeline.Window.covers_of_index_surj _ rfl (by decide) fun β => ?_
  have b0 : (β 0).val < 32 := (β 0).isLt
  have b1 : (β 1).val < 1 := (β 1).isLt
  refine ⟨⟨(β 0).val * 8, by show _ < 256; omega⟩, fun a => ?_⟩
  rw [at_o]
  match a with
  | ⟨0, _⟩ => show (β 0).val * 8 / 8 = (β 0).val; omega
  | ⟨1, _⟩ => show 0 = (β 1).val; omega

/-- The result array after the run. -/
theorem arr_eq (c : Dev nD) : (dats m 0 c).arrAt 5 cfg0.N = outArray m c := by
  refine (dats m 0 c).arrAt_eq_of_covers 5 _ covers fun t hf y => ?_
  have e := at_o t
  have lt := point_lt t
  have y0 : (y 0).val < 1024 := (y 0).isLt
  have y1 : (y 1).val < 1024 := (y 1).isLt
  have e0 : (((cfg0.win 5).blk t).view.emb y 0).val = 1024 * (t.val / 8) + (y 0).val := by
    blk_simp [e]; omega
  have e1 : (((cfg0.win 5).blk t).view.emb y 1).val = (y 1).val := by
    blk_simp [e]
  have D := done (m := m) c t ((flush0_5 t).1 hf) ⟨t.val / 8, by omega⟩ rfl ⟨(y 0).val, y0⟩ ⟨(y 1).val, y1⟩
  have ey : (ix2 ⟨(y 0).val, y0⟩ ⟨(y 1).val, y1⟩ : S1024x1024.Idx) = y := by
    funext a
    match a with
    | ⟨0, _⟩ => rfl
    | ⟨1, _⟩ => rfl
  have R : outArray m c (((cfg0.win 5).blk t).view.emb y)
      = feed (rows m c (place ⟨t.val / 8, by omega⟩ ⟨(y 0).val, y0⟩)) (gain m c) (up m c) (down m c) (gain' m c) ⟨(y 1).val, y1⟩ := by
    unfold outArray
    congr 2
    · exact Fin.ext e0
    · exact Fin.ext e1
  refine Eq.trans ?_ R.symm
  blk_simp
  rw [after0_5]
  exact (congrArg (outsAt0 m c t.val t.isLt).1 ey.symm).trans D

end Cert.Kernel2Ideal.Mlp

end
-- ==== Proof.MlpRef.lean ====
/- What the reference of the feed-forward block holds, at row `R` and column `k`: the block of that row. -/
module

public import Idealize.ShloMosaic.Lib.Pipeline.ValueKit
public import proofs.«01_k».proof.Proof.Gen.Reference2Ideal.Read
public import proofs.«01_k».proof.Proof.MlpProblem

@[expose] public section

set_option maxRecDepth 16384

noncomputable section

namespace Cert.Reference2Ideal.Mlp

open Cert.Reference2Ideal Cert.Reference2Ideal.Gen Cert.Reference2Ideal.Read Cert.Layer
open Idealize.ShloMosaic

variable (x0 : FVec Ideal S8x4096x1024 .f32) (x1 : FVec Ideal S1024 .f32) (x2 : FVec Ideal S1024x4096 .f32)
  (x3 : FVec Ideal S4096x1024 .f32) (x4 : FVec Ideal S1024 .f32)

/-- The normalised input. -/
theorem norm_at (b : Fin 8) (s : Fin 4096) (k : Fin 1024) :
    val_main_v12 (F := Ideal) x0 x1 (ix3 b s k) = normed (fun j => x0 (ix3 b s j)) (fun j => x1 (ix1 j)) k := by
  unfold normed scale
  pointwise [val_main_v0, val_main_cst, val_main_v1, val_main_v2, val_main_cst_0, val_main_v3, val_main_v4, val_main_cst_1,
    val_main_v5, val_main_v6, val_main_v7, val_main_v8, val_main_v9, val_main_v10, val_main_v11, val_main_v12]

/-- The squared positive parts. -/
theorem unit_at (b : Fin 8) (s : Fin 4096) (f : Fin 4096) :
    val_main_v15 (F := Ideal) x0 x1 x2 (ix3 b s f)
      = unit (normed (fun j => x0 (ix3 b s j)) (fun j => x1 (ix1 j))) (fun j => x2 (ix2 j f)) := by
  unfold unit
  simp only [← norm_at]
  unfold val_main_v15 val_main_v14 val_main_v13 val_main_call0_v0 val_main_call0_cst
  generalize val_main_v12 (F := Ideal) x0 x1 = h
  pointwise

/-- The input with the second product added. -/
theorem residual_at (b : Fin 8) (s : Fin 4096) (k : Fin 1024) :
    val_main_v17 (F := Ideal) x0 x1 x2 x3 (ix3 b s k)
      = summed (fun j => x0 (ix3 b s j)) (fun j => x1 (ix1 j)) (fun j f => x2 (ix2 j f)) (fun f j => x3 (ix2 f j)) k := by
  unfold summed
  simp only [← unit_at]
  unfold val_main_v17 val_main_v16
  generalize val_main_v15 (F := Ideal) x0 x1 x2 = h
  pointwise

/-- The result, by batch and position. -/
theorem feed_at (b : Fin 8) (s : Fin 4096) (k : Fin 1024) :
    val_main_v30 (F := Ideal) x0 x1 x2 x3 x4 (ix3 b s k)
      = feed (fun j => x0 (ix3 b s j)) (fun j => x1 (ix1 j)) (fun j f => x2 (ix2 j f)) (fun f j => x3 (ix2 f j))
          (fun j => x4 (ix1 j)) k := by
  unfold feed normed scale
  simp only [← residual_at]
  unfold val_main_v30 val_main_v29 val_main_v28 val_main_v27 val_main_v26 val_main_v25 val_main_v24 val_main_v23 val_main_cst_4
    val_main_v22 val_main_v21 val_main_cst_3 val_main_v20 val_main_v19 val_main_cst_2 val_main_v18
  generalize val_main_v17 (F := Ideal) x0 x1 x2 x3 = h
  pointwise

/-- The result, by row. -/
theorem result_at (R : Fin 32768) (k : Fin 1024) :
    val_main_v31 (F := Ideal) x0 x1 x2 x3 x4 (ix2 R k)
      = feed (fun j => x0 (ix3 ⟨R.val / 4096, by omega⟩ ⟨R.val % 4096, by omega⟩ j)) (fun j => x1 (ix1 j))
          (fun j f => x2 (ix2 j f)) (fun f j => x3 (ix2 f j)) (fun j => x4 (ix1 j)) k := by
  rw [← feed_at, val_main_v31_apply]
  refine congrArg _ (funext fun a => ?_)
  match a with
  | ⟨0, _⟩ => exact Fin.ext (by show (R.val * 1024 + k.val) / 4194304 = R.val / 4096; omega)
  | ⟨1, _⟩ => exact Fin.ext (by show (R.val * 1024 + k.val) / 1024 % 4096 = R.val % 4096; omega)
  | ⟨2, _⟩ => exact Fin.ext (by show (R.val * 1024 + k.val) % 1024 = k.val; omega)

end Cert.Reference2Ideal.Mlp

end
-- ==== Proof.MlpClaim.lean ====
/- The feed-forward block's claims: its reference's frame, and that the idealized kernel and the reference end with one
   array, the block's rows. -/
module

public import proofs.«01_k».proof.Defs
public import proofs.«01_k».proof.Proof.Gen.Reference2Ideal
public import proofs.«01_k».proof.Proof.Gen.Reference2Ideal.Run
public import proofs.«01_k».proof.Proof.MlpFold
public import proofs.«01_k».proof.Proof.MlpRef
public import Idealize.ShloMosaic.Lib.Quiescent

@[expose] public section

noncomputable section

namespace Cert.Mlp

open Idealize.ShloMosaic Idealize.SL.Sem

/-- The reference ends with its arguments unchanged and no counter raised: it has none. -/
theorem reference_frame : Cert.quiescent_Reference2Ideal (hReference2Ideal := Cert.Reference2Ideal.Gen.facts) := fun m g _ =>
  (θ_run Cert.Reference2Ideal.defs _ _).mono
    (fun r h => ⟨fun c => (h c).2, sem_eq_zero_of_no_sems rfl r.2⟩) (Cert.Reference2Ideal.Value.run m g)

/-- The idealized kernel ends with the block's rows, and so does the reference of arguments it shares. -/
theorem results : Cert.algebraic_Kernel2Ideal_Reference2Ideal (hKernel2Ideal := Cert.Kernel2Ideal.Gen.facts)
    (hReference2Ideal := Cert.Reference2Ideal.Gen.facts) := fun m g m' g' _ agree => by
  refine ⟨Cert.Kernel2Ideal.Mlp.outArray m, ?_, ?_⟩
  · refine (θ_run Cert.Kernel2Ideal.defs _ _).mono (fun r h c => ⟨((h.1 c).1 5).trans ?_, h.2.1 c⟩)
      (θ_run_and (Cert.Kernel2Ideal.Gen.run_main m g) (Cert.Kernel2Ideal.Gen.frame m g))
    exact Cert.Kernel2Ideal.Mlp.arr_eq c
  · refine (θ_run Cert.Reference2Ideal.defs _ _).mono (fun r h c => ⟨(h c).1.trans ?_, (h c).2⟩)
      (Cert.Reference2Ideal.Value.run m' g')
    obtain ⟨e0, e1, e2, e3, e4⟩ := agree c
    rw [Cert.Reference2Ideal.Read.val_main_v31_eq, e0, e1, e2, e3, e4]
    funext y
    obtain ⟨R, k, rfl⟩ : ∃ (R : Fin 32768) (k : Fin 1024), y = ix2 R k := ⟨y 0, y 1, eq_ix2 y⟩
    exact Cert.Reference2Ideal.Mlp.result_at _ _ _ _ _ R k

end Cert.Mlp

end
-- ==== Proof.MlpPlain.lean ====
/- The feed-forward kernel without the norm at the end. It has the blocks, the normalised rows and the sums of the one with it
   (Proof/MlpFold); only what the last point of a block of rows stores differs: the rows with what the units give added. -/
module

public import proofs.«01_k».proof.Proof.MlpFold
public import proofs.«01_k».proof.Proof.Gen.Kernel7Ideal.Frame

@[expose] public section

noncomputable section

namespace Cert.Kernel7Ideal.Mlp

open Cert.Kernel7Ideal Cert.Kernel7Ideal.Gen Cert.Layer
open Cert.Kernel2Ideal.Mlp (Holds place rows gain up down row_first sum_next zero_at point_lt x_at at_o covers)
open Idealize.ShloMosaic Idealize.ShloMosaic.TcCoe

variable {m : (ℓ : Loc nD τ sig) → Buf (Elt Ideal) ℓ}

theorem finish_at (x a : FVec Ideal S1024x1024 .f32) (r k : Fin 1024) :
    k0_pay4 (F := Ideal) x a (ix2 r k) = x (ix2 r k) + a (ix2 r k) := by
  pointwise [k0_pay4]

/-- A carried buffer read whole. -/
theorem carried_row (v : Vec Ideal S1024x1024 .bf16) : View.read (Elt Ideal) (View.whole cc0_scratch0)
    ((Memref.isWhole_whole (κ := .tc) cc0_scratch0).unread (Val := Elt Ideal) v) = v :=
  Memref.IsWhole.read_unread (Memref.isWhole_whole (κ := .tc) cc0_scratch0) v
theorem carried_sum (v : Vec Ideal S1024x1024 .f32) : View.read (Elt Ideal) (View.whole cc0_scratch1)
    ((Memref.isWhole_whole (κ := .tc) cc0_scratch1).unread (Val := Elt Ideal) v) = v :=
  Memref.IsWhole.read_unread (Memref.isWhole_whole (κ := .tc) cc0_scratch1) v

/-- The first point of a block of rows. -/
theorem holds_first (c : Dev nD) (t : Fin cfg0.N) (h0 : t.val % 8 = 0) (i : Fin 32) (hi : t.val / 8 = i.val) :
    Holds m c i 512 (outsAt0 m c t.val t.isLt) := by
  rw [outsAt0_A m c t h0 (by omega)]
  refine ⟨fun r k => ?_, fun r k => ?_⟩
  · frame_out
    exact row_first c t i hi r k
  · frame_out
    exact sum_next c t i 0 h0 _ _ (row_first c t i hi) (fun r k => (zero_at _).trans (given_zero _ _ _ k).symm) r k

/-- A later point, over what the point before left. -/
theorem holds_later (c : Dev nD) (t : Fin cfg0.N) (i : Fin 32) (j : Fin 8) (hj : t.val % 8 = j.val) (h0 : ¬t.val % 8 = 0)
    (H : Holds m c i (512 * j.val) (outsAt0 m c (t.val - 1) (Nat.lt_of_le_of_lt (Nat.sub_le _ _) t.isLt))) :
    Holds m c i (512 * j.val + 512) (outsAt0 m c t.val t.isLt) := by
  by_cases h1 : t.val % 8 = 7
  · rw [outsAt0_C m c t h0 h1]
    refine ⟨fun r k => ?_, fun r k => ?_⟩
    · frame_out
      exact H.row r k
    · frame_out
      rw [carried_row, carried_sum]
      exact sum_next c t i j hj _ _ H.row H.sum r k
  · rw [outsAt0_B m c t h0 h1]
    refine ⟨fun r k => ?_, fun r k => ?_⟩
    · frame_out
      exact H.row r k
    · frame_out
      rw [carried_row, carried_sum]
      exact sum_next c t i j hj _ _ H.row H.sum r k

/-- After each point. -/
theorem holds (c : Dev nD) : ∀ (n : ℕ) (hn : n < cfg0.N) (i : Fin 32), n / 8 = i.val →
    Holds m c i (512 * (n % 8) + 512) (outsAt0 m c n hn)
  | 0, hn, i, hi => holds_first c ⟨0, hn⟩ rfl i hi
  | n + 1, hn, i, hi => by
    by_cases h0 : (n + 1) % 8 = 0
    · rw [h0]
      exact holds_first c ⟨n + 1, hn⟩ h0 i hi
    · have H := holds c n (Nat.lt_of_succ_lt hn) i (by omega)
      rw [show 512 * (n % 8) + 512 = 512 * ((n + 1) % 8) by omega] at H
      exact holds_later c ⟨n + 1, hn⟩ i ⟨(n + 1) % 8, by omega⟩ rfl h0 H

/-- The last point of a block of rows stores them with the units' gifts added. -/
theorem done (c : Dev nD) (t : Fin cfg0.N) (h7 : t.val % 8 = 7) (i : Fin 32) (hi : t.val / 8 = i.val) (r k : Fin 1024) :
    (outsAt0 m c t.val t.isLt).1 (ix2 r k) = summed (rows m c (place i r)) (gain m c) (up m c) (down m c) k := by
  have lt := point_lt t
  have H := holds (m := m) c (t.val - 1) (Nat.lt_of_le_of_lt (Nat.sub_le _ _) t.isLt) i (by omega)
  rw [show 512 * ((t.val - 1) % 8) + 512 = 512 * (7 : Fin 8).val by show _ = 512 * 7; omega] at H
  rw [outsAt0_C m c t (by omega) h7]
  frame_out
  rw [carried_row, carried_sum]
  refine (finish_at _ _ r k).trans (congrArg₂ (· + ·) (x_at m c t i hi r k) ?_)
  exact (sum_next c t i 7 h7 _ _ H.row H.sum r k).trans (given_all _ _ _ k)

variable (m)

/-- The array of the block's rows. -/
def outArray (c : Dev nD) : Vec Ideal S32768x1024 .f32 := fun y => summed (rows m c (y 0)) (gain m c) (up m c) (down m c) (y 1)

variable {m}

/-- The result array after the run. -/
theorem arr_eq (c : Dev nD) : (dats m 0 c).arrAt 5 cfg0.N = outArray m c := by
  refine (dats m 0 c).arrAt_eq_of_covers 5 _ covers fun t hf y => ?_
  have e : (cfg0.win 5).index t = ![t.val / 8, 0] := at_o t
  have lt : t.val < 256 := point_lt t
  have y0 : (y 0).val < 1024 := (y 0).isLt
  have y1 : (y 1).val < 1024 := (y 1).isLt
  have e0 : (((cfg0.win 5).blk t).view.emb y 0).val = 1024 * (t.val / 8) + (y 0).val := by
    blk_simp [e]; omega
  have e1 : (((cfg0.win 5).blk t).view.emb y 1).val = (y 1).val := by
    blk_simp [e]
  have D := done (m := m) c t ((flush0_5 t).1 hf) ⟨t.val / 8, by omega⟩ rfl ⟨(y 0).val, y0⟩ ⟨(y 1).val, y1⟩
  have ey : (ix2 ⟨(y 0).val, y0⟩ ⟨(y 1).val, y1⟩ : S1024x1024.Idx) = y := by
    funext a
    match a with
    | ⟨0, _⟩ => rfl
    | ⟨1, _⟩ => rfl
  have R : outArray m c (((cfg0.win 5).blk t).view.emb y)
      = summed (rows m c (place ⟨t.val / 8, by omega⟩ ⟨(y 0).val, y0⟩)) (gain m c) (up m c) (down m c) ⟨(y 1).val, y1⟩ := by
    unfold outArray
    congr 2
    · exact Fin.ext e0
    · exact Fin.ext e1
  refine Eq.trans ?_ R.symm
  blk_simp
  rw [after0_5]
  exact (congrArg (outsAt0 m c t.val t.isLt).1 ey.symm).trans D

end Cert.Kernel7Ideal.Mlp

end
-- ==== Proof.MlpPlainClaim.lean ====
/- The feed-forward block without the norm at the end: what its reference holds, which is the other's before that norm, and the
   claims. -/
module

public import proofs.«01_k».proof.Defs
public import proofs.«01_k».proof.Proof.Gen.Reference7Ideal
public import proofs.«01_k».proof.Proof.Gen.Reference7Ideal.Run
public import proofs.«01_k».proof.Proof.Gen.Reference7Ideal.Read
public import proofs.«01_k».proof.Proof.MlpPlain
public import proofs.«01_k».proof.Proof.MlpRef
public import Idealize.ShloMosaic.Lib.Quiescent

@[expose] public section

noncomputable section

namespace Cert.Reference7Ideal.Mlp

open Cert.Reference7Ideal Cert.Reference7Ideal.Gen Cert.Reference7Ideal.Read Cert.Layer
open Idealize.ShloMosaic Idealize.SL.Sem

/-- The result, by row. -/
theorem result_at (x0 : FVec Ideal S8x4096x1024 .f32) (x1 : FVec Ideal S1024 .f32) (x2 : FVec Ideal S1024x4096 .f32)
    (x3 : FVec Ideal S4096x1024 .f32) (R : Fin 32768) (k : Fin 1024) :
    val_main_v18 (F := Ideal) x0 x1 x2 x3 (ix2 R k)
      = summed (fun j => x0 (ix3 ⟨R.val / 4096, by omega⟩ ⟨R.val % 4096, by omega⟩ j)) (fun j => x1 (ix1 j))
          (fun j f => x2 (ix2 j f)) (fun f j => x3 (ix2 f j)) k := by
  rw [← Cert.Reference2Ideal.Mlp.residual_at, val_main_v18_apply]
  refine congrArg (val_main_v17 (F := Ideal) x0 x1 x2 x3) (funext fun a => ?_)
  match a with
  | ⟨0, _⟩ => exact Fin.ext (by show (R.val * 1024 + k.val) / 4194304 = R.val / 4096; omega)
  | ⟨1, _⟩ => exact Fin.ext (by show (R.val * 1024 + k.val) / 1024 % 4096 = R.val % 4096; omega)
  | ⟨2, _⟩ => exact Fin.ext (by show (R.val * 1024 + k.val) % 1024 = k.val; omega)

/-- The reference ends with its arguments unchanged and no counter raised: it has none. -/
theorem reference_frame : Cert.quiescent_Reference7Ideal (hReference7Ideal := Cert.Reference7Ideal.Gen.facts) := fun m g _ =>
  (θ_run Cert.Reference7Ideal.defs _ _).mono
    (fun r h => ⟨fun c => (h c).2, sem_eq_zero_of_no_sems rfl r.2⟩) (Cert.Reference7Ideal.Value.run m g)

/-- The idealized kernel ends with the block's rows, and so does the reference of arguments it shares. -/
theorem results : Cert.algebraic_Kernel7Ideal_Reference7Ideal (hKernel7Ideal := Cert.Kernel7Ideal.Gen.facts)
    (hReference7Ideal := Cert.Reference7Ideal.Gen.facts) := fun m g m' g' _ agree => by
  refine ⟨Cert.Kernel7Ideal.Mlp.outArray m, ?_, ?_⟩
  · refine (θ_run Cert.Kernel7Ideal.defs _ _).mono (fun r h c => ⟨((h.1 c).1 5).trans ?_, h.2.1 c⟩)
      (θ_run_and (Cert.Kernel7Ideal.Gen.run_main m g) (Cert.Kernel7Ideal.Gen.frame m g))
    exact Cert.Kernel7Ideal.Mlp.arr_eq c
  · refine (θ_run Cert.Reference7Ideal.defs _ _).mono (fun r h c => ⟨(h c).1.trans ?_, (h c).2⟩)
      (Cert.Reference7Ideal.Value.run m' g')
    obtain ⟨e0, e1, e2, e3, _⟩ := agree c
    rw [val_main_v18_eq, e0, e1, e2, e3]
    funext y
    obtain ⟨R, k, rfl⟩ : ∃ (R : Fin 32768) (k : Fin 1024), y = ix2 R k := ⟨y 0, y 1, eq_ix2 y⟩
    exact result_at _ _ _ _ R k

end Cert.Reference7Ideal.Mlp

end
-- ==== Proof.Whole.lean ====
/- Loads and stores of a whole buffer: a load reads its contents, a store replaces them. -/
module

public import Idealize.ShloMosaic.Lib.Pipeline.ReadBack
public import Idealize.ShloMosaic.Lib.Pipeline.ValueKit

@[expose] public section

noncomputable section

namespace Cert.Layer

open Idealize.ShloMosaic

variable {F : FTy → Type} [FloatOps F] {sig : RefSig} {κ : Kind} {sp : Space} {S : Shape} {e : EltTy}

/-- The whole box of a buffer known whole loads its contents. -/
theorem load_whole {M : Memref sig κ sp S e} (hM : M.IsWhole) (x : Vec F S e) {off : Fin S.rank → Nat}
    (inb : ∀ a, off a + S.size a ≤ S.size a) (h : ∀ a, off a = 0) :
    View.readAt (Elt F) M.view (Rect.unit off (no_index S.size) inb).toLoadRect (hM.unread x) = x := by
  rw [View.readAt_eq_ld, hM.read_unread, View.ld_unit_lit inb x h]

/-- One store of the whole box, over anything, reads back as what was stored. -/
theorem store_whole (v : View sig κ sp S e) (f : v.ty.Contents (Elt F)) {off : Fin S.rank → Nat}
    (inb : ∀ a, off a + S.size a ≤ S.size a) (h : ∀ a, off a = 0) (x : Vec F S e) :
    v.read (Elt F) (v.writes (Elt F) f [⟨Rect.unit off (no_index S.size) inb, x⟩]) = x :=
  (View.read_writes_eq_canon _ _ _ fun y => ⟨_, List.mem_singleton_self _, View.mem_set_unit_zero (funext h) inb y⟩).trans
    (View.canon_cons_unit_lit inb x [] h)

end Cert.Layer

end
-- ==== Proof.ProjectRun.lean ====
/- The body of the normalized projection at one grid point, run on whole buffers. A point is `t = i·7 + j`: row block `i`,
   column block `j` of the wide weight. The first point of a row block normalizes its rows into the scratch and
   projects them onto the narrow weight; every point projects the scratch onto its column block of the wide weight. -/
module

public import proofs.«01_k».proof.Proof.Whole
public import proofs.«01_k».proof.Proof.Gen.Kernel3Ideal.Skeleton
public import proofs.«01_k».proof.Proof.Gen.Kernel3Ideal.Frame

@[expose] public section

set_option maxRecDepth 16384

noncomputable section

namespace Cert.Kernel3Ideal.Project

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its row block. -/
abbrev First (i : grid0.Coords) : Prop := k0_cond1 i = 1#1

theorem first_iff (t : Fin grid0.N) : First (grid0.coords t) ↔ t.val % 7 = 0 := by
  have h : (grid0.coords t 1).val = t.val / 1 % 7 := Pipeline.Grid.coords_val t 1 (by decide) rfl
  rw [Nat.div_one] at h
  simp only [First, k0_cond1, h]
  word_cmp

/-- The staging buffer of each window at a point, and its wholeness: the rows, the norm's weight, the wide and the narrow
    weight, the wide and the narrow result. -/
abbrev mx (t : Fin cfg0.N) : Memref sig .tc .vmem S1024x1024 .f32 := win0_0.stage (cfg0.slots t 0)
abbrev hx (t : Fin cfg0.N) : (mx t).IsWhole := hstage0_0 ((cfg0.slots t 0).cast nbuf0_0)
abbrev mg (t : Fin cfg0.N) : Memref sig .tc .vmem S1x1024 .f32 := win0_1.stage (cfg0.slots t 1)
abbrev hg (t : Fin cfg0.N) : (mg t).IsWhole := hstage0_1 ((cfg0.slots t 1).cast nbuf0_1)
abbrev mw (t : Fin cfg0.N) : Memref sig .tc .vmem S1024x1024 .bf16 := win0_2.stage (cfg0.slots t 2)
abbrev hw (t : Fin cfg0.N) : (mw t).IsWhole := hstage0_2 ((cfg0.slots t 2).cast nbuf0_2)
abbrev mn (t : Fin cfg0.N) : Memref sig .tc .vmem S1024x128 .bf16 := win0_3.stage (cfg0.slots t 3)
abbrev hn (t : Fin cfg0.N) : (mn t).IsWhole := hstage0_3 ((cfg0.slots t 3).cast nbuf0_3)
abbrev mo (t : Fin cfg0.N) : Memref sig .tc .vmem S1024x1024 .f32 := win0_4.stage (cfg0.slots t 4)
abbrev ho (t : Fin cfg0.N) : (mo t).IsWhole := hstage0_4 ((cfg0.slots t 4).cast nbuf0_4)
abbrev ms (t : Fin cfg0.N) : Memref sig .tc .vmem S1024x128 .f32 := win0_5.stage (cfg0.slots t 5)
abbrev hs (t : Fin cfg0.N) : (ms t).IsWhole := hstage0_5 ((cfg0.slots t 5).cast nbuf0_5)
/-- The scratch holding the normalized rows. -/
abbrev mh : Memref sig .tc .vmem S1024x1024 .bf16 := Memref.whole cc0_scratch0

/-- The invariant the launch starts and ends with: the scratch at some contents, and the generator's register. -/
theorem rest_eq (c : Dev nD) :
    (Pipeline.ΦA spec0 c : sProp 𝕄)
      = iprop(iprop((∃ d, owns (c : Thread nD τ) mh fullShare d)) ∗ (∃ r, prngReg c r)) := by
  unfold Pipeline.ΦA; rw [scopedRest0_eq]; simp only [mh, owns_whole]; try rfl

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .bf16) (harg8 : arg8.IsWhole)
    (x : Vec F S1024x1024 .f32) (g : Vec F S1x1024 .f32) (w : Vec F S1024x1024 .bf16) (n : Vec F S1024x128 .bf16)

set_option maxHeartbeats 1000000 in
/-- At the first point of a row block, the inputs left as they were. -/
theorem run_first (hf : First i) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare n ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w ∗ owns (c : Thread nD τ) arg5 fullShare n ∗ owns (c : Thread nD τ) arg6 fullShare (k0_pay4 (k0_pay2 x g) w) ∗ owns (c : Thread nD τ) arg7 fullShare (k0_pay3 x g n) ∗ owns (c : Thread nD τ) arg8 fullShare (k0_pay2 x g)) -∗ K ⟨⟩))
      ⊢ wp frame (wpE (defs₀ (F := F)) Variants.none c none) E (cc0_rms_project i arg2 harg2 arg3 harg3 arg4 harg4 arg5 harg5 arg6 harg6 arg7 harg7 arg8 harg8) K := by
  simp only [cc0_rms_project_eq_skeleton]; unfold cc0_rms_project_skel
  unfold owns
  iintro ⟨⟨%fx, %hfx, Hx⟩, ⟨%fg, %hfg, Hg⟩, ⟨%fw, %hfw, Hw⟩, ⟨%fn, %hfn, Hn⟩, ⟨%dw, %fo, -, Ho⟩, ⟨%ds, %fs, -, Hs⟩, ⟨%dh, %fh, -, Hh⟩, Hend⟩
  obtain rfl := harg2.eq_unread hfx; obtain rfl := harg3.eq_unread hfg; obtain rfl := harg4.eq_unread hfw; obtain rfl := harg5.eq_unread hfn
  sl_exec (disch := sl_exact hf)
  sl_step
  iapply Hend
  isplitl [Hx]
  · iexists _; isplitr; · ipureintro; exact harg2.read_unread _
    iexact Hx
  isplitl [Hg]
  · iexists _; isplitr; · ipureintro; exact harg3.read_unread _
    iexact Hg
  isplitl [Hw]
  · iexists _; isplitr; · ipureintro; exact harg4.read_unread _
    iexact Hw
  isplitl [Hn]
  · iexists _; isplitr; · ipureintro; exact harg5.read_unread _
    iexact Hn
  isplitl [Ho]
  · iexists _; isplitr
    swap; · iexact Ho
    ipureintro
    rw [Layer.store_whole _ _ _ (by decide)]
    delta run_first.sl.v3 run_first.sl.Hh_1
    simp (disch := decide) only [Layer.load_whole, View.readCov_unit_lit']
  isplitl [Hs]
  · iexists _; isplitr
    swap; · iexact Hs
    ipureintro
    rw [Layer.store_whole _ _ _ (by decide)]
    simp (disch := decide) only [Layer.load_whole]
  iexists _; isplitr
  swap; · iexact Hh
  ipureintro
  delta run_first.sl.Hh_1
  rw [Layer.store_whole _ _ _ (by decide)]
  simp (disch := decide) only [Layer.load_whole]

set_option maxHeartbeats 1000000 in
/-- At a later point, from the normalized rows `h` in the scratch: only the wide result changes. -/
theorem run_later (h : Vec F S1024x1024 .bf16) (s : Vec F S1024x128 .f32) (hf : ¬First i) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare n ∗ (∃ d, owns (c : Thread nD τ) arg6 fullShare d) ∗ owns (c : Thread nD τ) arg7 fullShare s ∗ owns (c : Thread nD τ) arg8 fullShare h
        ∗ (iprop(owns (c : Thread nD τ) arg2 fullShare x ∗ owns (c : Thread nD τ) arg3 fullShare g ∗ owns (c : Thread nD τ) arg4 fullShare w ∗ owns (c : Thread nD τ) arg5 fullShare n ∗ owns (c : Thread nD τ) arg6 fullShare (k0_pay4 h w) ∗ owns (c : Thread nD τ) arg7 fullShare s ∗ owns (c : Thread nD τ) arg8 fullShare h) -∗ K ⟨⟩))
      ⊢ wp frame (wpE (defs₀ (F := F)) Variants.none c none) E (cc0_rms_project i arg2 harg2 arg3 harg3 arg4 harg4 arg5 harg5 arg6 harg6 arg7 harg7 arg8 harg8) K := by
  simp only [cc0_rms_project_eq_skeleton]; unfold cc0_rms_project_skel
  unfold owns
  iintro ⟨⟨%fx, %hfx, Hx⟩, ⟨%fg, %hfg, Hg⟩, ⟨%fw, %hfw, Hw⟩, ⟨%fn, %hfn, Hn⟩, ⟨%dw, %fo, -, Ho⟩, ⟨%fs, %hfs, Hs⟩, ⟨%fh, %hfh, Hh⟩, Hend⟩
  obtain rfl := harg2.eq_unread hfx; obtain rfl := harg3.eq_unread hfg; obtain rfl := harg4.eq_unread hfw; obtain rfl := harg5.eq_unread hfn
  obtain rfl := harg7.eq_unread hfs; obtain rfl := harg8.eq_unread hfh
  sl_exec (disch := sl_exact hf)
  sl_step
  iapply Hend
  isplitl [Hx]
  · iexists _; isplitr; · ipureintro; exact harg2.read_unread _
    iexact Hx
  isplitl [Hg]
  · iexists _; isplitr; · ipureintro; exact harg3.read_unread _
    iexact Hg
  isplitl [Hw]
  · iexists _; isplitr; · ipureintro; exact harg4.read_unread _
    iexact Hw
  isplitl [Hn]
  · iexists _; isplitr; · ipureintro; exact harg5.read_unread _
    iexact Hn
  isplitl [Ho]
  · iexists _; isplitr
    swap; · iexact Ho
    ipureintro
    rw [Layer.store_whole _ _ _ (by decide)]
    simp (disch := decide) only [Layer.load_whole]
  isplitl [Hs]
  · iexists _; isplitr; · ipureintro; exact harg7.read_unread _
    iexact Hs
  iexists _; isplitr; · ipureintro; exact harg8.read_unread _
  iexact Hh

end Cert.Kernel3Ideal.Project

end
-- ==== Proof.ProjectFrame.lean ====
/- The whole run of the normalized projection: what the results' buffers and the scratch hold after each grid point, the
   proof that the body takes each point's state to the next, and the launch. -/
module

public import proofs.«01_k».proof.Proof.ProjectRun
public import Idealize.ShloMosaic.Lib.Pipeline.TableIdle
public import Idealize.ShloMosaic.Lib.Claim

@[expose] public section

set_option maxRecDepth 16384

noncomputable section

namespace Cert.Kernel3Ideal.Project

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The first point of a point's row block. -/
def start (t : Fin cfg0.N) : Fin cfg0.N := ⟨t.val - t.val % 7, Nat.lt_of_le_of_lt (Nat.sub_le _ _) t.isLt⟩

theorem start_first (t : Fin cfg0.N) (h : t.val % 7 = 0) : start t = t := Fin.ext (by simp only [start]; omega)

/-- A later point has the first point of the point before it. -/
theorem start_later (t : Fin cfg0.N) (h : ¬t.val % 7 = 0) (hp : t.val - 1 < cfg0.N) : start ⟨t.val - 1, hp⟩ = start t :=
  Fin.ext (by simp only [start]; omega)

/-- The normalized rows in the scratch after a point, -/
def rowsAt (c : Dev nD) (t : Fin cfg0.N) : Vec F S1024x1024 .bf16 := k0_pay2 (iblk m c 0 (start t)) (iblk m c 1 (start t))
/-- the wide result's block, -/
def wideAt (c : Dev nD) (t : Fin cfg0.N) : Vec F S1024x1024 .f32 := k0_pay4 (rowsAt m c t) (iblk m c 2 t)
/-- and the narrow result's. -/
def thinAt (c : Dev nD) (t : Fin cfg0.N) : Vec F S1024x128 .f32 :=
  k0_pay3 (iblk m c 0 (start t)) (iblk m c 1 (start t)) (iblk m c 3 (start t))

theorem rowsAt_later (c : Dev nD) (t : Fin cfg0.N) (h : ¬t.val % 7 = 0) (hp : t.val - 1 < cfg0.N) :
    rowsAt m c ⟨t.val - 1, hp⟩ = rowsAt m c t := by unfold rowsAt; rw [start_later t h hp]
theorem thinAt_later (c : Dev nD) (t : Fin cfg0.N) (h : ¬t.val % 7 = 0) (hp : t.val - 1 < cfg0.N) :
    thinAt m c ⟨t.val - 1, hp⟩ = thinAt m c t := by unfold thinAt; rw [start_later t h hp]

/-! ## The proof data -/

/-- Before the first point the scratch holds anything; after a point the normalized rows. -/
def PhiS (c : Dev nD) : (n : ℕ) → n ≤ cfg0.N → sProp 𝕄
  | 0, _ => Pipeline.ΦA spec0 c
  | n + 1, hn => iprop(iprop(owns (c : Thread nD τ) mh fullShare (rowsAt m c ⟨n, hn⟩)) ∗ (∃ r, prngReg c r))

theorem PhiS_pos (c : Dev nD) (n : ℕ) (h : n ≤ cfg0.N) (hz : n ≠ 0) :
    PhiS m c n h = iprop(iprop(owns (c : Thread nD τ) mh fullShare (rowsAt m c ⟨n - 1, by omega⟩)) ∗ (∃ r, prngReg c r)) := by
  cases n with
  | zero => exact absurd rfl hz
  | succ n => rfl

/-- Whatever the invariant knows of the scratch may be forgotten. -/
theorem PhiS_forget (c : Dev nD) (n : ℕ) (h : n ≤ cfg0.N) :
    PhiS m c n h ⊢ iprop(iprop((∃ d, owns (c : Thread nD τ) mh fullShare d)) ∗ (∃ r, prngReg c r)) := by
  cases n with
  | zero => rw [← rest_eq]; exact Idealize.SL.BI.Entails.refl _
  | succ n =>
    rw [PhiS_pos m c _ h (Nat.succ_ne_zero n)]
    iintro ⟨Hs, Hg⟩
    isplitl [Hs]
    · iexists _; iexact Hs
    iexact Hg

/-- The pipeline's proof data: each input's buffer at its block, the results' at theirs, the normalized rows in the
    invariant, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wideAt m c t
    | ⟨5, _⟩ => thinAt m c t
  Φ t := PhiS m c t.val (Nat.le_of_lt_succ t.isLt)
  q w := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_x (c : Dev nD) (t : Fin cfg0.N) : (dats m 0 c).after 0 t = iblk m c 0 t := by dsimp only [dats]
theorem after_g (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_n (c : Dev nD) (t : Fin cfg0.N) : (dats m 0 c).after 3 t = iblk m c 3 t := by dsimp only [dats]
theorem after_o (c : Dev nD) (t : Fin cfg0.N) : (dats m 0 c).after 4 t = wideAt m c t := by dsimp only [dats]
theorem after_s (c : Dev nD) (t : Fin cfg0.N) : (dats m 0 c).after 5 t = thinAt m c t := by dsimp only [dats]

theorem before_x (c : Dev nD) (t : Fin cfg0.N) (d) : (dats m 0 c).before 0 t d = iblk m c 0 t :=
  before0_0_of m (dats m 0 c) (A_eq m c 0) (after_x m c) t d
theorem before_g (c : Dev nD) (t : Fin cfg0.N) (d) : (dats m 0 c).before 1 t d = iblk m c 1 t :=
  before0_1_of m (dats m 0 c) (A_eq m c 1) (after_g m c) t d
theorem before_w (c : Dev nD) (t : Fin cfg0.N) (d) : (dats m 0 c).before 2 t d = iblk m c 2 t :=
  before0_2_of m (dats m 0 c) (A_eq m c 2) (after_w m c) t d
theorem before_n (c : Dev nD) (t : Fin cfg0.N) (d) : (dats m 0 c).before 3 t d = iblk m c 3 t :=
  before0_3_of m (dats m 0 c) (A_eq m c 3) (after_n m c) t d

/-! ## The narrow result's buffer between points -/

/-- Where the body stores nothing into the narrow result the point is not a row block's first. -/
theorem not_first_of_idle (t : Fin cfg0.N) (h : cfg0.idle 5 (grid0.coords t) = true) : ¬t.val % 7 = 0 := by
  have h' : (!(k0_cond1 (grid0.coords t) == 1#1)) = true := h
  simp only [Bool.not_eq_true', beq_eq_false_iff_ne, ne_eq] at h'
  exact fun e => h' ((first_iff t).2 e)

/-- The narrow result's buffer holds nothing of the kernel's only at a row block's first point. -/
theorem first_of_fresh : ∀ n, n ≤ cfg0.N → cfg0.fresh 5 n = true → n % 7 = 0
  | 0, _, _ => rfl
  | n + 1, hn, h => by
    rw [Cfg.fresh_succ cfg0 5 n hn, Bool.or_eq_true, Bool.and_eq_true] at h
    rcases h with h | ⟨hi, hf⟩
    · have := (flush0_5 ⟨n, hn⟩).1 h
      simp only at this; omega
    · exact absurd (first_of_fresh n (Nat.le_of_lt hn) hf) (not_first_of_idle ⟨n, hn⟩ hi)

/-- Past a row block's first point the narrow result's buffer holds what is to be there. -/
theorem before_s (c : Dev nD) (t : Fin cfg0.N) (h : ¬t.val % 7 = 0) (d) : (dats m 0 c).before 5 t d = thinAt m c t := by
  have hf : cfg0.fresh 5 t.val = false := by
    cases hc : cfg0.fresh 5 t.val
    · rfl
    · exact absurd (first_of_fresh t.val (Nat.le_of_lt t.isLt) hc) h
  rw [(dats m 0 c).before_out_traj 5 rfl (fun _ _ => rfl) (fun t hz hi _ => by
    have hn := not_first_of_idle t hi
    rw [after_s, after_s, thinAt_later m c t hn]) t.val t rfl d, hf, after_s]
  exact thinAt_later m c t h _

/-- The narrow result's buffer at its block is what the point is to leave there. -/
theorem leaves_s (c : Dev nD) (t : Fin cfg0.N) :
    owns (c : Thread nD τ) (ms t) fullShare (thinAt m c t) ⊢ ((dats m 0 c).leavesExact 5 t : sProp 𝕄) := by
  unfold Dat.leavesExact
  cases hi : cfg0.idle 5 (cfg0.grid.coords t)
  · simp only [after_s]; exact Idealize.SL.BI.Entails.refl _
  · cases hf : (cfg0.win 5).flush t
    · have hn := not_first_of_idle t hi
      simp only [before_s m c t hn]
      iintro H
      iexists (fun _ => Classical.arbitrary _)
      iexact H
    · simp only [after_s]; exact Idealize.SL.BI.Entails.refl _

theorem leaves_x (c : Dev nD) (t : Fin cfg0.N) : (dats m 0 c).leavesExact 0 t = owns (c : Thread nD τ) (mx t) fullShare (iblk m c 0 t) := by
  unfold Dat.leavesExact; rw [show cfg0.idle 0 (cfg0.grid.coords t) = false from rfl, after_x]
theorem leaves_g (c : Dev nD) (t : Fin cfg0.N) : (dats m 0 c).leavesExact 1 t = owns (c : Thread nD τ) (mg t) fullShare (iblk m c 1 t) := by
  unfold Dat.leavesExact; rw [show cfg0.idle 1 (cfg0.grid.coords t) = false from rfl, after_g]
theorem leaves_w (c : Dev nD) (t : Fin cfg0.N) : (dats m 0 c).leavesExact 2 t = owns (c : Thread nD τ) (mw t) fullShare (iblk m c 2 t) := by
  unfold Dat.leavesExact; rw [show cfg0.idle 2 (cfg0.grid.coords t) = false from rfl, after_w]
theorem leaves_n (c : Dev nD) (t : Fin cfg0.N) : (dats m 0 c).leavesExact 3 t = owns (c : Thread nD τ) (mn t) fullShare (iblk m c 3 t) := by
  unfold Dat.leavesExact; rw [show cfg0.idle 3 (cfg0.grid.coords t) = false from rfl, after_n]
theorem leaves_o (c : Dev nD) (t : Fin cfg0.N) : (dats m 0 c).leavesExact 4 t = owns (c : Thread nD τ) (mo t) fullShare (wideAt m c t) := by
  unfold Dat.leavesExact; rw [show cfg0.idle 4 (cfg0.grid.coords t) = false from rfl, after_o]

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (mg t) fullShare ((dats m 0 c).before 1 t d))
    ∗ (∃ d, owns (c : Thread nD τ) (mw t) fullShare ((dats m 0 c).before 2 t d))
    ∗ (∃ d, owns (c : Thread nD τ) (mn t) fullShare ((dats m 0 c).before 3 t d))
    ∗ (∃ d, owns (c : Thread nD τ) (mo t) fullShare ((dats m 0 c).before 4 t d))
    ∗ (∃ d, owns (c : Thread nD τ) (ms t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_g, before_w, before_n, leaves_x, leaves_g, leaves_w, leaves_n, leaves_o]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), Phi_castSucc]
  rw [show rowsAt m c ⟨t.val + 1 - 1, _⟩ = rowsAt m c t from rfl]
  by_cases h0 : t.val % 7 = 0
  · have hf : First (grid0.coords t) := (first_iff t).2 h0
    iintro ⟨HP, Hq, ⟨%d0, Hx⟩, ⟨%d1, Hg⟩, ⟨%d2, Hw⟩, ⟨%d3, Hn⟩, ⟨%d4, Ho⟩, ⟨%d5, Hs⟩⟩
    ihave HP := (PhiS_forget m c _ _) $$ HP
    icases HP with ⟨Hh, Hr⟩
    iapply (run_first c (grid0.coords t) (mx t) (hx t) (mg t) (hg t) (mw t) (hw t) (mn t) (hn t) (mo t) (ho t) (ms t) (hs t) mh (Memref.isWhole_whole _) (iblk m c 0 t) (iblk m c 1 t) (iblk m c 2 t) (iblk m c 3 t) hf Set.univ _)
    isplitl [Hx]; · iexact Hx
    isplitl [Hg]; · iexact Hg
    isplitl [Hw]; · iexact Hw
    isplitl [Hn]; · iexact Hn
    isplitl [Ho]; · iexists _; iexact Ho
    isplitl [Hs]; · iexists _; iexact Hs
    isplitl [Hh]; · iexact Hh
    iintro ⟨Hx, Hg, Hw, Hn, Ho, Hs, Hh⟩
    rw [show rowsAt m c t = k0_pay2 (iblk m c 0 t) (iblk m c 1 t) by unfold rowsAt; rw [start_first t h0],
      show wideAt m c t = k0_pay4 (k0_pay2 (iblk m c 0 t) (iblk m c 1 t)) (iblk m c 2 t) by unfold wideAt rowsAt; rw [start_first t h0]]
    isplitl [Hh Hr]
    · isplitl [Hh]; · iexact Hh
      iexact Hr
    isplitl [Hq]; · iexact Hq
    isplitl [Hx]; · iexact Hx
    isplitl [Hg]; · iexact Hg
    isplitl [Hw]; · iexact Hw
    isplitl [Hn]; · iexact Hn
    isplitl [Ho]; · iexact Ho
    iapply (leaves_s m c t)
    rw [show thinAt m c t = k0_pay3 (iblk m c 0 t) (iblk m c 1 t) (iblk m c 3 t) by unfold thinAt; rw [start_first t h0]]
    iexact Hs
  · have hf : ¬First (grid0.coords t) := fun h => h0 ((first_iff t).1 h)
    have hz : t.val ≠ 0 := fun h => h0 (by rw [h])
    rw [PhiS_pos m c _ _ hz, rowsAt_later m c t h0]
    simp only [before_s m c t h0]
    iintro ⟨⟨Hh, Hr⟩, Hq, ⟨%d0, Hx⟩, ⟨%d1, Hg⟩, ⟨%d2, Hw⟩, ⟨%d3, Hn⟩, ⟨%d4, Ho⟩, ⟨%d5, Hs⟩⟩
    iapply (run_later c (grid0.coords t) (mx t) (hx t) (mg t) (hg t) (mw t) (hw t) (mn t) (hn t) (mo t) (ho t) (ms t) (hs t) mh (Memref.isWhole_whole _) (iblk m c 0 t) (iblk m c 1 t) (iblk m c 2 t) (iblk m c 3 t) (rowsAt m c t) (thinAt m c t) hf Set.univ _)
    isplitl [Hx]; · iexact Hx
    isplitl [Hg]; · iexact Hg
    isplitl [Hw]; · iexact Hw
    isplitl [Hn]; · iexact Hn
    isplitl [Ho]; · iexists _; iexact Ho
    isplitl [Hs]; · iexact Hs
    isplitl [Hh]; · iexact Hh
    iintro ⟨Hx, Hg, Hw, Hn, Ho, Hs, Hh⟩
    isplitl [Hh Hr]
    · isplitl [Hh]; · iexact Hh
      iexact Hr
    isplitl [Hq]; · iexact Hq
    isplitl [Hx]; · iexact Hx
    isplitl [Hg]; · iexact Hg
    isplitl [Hw]; · iexact Hw
    isplitl [Hn]; · iexact Hn
    isplitl [Ho]; · iexact Ho
    iapply (leaves_s m c t)
    iexact Hs

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

theorem launch_in (c : Dev nD) : Pipeline.ΦA spec0 c ⊢ (dats m 0 c).Φ 0 := by
  rw [show (dats m 0 c).Φ 0 = PhiS m c 0 (Nat.zero_le _) from rfl]
  exact Idealize.SL.BI.Entails.refl _

theorem launch_out (c : Dev nD) : (dats m 0 c).Φ (Fin.last cfg0.N) ⊢ Pipeline.ΦA spec0 c := by
  rw [show (dats m 0 c).Φ (Fin.last cfg0.N) = PhiS m c cfg0.N (Nat.le_refl _) from rfl, rest_eq]
  exact PhiS_forget m c _ _

-- the launch theorem's implicit arguments are found by unfolding plain definitions in a metavariable's type
set_option backward.isDefEq.respectTransparency.types false in
/-- From any memory with zero counters every fair execution ends, at the proof data's arrays and with the counters zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := launch_in m) (hout := launch_out m)

/-- The arguments end as they began and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel3Ideal.Project

end
-- ==== Proof.ProjectAbBits.lean ====
/- The first layer's normalized projection as printed is the idealized one's text at machine floats: its body, its launch and
   its host operations are the same, so its run is the idealized kernel's. -/
module

public import proofs.«01_k».proof.Defs
public import proofs.«01_k».proof.Proof.Gen.Kernel3
public import proofs.«01_k».proof.Proof.ProjectFrame

@[expose] public section

set_option maxRecDepth 8000

noncomputable section

namespace Cert.Kernel3

open Idealize.ShloMosaic Idealize.SL.Sem

/-- The bodies are one. -/
theorem body_eq (i : Kernel3Ideal.grid0.Coords) (x : Memref Kernel3Ideal.sig .tc .vmem Kernel3Ideal.S1024x1024 .f32)
    (g : Memref Kernel3Ideal.sig .tc .vmem Kernel3Ideal.S1x1024 .f32) (w : Memref Kernel3Ideal.sig .tc .vmem Kernel3Ideal.S1024x1024 .bf16)
    (n : Memref Kernel3Ideal.sig .tc .vmem Kernel3Ideal.S1024x128 .bf16) (o : Memref Kernel3Ideal.sig .tc .vmem Kernel3Ideal.S1024x1024 .f32)
    (s : Memref Kernel3Ideal.sig .tc .vmem Kernel3Ideal.S1024x128 .f32) (h : Memref Kernel3Ideal.sig .tc .vmem Kernel3Ideal.S1024x1024 .bf16)
    (hx : x.IsWhole) (hg : g.IsWhole) (hw : w.IsWhole) (hn : n.IsWhole) (ho : o.IsWhole) (hs : s.IsWhole) (hh : h.IsWhole) :
    cc0_rms_project (F := Bits) i x hx g hg w hw n hn o ho s hs h hh
      = Kernel3Ideal.cc0_rms_project (F := Bits) i x hx g hg w hw n hn o ho s hs h hh := by
  unfold cc0_rms_project Kernel3Ideal.cc0_rms_project
  rfl

/-- So are the definitions a launch calls. -/
theorem defs_eq : defs (F := Bits) = Kernel3Ideal.defs (F := Bits) := by
  refine congrArg (Pipeline.defs Kernel3Ideal.pcfgs) ?_
  unfold defs₀ Kernel3Ideal.defs₀
  refine congrArg Defs.onTc (funext fun l => funext fun x => ?_)
  match l, x with
  | 0, (t, s) => exact body_eq _ _ _ _ _ _ _ _ _ _ _ _ _ _ _

/-- The kernel's frame. -/
theorem frame (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Kernel3Ideal.Project.frame (F := Bits) m g

end Cert.Kernel3

end
-- ==== Proof.ProjectProblem.lean ====
/- The projection of a normalised row onto a column of a weight, and columns laid out with zeros after them. -/
module

public import Idealize.ShloMosaic.Lib.KernelVsHost
public import proofs.«01_k».proof.Proof.Rms

@[expose] public section

noncomputable section

namespace Cert.Layer

/-- The normalised row times a column. -/
def onto (x g w : Fin 1024 → EReal) : EReal := ∑ j, normed x g j * w j

/-- The first `n` of 128 lanes, the others zero. -/
def lanes {n : ℕ} (f : Fin n → EReal) (k : Fin 128) : EReal := if h : k.val < n then f ⟨k.val, h⟩ else 0

/-- Onto zeros a row projects to zero: the lanes of a weight make the lanes of the projection. -/
theorem onto_lanes {n : ℕ} (x g : Fin 1024 → EReal) (w : Fin 1024 → Fin n → EReal) (k : Fin 128) :
    onto x g (fun j => lanes (w j) k) = lanes (fun i => onto x g (fun j => w j i)) k := by
  unfold lanes
  by_cases h : k.val < n
  · simp only [dif_pos h]
  · simp only [dif_neg h]
    unfold onto
    simp only [mul_zero, Finset.sum_const_zero]

open Idealize.ShloMosaic in
/-- The integer zero is the real zero. -/
theorem zero_word : (FloatOps.sitofp FTy.f32 0#32 : Ideal FTy.f32) = 0 := sitofp_zero

end Cert.Layer

end
-- ==== Proof.ProjectAb.lean ====
/- The first layer's normalized projection: what a grid point computes, what its blocks hold, and the two result arrays. -/
module

public import Idealize.ShloMosaic.Lib.Pipeline.ValueKit
public import Idealize.ShloMosaic.Lib.Pipeline.Covers
public import proofs.«01_k».proof.Proof.ProjectFrame
public import proofs.«01_k».proof.Proof.ProjectProblem

@[expose] public section

set_option maxRecDepth 16384

noncomputable section

namespace Cert.Kernel3Ideal.Project

open Cert.Kernel3Ideal Cert.Kernel3Ideal.Gen Cert.Layer
open Idealize.ShloMosaic Idealize.ShloMosaic.TcCoe

/-! ## One point -/

theorem rows_pay (x : FVec Ideal S1024x1024 .f32) (g : FVec Ideal S1x1024 .f32) (r k : Fin 1024) :
    k0_pay2 (F := Ideal) x g (ix2 r k) = normed (fun j => x (ix2 r j)) (fun j => g (ix2 0 j)) k := by
  unfold normed scale
  pointwise [k0_pay2, k0_pay1]

theorem wide_pay (h : FVec Ideal S1024x1024 .bf16) (w : FVec Ideal S1024x1024 .bf16) (r : Fin 1024) (k : Fin 1024) :
    k0_pay4 (F := Ideal) h w (ix2 r k) = ∑ j : Fin 1024, h (ix2 r j) * w (ix2 j k) := by
  pointwise [k0_pay4]

theorem thin_pay (x : FVec Ideal S1024x1024 .f32) (g : FVec Ideal S1x1024 .f32) (n : FVec Ideal S1024x128 .bf16) (r : Fin 1024)
    (k : Fin 128) :
    k0_pay3 (F := Ideal) x g n (ix2 r k) = onto (fun j => x (ix2 r j)) (fun j => g (ix2 0 j)) (fun j => n (ix2 j k)) := by
  unfold onto normed scale
  pointwise [k0_pay3, k0_pay1]

variable (m : (ℓ : Loc nD τ sig) → Buf (Elt Ideal) ℓ)

/-! ## The arguments -/

/-- The arguments, by position; a row is a batch's and a place's. -/
def rows (c : Dev nD) (R : Fin 32768) (k : Fin 1024) : EReal :=
  m ((c : Thread nD τ).loc main_arg0) (ix3 ⟨R.val / 4096, by omega⟩ ⟨R.val % 4096, by omega⟩ k)
def gain (c : Dev nD) (k : Fin 1024) : EReal := m ((c : Thread nD τ).loc main_arg1) (ix1 k)
def weight (c : Dev nD) (j : Fin 1024) (k : Fin 7184) : EReal := m ((c : Thread nD τ).loc main_arg2) (ix2 j k)

/-- The column of the weight a wide result's column is of, and a narrow one's. -/
def wideCol (k : Fin 7168) : Fin 7184 := ⟨k.val, by omega⟩
def thinCol (k : Fin 16) : Fin 7184 := ⟨7168 + k.val, by omega⟩

/-- The arguments as the host lays them out. -/
theorem rows_entry (c : Dev nD) (R : Fin 32768) (k : Fin 1024) : V m c main_v0 (ix2 R k) = rows m c R k := by
  unfold rows
  simp only [V, hostOps0, hostOps0_1, hostOps0_2, List.flatten_cons, List.flatten_nil, List.append_nil, List.cons_append,
    List.nil_append]
  entry_read
  pointwise
theorem gain_entry (c : Dev nD) (k : Fin 1024) : V m c main_v6 (ix2 0 k) = gain m c k := by
  unfold gain
  simp only [V, hostOps0, hostOps0_1, hostOps0_2, List.flatten_cons, List.flatten_nil, List.append_nil, List.cons_append,
    List.nil_append]
  entry_read
  pointwise
theorem wide_entry (c : Dev nD) (j : Fin 1024) (k : Fin 7168) : V m c main_v2 (ix2 j k) = weight m c j (wideCol k) := by
  unfold weight wideCol
  simp only [V, hostOps0, hostOps0_1, hostOps0_2, List.flatten_cons, List.flatten_nil, List.append_nil, List.cons_append,
    List.nil_append]
  entry_read
  pointwise
theorem thin_entry (c : Dev nD) (j : Fin 1024) (k : Fin 128) :
    V m c main_v5 (ix2 j k) = lanes (fun i => weight m c j (thinCol i)) k := by
  unfold lanes weight thinCol
  simp only [V, hostOps0, hostOps0_1, hostOps0_2, List.flatten_cons, List.flatten_nil, List.append_nil, List.cons_append,
    List.nil_append]
  entry_read
  simp only [StableHlo.TRef.toBuf, StableHlo.TRef.ofBuf, cast_cast, cast_eq]
  pointwise
  rw [zero_word]

/-! ## The blocks -/

/-- The place of each window's block. -/
theorem at_x : ∀ t : Fin cfg0.N, (cfg0.win 0).index t = ![t.val / 7, 0] := by decide +kernel
theorem at_g : ∀ t : Fin cfg0.N, (cfg0.win 1).index t = ![0, 0] := by decide +kernel
theorem at_w : ∀ t : Fin cfg0.N, (cfg0.win 2).index t = ![0, t.val % 7] := by decide +kernel
theorem at_n : ∀ t : Fin cfg0.N, (cfg0.win 3).index t = ![0, 0] := by decide +kernel
theorem at_o : ∀ t : Fin cfg0.N, (cfg0.win 4).index t = ![t.val / 7, t.val % 7] := by decide +kernel
theorem at_s : ∀ t : Fin cfg0.N, (cfg0.win 5).index t = ![t.val / 7, 0] := by decide +kernel

theorem point_lt (t : Fin cfg0.N) : t.val < 224 := t.isLt

/-- The row of a point's row block, -/
def place (t : Fin cfg0.N) (r : Fin 1024) : Fin 32768 := ⟨1024 * (t.val / 7) + r.val, by have := point_lt t; omega⟩
/-- and the column of its column block. -/
def column (t : Fin cfg0.N) (k : Fin 1024) : Fin 7168 := ⟨1024 * (t.val % 7) + k.val, by omega⟩

/-- The first point of a row block has its rows. -/
theorem place_start (t : Fin cfg0.N) (r : Fin 1024) : place (start t) r = place t r :=
  Fin.ext (by show 1024 * ((t.val - t.val % 7) / 7) + r.val = 1024 * (t.val / 7) + r.val; omega)

theorem x_at (c : Dev nD) (t : Fin cfg0.N) (r k : Fin 1024) : iblk m c 0 t (ix2 r k) = rows m c (place t r) k := by
  rw [← rows_entry]; unfold place
  blk_ext [iblk, at_x t]
theorem g_at (c : Dev nD) (t : Fin cfg0.N) (k : Fin 1024) : iblk m c 1 t (ix2 0 k) = gain m c k := by
  rw [← gain_entry]
  blk_ext [iblk, at_g t]
theorem w_at (c : Dev nD) (t : Fin cfg0.N) (j : Fin 1024) (k : Fin 1024) :
    iblk m c 2 t (ix2 j k) = weight m c j (wideCol (column t k)) := by
  rw [← wide_entry]; unfold column
  blk_ext [iblk, at_w t]
theorem n_at (c : Dev nD) (t : Fin cfg0.N) (j : Fin 1024) (k : Fin 128) :
    iblk m c 3 t (ix2 j k) = lanes (fun i => weight m c j (thinCol i)) k := by
  rw [← thin_entry]
  blk_ext [iblk, at_n t]

/-- What a point leaves of the wide result, -/
theorem wideAt_at (c : Dev nD) (t : Fin cfg0.N) (r : Fin 1024) (k : Fin 1024) :
    wideAt m c t (ix2 r k) = onto (rows m c (place t r)) (gain m c) (fun j => weight m c j (wideCol (column t k))) := by
  unfold wideAt
  rw [wide_pay]
  unfold onto rowsAt
  refine Finset.sum_congr rfl fun j _ => ?_
  rw [rows_pay, w_at]
  simp only [x_at, g_at, place_start]
/-- and of the narrow one. -/
theorem thinAt_at (c : Dev nD) (t : Fin cfg0.N) (r : Fin 1024) (k : Fin 128) :
    thinAt m c t (ix2 r k) = lanes (fun i => onto (rows m c (place t r)) (gain m c) (fun j => weight m c j (thinCol i))) k := by
  unfold thinAt
  rw [thin_pay]
  simp only [x_at, g_at, n_at, place_start]
  exact onto_lanes _ _ _ k

/-! ## The result arrays -/

def wideArray (c : Dev nD) : Buf (Elt Ideal) ((c : Thread nD τ).loc main_v7_0) := fun y =>
  onto (rows m c (y 0)) (gain m c) (fun j => weight m c j (wideCol (y 1)))
def thinArray (c : Dev nD) : Buf (Elt Ideal) ((c : Thread nD τ).loc main_v7_1) := fun y =>
  lanes (fun i => onto (rows m c (y 0)) (gain m c) (fun j => weight m c j (thinCol i))) (y 1)

theorem covers_wide : (cfg0.win 4).Covers := by
  refine Pipeline.Window.covers_of_index_surj _ rfl (by decide) fun β => ?_
  have b0 : (β 0).val < 32 := (β 0).isLt
  have b1 : (β 1).val < 7 := (β 1).isLt
  refine ⟨⟨7 * (β 0).val + (β 1).val, by show _ < 224; omega⟩, fun a => ?_⟩
  rw [at_o]
  match a with
  | ⟨0, _⟩ => show (7 * (β 0).val + (β 1).val) / 7 = (β 0).val; omega
  | ⟨1, _⟩ => show (7 * (β 0).val + (β 1).val) % 7 = (β 1).val; omega

theorem covers_thin : (cfg0.win 5).Covers := by
  refine Pipeline.Window.covers_of_index_surj _ rfl (by decide) fun β => ?_
  have b0 : (β 0).val < 32 := (β 0).isLt
  have b1 : (β 1).val < 1 := (β 1).isLt
  refine ⟨⟨7 * (β 0).val, by show _ < 224; omega⟩, fun a => ?_⟩
  rw [at_s]
  match a with
  | ⟨0, _⟩ => show 7 * (β 0).val / 7 = (β 0).val; omega
  | ⟨1, _⟩ => show 0 = (β 1).val; omega

/-- The wide result's array after the run. -/
theorem wide_eq (c : Dev nD) : (dats m 0 c).arrAt 4 cfg0.N = wideArray m c := by
  refine (dats m 0 c).arrAt_eq_of_covers 4 _ covers_wide fun t hf y => ?_
  have e := at_o t
  have y0 : (y 0).val < 1024 := (y 0).isLt
  have y1 : (y 1).val < 1024 := (y 1).isLt
  have e0 : ((cfg0.win 4).blk t).view.emb y 0 = place t ⟨(y 0).val, y0⟩ := Fin.ext (by
    show _ = 1024 * (t.val / 7) + (y 0).val; blk_simp [e]; omega)
  have e1 : ((cfg0.win 4).blk t).view.emb y 1 = column t ⟨(y 1).val, y1⟩ := Fin.ext (by
    show _ = 1024 * (t.val % 7) + (y 1).val; blk_simp [e]; omega)
  have ey : (ix2 ⟨(y 0).val, y0⟩ ⟨(y 1).val, y1⟩ : S1024x1024.Idx) = y := by
    funext a
    match a with
    | ⟨0, _⟩ => rfl
    | ⟨1, _⟩ => rfl
  have R : wideArray m c (((cfg0.win 4).blk t).view.emb y)
      = onto (rows m c (place t ⟨(y 0).val, y0⟩)) (gain m c) (fun j => weight m c j (wideCol (column t ⟨(y 1).val, y1⟩))) := by
    unfold wideArray
    rw [e0, e1]
  refine Eq.trans ?_ R.symm
  blk_simp
  rw [after_o]
  exact (congrArg (wideAt m c t) ey.symm).trans (wideAt_at m c t _ _)

/-- The narrow result's array after the run. -/
theorem thin_eq (c : Dev nD) : (dats m 0 c).arrAt 5 cfg0.N = thinArray m c := by
  refine (dats m 0 c).arrAt_eq_of_covers 5 _ covers_thin fun t hf y => ?_
  have e := at_s t
  have y0 : (y 0).val < 1024 := (y 0).isLt
  have y1 : (y 1).val < 128 := (y 1).isLt
  have e0 : ((cfg0.win 5).blk t).view.emb y 0 = place t ⟨(y 0).val, y0⟩ := Fin.ext (by
    show _ = 1024 * (t.val / 7) + (y 0).val; blk_simp [e]; omega)
  have e1 : ((cfg0.win 5).blk t).view.emb y 1 = (⟨(y 1).val, y1⟩ : Fin 128) := Fin.ext (by blk_simp [e])
  have ey : (ix2 ⟨(y 0).val, y0⟩ ⟨(y 1).val, y1⟩ : S1024x128.Idx) = y := by
    funext a
    match a with
    | ⟨0, _⟩ => rfl
    | ⟨1, _⟩ => rfl
  have R : thinArray m c (((cfg0.win 5).blk t).view.emb y)
      = lanes (fun i => onto (rows m c (place t ⟨(y 0).val, y0⟩)) (gain m c) (fun j => weight m c j (thinCol i))) ⟨(y 1).val, y1⟩ := by
    unfold thinArray
    rw [e0, e1]
  refine Eq.trans ?_ R.symm
  blk_simp
  rw [after_s]
  exact (congrArg (thinAt m c t) ey.symm).trans (thinAt_at m c t _ _)

end Cert.Kernel3Ideal.Project

end
-- ==== Proof.ProjectAbClaim.lean ====
/- The first layer's normalized projection: what its reference holds, and the claims. -/
module

public import proofs.«01_k».proof.Defs
public import proofs.«01_k».proof.Proof.Gen.Reference3Ideal
public import proofs.«01_k».proof.Proof.Gen.Reference3Ideal.Run
public import proofs.«01_k».proof.Proof.Gen.Reference3Ideal.Read
public import proofs.«01_k».proof.Proof.ProjectAb
public import Idealize.ShloMosaic.Lib.Quiescent

@[expose] public section

set_option maxRecDepth 16384

noncomputable section

namespace Cert.Reference3Ideal.Project

open Cert.Reference3Ideal Cert.Reference3Ideal.Gen Cert.Reference3Ideal.Read Cert.Layer
open Idealize.ShloMosaic

variable (x0 : FVec Ideal S8x4096x1024 .f32) (x1 : FVec Ideal S1024 .f32) (x2 : FVec Ideal S1024x7184 .f32)

/-- The normalised input. -/
theorem norm_at (b : Fin 8) (s : Fin 4096) (k : Fin 1024) :
    val_main_v12 (F := Ideal) x0 x1 (ix3 b s k) = normed (fun j => x0 (ix3 b s j)) (fun j => x1 (ix1 j)) k := by
  unfold normed scale
  pointwise [val_main_v0, val_main_cst, val_main_v1, val_main_v2, val_main_cst_0, val_main_v3, val_main_v4, val_main_cst_1,
    val_main_v5, val_main_v6, val_main_v7, val_main_v8, val_main_v9, val_main_v10, val_main_v11, val_main_v12]

/-- The product, by batch and position, -/
theorem product_at (b : Fin 8) (s : Fin 4096) (k : Fin 7184) :
    val_main_v13 (F := Ideal) x0 x1 x2 (ix3 b s k)
      = onto (fun j => x0 (ix3 b s j)) (fun j => x1 (ix1 j)) (fun j => x2 (ix2 j k)) := by
  unfold onto
  simp only [← norm_at]
  unfold val_main_v13
  generalize val_main_v12 (F := Ideal) x0 x1 = h
  pointwise

/-- and by row. -/
theorem row_at (R : Fin 32768) (k : Fin 7184) :
    val_main_v14 (F := Ideal) x0 x1 x2 (ix2 R k)
      = onto (fun j => x0 (ix3 ⟨R.val / 4096, by omega⟩ ⟨R.val % 4096, by omega⟩ j)) (fun j => x1 (ix1 j))
          (fun j => x2 (ix2 j k)) := by
  rw [← product_at, val_main_v14_apply]
  refine congrArg _ (funext fun a => ?_)
  match a with
  | ⟨0, _⟩ => exact Fin.ext (by show (R.val * 7184 + k.val) / 29425664 = R.val / 4096; omega)
  | ⟨1, _⟩ => exact Fin.ext (by show (R.val * 7184 + k.val) / 7184 % 4096 = R.val % 4096; omega)
  | ⟨2, _⟩ => exact Fin.ext (by show (R.val * 7184 + k.val) % 7184 = k.val; omega)

open Cert.Kernel3Ideal.Project (wideCol thinCol)

/-- The wide result. -/
theorem wide_at (R : Fin 32768) (k : Fin 7168) :
    val_main_v15 (F := Ideal) x0 x1 x2 (ix2 R k)
      = onto (fun j => x0 (ix3 ⟨R.val / 4096, by omega⟩ ⟨R.val % 4096, by omega⟩ j)) (fun j => x1 (ix1 j))
          (fun j => x2 (ix2 j (wideCol k))) := by
  rw [← row_at]
  unfold val_main_v15 wideCol
  generalize val_main_v14 (F := Ideal) x0 x1 x2 = h
  pointwise

/-- The narrow result. -/
theorem thin_at (R : Fin 32768) (k : Fin 128) :
    val_main_v17 (F := Ideal) x0 x1 x2 (ix2 R k)
      = lanes (fun i => onto (fun j => x0 (ix3 ⟨R.val / 4096, by omega⟩ ⟨R.val % 4096, by omega⟩ j)) (fun j => x1 (ix1 j))
          (fun j => x2 (ix2 j (thinCol i)))) k := by
  simp only [← row_at]
  unfold val_main_v17 val_main_v16 val_main_call0_v0 val_main_c thinCol lanes
  generalize val_main_v14 (F := Ideal) x0 x1 x2 = h
  pointwise
  rw [zero_word]

open Idealize.SL.Sem

/-- The reference ends with its arguments unchanged and no counter raised: it has none. -/
theorem reference_frame : Cert.quiescent_Reference3Ideal (hReference3Ideal := Cert.Reference3Ideal.Gen.facts) := fun m g _ =>
  (θ_run Cert.Reference3Ideal.defs _ _).mono
    (fun r h => ⟨fun c => (h c).2.2, sem_eq_zero_of_no_sems rfl r.2⟩) (Cert.Reference3Ideal.Value.run m g)

/-- The idealized kernel ends with the projected rows, and so does the reference of arguments it shares. -/
theorem results : Cert.algebraic_Kernel3Ideal_Reference3Ideal (hKernel3Ideal := Cert.Kernel3Ideal.Gen.facts)
    (hReference3Ideal := Cert.Reference3Ideal.Gen.facts) := fun m g m' g' _ agree => by
  refine ⟨Cert.Kernel3Ideal.Project.wideArray m, Cert.Kernel3Ideal.Project.thinArray m, ?_, ?_⟩
  · refine (θ_run Cert.Kernel3Ideal.defs _ _).mono
      (fun r h c => ⟨((h.1.1 c).1 4).trans (Cert.Kernel3Ideal.Project.wide_eq m c),
        ((h.1.1 c).1 5).trans (Cert.Kernel3Ideal.Project.thin_eq m c), h.2.1 c⟩)
      (θ_run_and (Cert.Kernel3Ideal.Project.run_main m g) (Cert.Kernel3Ideal.Project.frame m g))
  · refine (θ_run Cert.Reference3Ideal.defs _ _).mono (fun r h c => ⟨(h c).1.trans ?_, (h c).2.1.trans ?_, (h c).2.2⟩)
      (Cert.Reference3Ideal.Value.run m' g')
    · obtain ⟨e0, e1, e2⟩ := agree c
      rw [val_main_v15_eq, e0, e1, e2]
      funext y
      obtain ⟨R, k, rfl⟩ : ∃ (R : Fin 32768) (k : Fin 7168), y = ix2 R k := ⟨y 0, y 1, eq_ix2 y⟩
      exact wide_at _ _ _ R k
    · obtain ⟨e0, e1, e2⟩ := agree c
      rw [val_main_v17_eq, e0, e1, e2]
      funext y
      obtain ⟨R, k, rfl⟩ : ∃ (R : Fin 32768) (k : Fin 128), y = ix2 R k := ⟨y 0, y 1, eq_ix2 y⟩
      exact thin_at _ _ _ R k

end Cert.Reference3Ideal.Project

end
-- ==== Proof.ProjectCdRun.lean ====
/- The body of the second layer's normalized projection at one grid point, run on whole buffers. A point is `t = i·7 + j`:
   row block `i`, column block `j` of the wide weight. The first point of a row block normalizes its rows into the scratch
   and projects them onto the narrow weight; every point projects the scratch onto its column block of the wide weight. -/
module

public import proofs.«01_k».proof.Proof.Whole
public import proofs.«01_k».proof.Proof.Gen.Kernel4Ideal.Skeleton
public import proofs.«01_k».proof.Proof.Gen.Kernel4Ideal.Frame

@[expose] public section

set_option maxRecDepth 16384

noncomputable section

namespace Cert.Kernel4Ideal.Project

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its row block. -/
abbrev First (i : grid0.Coords) : Prop := k0_cond1 i = 1#1

theorem first_iff (t : Fin grid0.N) : First (grid0.coords t) ↔ t.val % 7 = 0 := by
  have h : (grid0.coords t 1).val = t.val / 1 % 7 := Pipeline.Grid.coords_val t 1 (by decide) rfl
  rw [Nat.div_one] at h
  simp only [First, k0_cond1, h]
  word_cmp

/-- The staging buffer of each window at a point, and its wholeness: the rows, the norm's weight, the wide and the narrow
    weight, the wide and the narrow result. -/
abbrev mx (t : Fin cfg0.N) : Memref sig .tc .vmem S1024x1024 .f32 := win0_0.stage (cfg0.slots t 0)
abbrev hx (t : Fin cfg0.N) : (mx t).IsWhole := hstage0_0 ((cfg0.slots t 0).cast nbuf0_0)
abbrev mg (t : Fin cfg0.N) : Memref sig .tc .vmem S1x1024 .f32 := win0_1.stage (cfg0.slots t 1)
abbrev hg (t : Fin cfg0.N) : (mg t).IsWhole := hstage0_1 ((cfg0.slots t 1).cast nbuf0_1)
abbrev mw (t : Fin cfg0.N) : Memref sig .tc .vmem S1024x512 .bf16 := win0_2.stage (cfg0.slots t 2)
abbrev hw (t : Fin cfg0.N) : (mw t).IsWhole := hstage0_2 ((cfg0.slots t 2).cast nbuf0_2)
abbrev mn (t : Fin cfg0.N) : Memref sig .tc .vmem S1024x128 .bf16 := win0_3.stage (cfg0.slots t 3)
abbrev hn (t : Fin cfg0.N) : (mn t).IsWhole := hstage0_3 ((cfg0.slots t 3).cast nbuf0_3)
abbrev mo (t : Fin cfg0.N) : Memref sig .tc .vmem S1024x512 .f32 := win0_4.stage (cfg0.slots t 4)
abbrev ho (t : Fin cfg0.N) : (mo t).IsWhole := hstage0_4 ((cfg0.slots t 4).cast nbuf0_4)
abbrev ms (t : Fin cfg0.N) : Memref sig .tc .vmem S1024x128 .f32 := win0_5.stage (cfg0.slots t 5)
abbrev hs (t : Fin cfg0.N) : (ms t).IsWhole := hstage0_5 ((cfg0.slots t 5).cast nbuf0_5)
/-- The scratch holding the normalized rows. -/
abbrev mh : Memref sig .tc .vmem S1024x1024 .bf16 := Memref.whole cc0_scratch0

/-- The invariant the launch starts and ends with: the scratch at some contents, and the generator's register. -/
theorem rest_eq (c : Dev nD) :
    (Pipeline.ΦA spec0 c : sProp 𝕄)
      = iprop(iprop((∃ d, owns (c : Thread nD τ) mh fullShare d)) ∗ (∃ r, prngReg c r)) := by
  unfold Pipeline.ΦA; rw [scopedRest0_eq]; simp only [mh, owns_whole]; try rfl

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x1024 .bf16) (harg8 : arg8.IsWhole)
    (x : Vec F S1024x1024 .f32) (g : Vec F S1x1024 .f32) (w : Vec F S1024x512 .bf16) (n : Vec F S1024x128 .bf16)

set_option maxHeartbeats 1000000 in
/-- At the first point of a row block, the inputs left as they were. -/
theorem run_first (hf : First i) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare n ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w ∗ owns (c : Thread nD τ) arg5 fullShare n ∗ owns (c : Thread nD τ) arg6 fullShare (k0_pay4 (k0_pay2 x g) w) ∗ owns (c : Thread nD τ) arg7 fullShare (k0_pay3 x g n) ∗ owns (c : Thread nD τ) arg8 fullShare (k0_pay2 x g)) -∗ K ⟨⟩))
      ⊢ wp frame (wpE (defs₀ (F := F)) Variants.none c none) E (cc0_rms_project i arg2 harg2 arg3 harg3 arg4 harg4 arg5 harg5 arg6 harg6 arg7 harg7 arg8 harg8) K := by
  simp only [cc0_rms_project_eq_skeleton]; unfold cc0_rms_project_skel
  unfold owns
  iintro ⟨⟨%fx, %hfx, Hx⟩, ⟨%fg, %hfg, Hg⟩, ⟨%fw, %hfw, Hw⟩, ⟨%fn, %hfn, Hn⟩, ⟨%dw, %fo, -, Ho⟩, ⟨%ds, %fs, -, Hs⟩, ⟨%dh, %fh, -, Hh⟩, Hend⟩
  obtain rfl := harg2.eq_unread hfx; obtain rfl := harg3.eq_unread hfg; obtain rfl := harg4.eq_unread hfw; obtain rfl := harg5.eq_unread hfn
  sl_exec (disch := sl_exact hf)
  sl_step
  iapply Hend
  isplitl [Hx]
  · iexists _; isplitr; · ipureintro; exact harg2.read_unread _
    iexact Hx
  isplitl [Hg]
  · iexists _; isplitr; · ipureintro; exact harg3.read_unread _
    iexact Hg
  isplitl [Hw]
  · iexists _; isplitr; · ipureintro; exact harg4.read_unread _
    iexact Hw
  isplitl [Hn]
  · iexists _; isplitr; · ipureintro; exact harg5.read_unread _
    iexact Hn
  isplitl [Ho]
  · iexists _; isplitr
    swap; · iexact Ho
    ipureintro
    rw [Layer.store_whole _ _ _ (by decide)]
    delta run_first.sl.v3 run_first.sl.Hh_1
    simp (disch := decide) only [Layer.load_whole, View.readCov_unit_lit']
  isplitl [Hs]
  · iexists _; isplitr
    swap; · iexact Hs
    ipureintro
    rw [Layer.store_whole _ _ _ (by decide)]
    simp (disch := decide) only [Layer.load_whole]
  iexists _; isplitr
  swap; · iexact Hh
  ipureintro
  delta run_first.sl.Hh_1
  rw [Layer.store_whole _ _ _ (by decide)]
  simp (disch := decide) only [Layer.load_whole]

set_option maxHeartbeats 1000000 in
/-- At a later point, from the normalized rows `h` in the scratch: only the wide result changes. -/
theorem run_later (h : Vec F S1024x1024 .bf16) (s : Vec F S1024x128 .f32) (hf : ¬First i) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare n ∗ (∃ d, owns (c : Thread nD τ) arg6 fullShare d) ∗ owns (c : Thread nD τ) arg7 fullShare s ∗ owns (c : Thread nD τ) arg8 fullShare h
        ∗ (iprop(owns (c : Thread nD τ) arg2 fullShare x ∗ owns (c : Thread nD τ) arg3 fullShare g ∗ owns (c : Thread nD τ) arg4 fullShare w ∗ owns (c : Thread nD τ) arg5 fullShare n ∗ owns (c : Thread nD τ) arg6 fullShare (k0_pay4 h w) ∗ owns (c : Thread nD τ) arg7 fullShare s ∗ owns (c : Thread nD τ) arg8 fullShare h) -∗ K ⟨⟩))
      ⊢ wp frame (wpE (defs₀ (F := F)) Variants.none c none) E (cc0_rms_project i arg2 harg2 arg3 harg3 arg4 harg4 arg5 harg5 arg6 harg6 arg7 harg7 arg8 harg8) K := by
  simp only [cc0_rms_project_eq_skeleton]; unfold cc0_rms_project_skel
  unfold owns
  iintro ⟨⟨%fx, %hfx, Hx⟩, ⟨%fg, %hfg, Hg⟩, ⟨%fw, %hfw, Hw⟩, ⟨%fn, %hfn, Hn⟩, ⟨%dw, %fo, -, Ho⟩, ⟨%fs, %hfs, Hs⟩, ⟨%fh, %hfh, Hh⟩, Hend⟩
  obtain rfl := harg2.eq_unread hfx; obtain rfl := harg3.eq_unread hfg; obtain rfl := harg4.eq_unread hfw; obtain rfl := harg5.eq_unread hfn
  obtain rfl := harg7.eq_unread hfs; obtain rfl := harg8.eq_unread hfh
  sl_exec (disch := sl_exact hf)
  sl_step
  iapply Hend
  isplitl [Hx]
  · iexists _; isplitr; · ipureintro; exact harg2.read_unread _
    iexact Hx
  isplitl [Hg]
  · iexists _; isplitr; · ipureintro; exact harg3.read_unread _
    iexact Hg
  isplitl [Hw]
  · iexists _; isplitr; · ipureintro; exact harg4.read_unread _
    iexact Hw
  isplitl [Hn]
  · iexists _; isplitr; · ipureintro; exact harg5.read_unread _
    iexact Hn
  isplitl [Ho]
  · iexists _; isplitr
    swap; · iexact Ho
    ipureintro
    rw [Layer.store_whole _ _ _ (by decide)]
    simp (disch := decide) only [Layer.load_whole]
  isplitl [Hs]
  · iexists _; isplitr; · ipureintro; exact harg7.read_unread _
    iexact Hs
  iexists _; isplitr; · ipureintro; exact harg8.read_unread _
  iexact Hh

end Cert.Kernel4Ideal.Project

end
-- ==== Proof.ProjectCdFrame.lean ====
/- The whole run of the second layer's normalized projection: what the results' buffers and the scratch hold after each grid
   point, the proof that the body takes each point's state to the next, and the launch. -/
module

public import proofs.«01_k».proof.Proof.ProjectCdRun
public import Idealize.ShloMosaic.Lib.Pipeline.TableIdle
public import Idealize.ShloMosaic.Lib.Claim

@[expose] public section

set_option maxRecDepth 16384

noncomputable section

namespace Cert.Kernel4Ideal.Project

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The first point of a point's row block. -/
def start (t : Fin cfg0.N) : Fin cfg0.N := ⟨t.val - t.val % 7, Nat.lt_of_le_of_lt (Nat.sub_le _ _) t.isLt⟩

theorem start_first (t : Fin cfg0.N) (h : t.val % 7 = 0) : start t = t := Fin.ext (by simp only [start]; omega)

/-- A later point has the first point of the point before it. -/
theorem start_later (t : Fin cfg0.N) (h : ¬t.val % 7 = 0) (hp : t.val - 1 < cfg0.N) : start ⟨t.val - 1, hp⟩ = start t :=
  Fin.ext (by simp only [start]; omega)

/-- The normalized rows in the scratch after a point, -/
def rowsAt (c : Dev nD) (t : Fin cfg0.N) : Vec F S1024x1024 .bf16 := k0_pay2 (iblk m c 0 (start t)) (iblk m c 1 (start t))
/-- the wide result's block, -/
def wideAt (c : Dev nD) (t : Fin cfg0.N) : Vec F S1024x512 .f32 := k0_pay4 (rowsAt m c t) (iblk m c 2 t)
/-- and the narrow result's. -/
def thinAt (c : Dev nD) (t : Fin cfg0.N) : Vec F S1024x128 .f32 :=
  k0_pay3 (iblk m c 0 (start t)) (iblk m c 1 (start t)) (iblk m c 3 (start t))

theorem rowsAt_later (c : Dev nD) (t : Fin cfg0.N) (h : ¬t.val % 7 = 0) (hp : t.val - 1 < cfg0.N) :
    rowsAt m c ⟨t.val - 1, hp⟩ = rowsAt m c t := by unfold rowsAt; rw [start_later t h hp]
theorem thinAt_later (c : Dev nD) (t : Fin cfg0.N) (h : ¬t.val % 7 = 0) (hp : t.val - 1 < cfg0.N) :
    thinAt m c ⟨t.val - 1, hp⟩ = thinAt m c t := by unfold thinAt; rw [start_later t h hp]

/-! ## The proof data -/

/-- Before the first point the scratch holds anything; after a point the normalized rows. -/
def PhiS (c : Dev nD) : (n : ℕ) → n ≤ cfg0.N → sProp 𝕄
  | 0, _ => Pipeline.ΦA spec0 c
  | n + 1, hn => iprop(iprop(owns (c : Thread nD τ) mh fullShare (rowsAt m c ⟨n, hn⟩)) ∗ (∃ r, prngReg c r))

theorem PhiS_pos (c : Dev nD) (n : ℕ) (h : n ≤ cfg0.N) (hz : n ≠ 0) :
    PhiS m c n h = iprop(iprop(owns (c : Thread nD τ) mh fullShare (rowsAt m c ⟨n - 1, by omega⟩)) ∗ (∃ r, prngReg c r)) := by
  cases n with
  | zero => exact absurd rfl hz
  | succ n => rfl

/-- Whatever the invariant knows of the scratch may be forgotten. -/
theorem PhiS_forget (c : Dev nD) (n : ℕ) (h : n ≤ cfg0.N) :
    PhiS m c n h ⊢ iprop(iprop((∃ d, owns (c : Thread nD τ) mh fullShare d)) ∗ (∃ r, prngReg c r)) := by
  cases n with
  | zero => rw [← rest_eq]; exact Idealize.SL.BI.Entails.refl _
  | succ n =>
    rw [PhiS_pos m c _ h (Nat.succ_ne_zero n)]
    iintro ⟨Hs, Hg⟩
    isplitl [Hs]
    · iexists _; iexact Hs
    iexact Hg

/-- The pipeline's proof data: each input's buffer at its block, the results' at theirs, the normalized rows in the
    invariant, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wideAt m c t
    | ⟨5, _⟩ => thinAt m c t
  Φ t := PhiS m c t.val (Nat.le_of_lt_succ t.isLt)
  q w := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_x (c : Dev nD) (t : Fin cfg0.N) : (dats m 0 c).after 0 t = iblk m c 0 t := by dsimp only [dats]
theorem after_g (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_n (c : Dev nD) (t : Fin cfg0.N) : (dats m 0 c).after 3 t = iblk m c 3 t := by dsimp only [dats]
theorem after_o (c : Dev nD) (t : Fin cfg0.N) : (dats m 0 c).after 4 t = wideAt m c t := by dsimp only [dats]
theorem after_s (c : Dev nD) (t : Fin cfg0.N) : (dats m 0 c).after 5 t = thinAt m c t := by dsimp only [dats]

theorem before_x (c : Dev nD) (t : Fin cfg0.N) (d) : (dats m 0 c).before 0 t d = iblk m c 0 t :=
  before0_0_of m (dats m 0 c) (A_eq m c 0) (after_x m c) t d
theorem before_g (c : Dev nD) (t : Fin cfg0.N) (d) : (dats m 0 c).before 1 t d = iblk m c 1 t :=
  before0_1_of m (dats m 0 c) (A_eq m c 1) (after_g m c) t d
theorem before_w (c : Dev nD) (t : Fin cfg0.N) (d) : (dats m 0 c).before 2 t d = iblk m c 2 t :=
  before0_2_of m (dats m 0 c) (A_eq m c 2) (after_w m c) t d
theorem before_n (c : Dev nD) (t : Fin cfg0.N) (d) : (dats m 0 c).before 3 t d = iblk m c 3 t :=
  before0_3_of m (dats m 0 c) (A_eq m c 3) (after_n m c) t d

/-! ## The narrow result's buffer between points -/

/-- Where the body stores nothing into the narrow result the point is not a row block's first. -/
theorem not_first_of_idle (t : Fin cfg0.N) (h : cfg0.idle 5 (grid0.coords t) = true) : ¬t.val % 7 = 0 := by
  have h' : (!(k0_cond1 (grid0.coords t) == 1#1)) = true := h
  simp only [Bool.not_eq_true', beq_eq_false_iff_ne, ne_eq] at h'
  exact fun e => h' ((first_iff t).2 e)

/-- The narrow result's buffer holds nothing of the kernel's only at a row block's first point. -/
theorem first_of_fresh : ∀ n, n ≤ cfg0.N → cfg0.fresh 5 n = true → n % 7 = 0
  | 0, _, _ => rfl
  | n + 1, hn, h => by
    rw [Cfg.fresh_succ cfg0 5 n hn, Bool.or_eq_true, Bool.and_eq_true] at h
    rcases h with h | ⟨hi, hf⟩
    · have := (flush0_5 ⟨n, hn⟩).1 h
      simp only at this; omega
    · exact absurd (first_of_fresh n (Nat.le_of_lt hn) hf) (not_first_of_idle ⟨n, hn⟩ hi)

/-- Past a row block's first point the narrow result's buffer holds what is to be there. -/
theorem before_s (c : Dev nD) (t : Fin cfg0.N) (h : ¬t.val % 7 = 0) (d) : (dats m 0 c).before 5 t d = thinAt m c t := by
  have hf : cfg0.fresh 5 t.val = false := by
    cases hc : cfg0.fresh 5 t.val
    · rfl
    · exact absurd (first_of_fresh t.val (Nat.le_of_lt t.isLt) hc) h
  rw [(dats m 0 c).before_out_traj 5 rfl (fun _ _ => rfl) (fun t hz hi _ => by
    have hn := not_first_of_idle t hi
    rw [after_s, after_s, thinAt_later m c t hn]) t.val t rfl d, hf, after_s]
  exact thinAt_later m c t h _

/-- The narrow result's buffer at its block is what the point is to leave there. -/
theorem leaves_s (c : Dev nD) (t : Fin cfg0.N) :
    owns (c : Thread nD τ) (ms t) fullShare (thinAt m c t) ⊢ ((dats m 0 c).leavesExact 5 t : sProp 𝕄) := by
  unfold Dat.leavesExact
  cases hi : cfg0.idle 5 (cfg0.grid.coords t)
  · simp only [after_s]; exact Idealize.SL.BI.Entails.refl _
  · cases hf : (cfg0.win 5).flush t
    · have hn := not_first_of_idle t hi
      simp only [before_s m c t hn]
      iintro H
      iexists (fun _ => Classical.arbitrary _)
      iexact H
    · simp only [after_s]; exact Idealize.SL.BI.Entails.refl _

theorem leaves_x (c : Dev nD) (t : Fin cfg0.N) : (dats m 0 c).leavesExact 0 t = owns (c : Thread nD τ) (mx t) fullShare (iblk m c 0 t) := by
  unfold Dat.leavesExact; rw [show cfg0.idle 0 (cfg0.grid.coords t) = false from rfl, after_x]
theorem leaves_g (c : Dev nD) (t : Fin cfg0.N) : (dats m 0 c).leavesExact 1 t = owns (c : Thread nD τ) (mg t) fullShare (iblk m c 1 t) := by
  unfold Dat.leavesExact; rw [show cfg0.idle 1 (cfg0.grid.coords t) = false from rfl, after_g]
theorem leaves_w (c : Dev nD) (t : Fin cfg0.N) : (dats m 0 c).leavesExact 2 t = owns (c : Thread nD τ) (mw t) fullShare (iblk m c 2 t) := by
  unfold Dat.leavesExact; rw [show cfg0.idle 2 (cfg0.grid.coords t) = false from rfl, after_w]
theorem leaves_n (c : Dev nD) (t : Fin cfg0.N) : (dats m 0 c).leavesExact 3 t = owns (c : Thread nD τ) (mn t) fullShare (iblk m c 3 t) := by
  unfold Dat.leavesExact; rw [show cfg0.idle 3 (cfg0.grid.coords t) = false from rfl, after_n]
theorem leaves_o (c : Dev nD) (t : Fin cfg0.N) : (dats m 0 c).leavesExact 4 t = owns (c : Thread nD τ) (mo t) fullShare (wideAt m c t) := by
  unfold Dat.leavesExact; rw [show cfg0.idle 4 (cfg0.grid.coords t) = false from rfl, after_o]

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (mg t) fullShare ((dats m 0 c).before 1 t d))
    ∗ (∃ d, owns (c : Thread nD τ) (mw t) fullShare ((dats m 0 c).before 2 t d))
    ∗ (∃ d, owns (c : Thread nD τ) (mn t) fullShare ((dats m 0 c).before 3 t d))
    ∗ (∃ d, owns (c : Thread nD τ) (mo t) fullShare ((dats m 0 c).before 4 t d))
    ∗ (∃ d, owns (c : Thread nD τ) (ms t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_g, before_w, before_n, leaves_x, leaves_g, leaves_w, leaves_n, leaves_o]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), Phi_castSucc]
  rw [show rowsAt m c ⟨t.val + 1 - 1, _⟩ = rowsAt m c t from rfl]
  by_cases h0 : t.val % 7 = 0
  · have hf : First (grid0.coords t) := (first_iff t).2 h0
    iintro ⟨HP, Hq, ⟨%d0, Hx⟩, ⟨%d1, Hg⟩, ⟨%d2, Hw⟩, ⟨%d3, Hn⟩, ⟨%d4, Ho⟩, ⟨%d5, Hs⟩⟩
    ihave HP := (PhiS_forget m c _ _) $$ HP
    icases HP with ⟨Hh, Hr⟩
    iapply (run_first c (grid0.coords t) (mx t) (hx t) (mg t) (hg t) (mw t) (hw t) (mn t) (hn t) (mo t) (ho t) (ms t) (hs t) mh (Memref.isWhole_whole _) (iblk m c 0 t) (iblk m c 1 t) (iblk m c 2 t) (iblk m c 3 t) hf Set.univ _)
    isplitl [Hx]; · iexact Hx
    isplitl [Hg]; · iexact Hg
    isplitl [Hw]; · iexact Hw
    isplitl [Hn]; · iexact Hn
    isplitl [Ho]; · iexists _; iexact Ho
    isplitl [Hs]; · iexists _; iexact Hs
    isplitl [Hh]; · iexact Hh
    iintro ⟨Hx, Hg, Hw, Hn, Ho, Hs, Hh⟩
    rw [show rowsAt m c t = k0_pay2 (iblk m c 0 t) (iblk m c 1 t) by unfold rowsAt; rw [start_first t h0],
      show wideAt m c t = k0_pay4 (k0_pay2 (iblk m c 0 t) (iblk m c 1 t)) (iblk m c 2 t) by unfold wideAt rowsAt; rw [start_first t h0]]
    isplitl [Hh Hr]
    · isplitl [Hh]; · iexact Hh
      iexact Hr
    isplitl [Hq]; · iexact Hq
    isplitl [Hx]; · iexact Hx
    isplitl [Hg]; · iexact Hg
    isplitl [Hw]; · iexact Hw
    isplitl [Hn]; · iexact Hn
    isplitl [Ho]; · iexact Ho
    iapply (leaves_s m c t)
    rw [show thinAt m c t = k0_pay3 (iblk m c 0 t) (iblk m c 1 t) (iblk m c 3 t) by unfold thinAt; rw [start_first t h0]]
    iexact Hs
  · have hf : ¬First (grid0.coords t) := fun h => h0 ((first_iff t).1 h)
    have hz : t.val ≠ 0 := fun h => h0 (by rw [h])
    rw [PhiS_pos m c _ _ hz, rowsAt_later m c t h0]
    simp only [before_s m c t h0]
    iintro ⟨⟨Hh, Hr⟩, Hq, ⟨%d0, Hx⟩, ⟨%d1, Hg⟩, ⟨%d2, Hw⟩, ⟨%d3, Hn⟩, ⟨%d4, Ho⟩, ⟨%d5, Hs⟩⟩
    iapply (run_later c (grid0.coords t) (mx t) (hx t) (mg t) (hg t) (mw t) (hw t) (mn t) (hn t) (mo t) (ho t) (ms t) (hs t) mh (Memref.isWhole_whole _) (iblk m c 0 t) (iblk m c 1 t) (iblk m c 2 t) (iblk m c 3 t) (rowsAt m c t) (thinAt m c t) hf Set.univ _)
    isplitl [Hx]; · iexact Hx
    isplitl [Hg]; · iexact Hg
    isplitl [Hw]; · iexact Hw
    isplitl [Hn]; · iexact Hn
    isplitl [Ho]; · iexists _; iexact Ho
    isplitl [Hs]; · iexact Hs
    isplitl [Hh]; · iexact Hh
    iintro ⟨Hx, Hg, Hw, Hn, Ho, Hs, Hh⟩
    isplitl [Hh Hr]
    · isplitl [Hh]; · iexact Hh
      iexact Hr
    isplitl [Hq]; · iexact Hq
    isplitl [Hx]; · iexact Hx
    isplitl [Hg]; · iexact Hg
    isplitl [Hw]; · iexact Hw
    isplitl [Hn]; · iexact Hn
    isplitl [Ho]; · iexact Ho
    iapply (leaves_s m c t)
    iexact Hs

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

theorem launch_in (c : Dev nD) : Pipeline.ΦA spec0 c ⊢ (dats m 0 c).Φ 0 := by
  rw [show (dats m 0 c).Φ 0 = PhiS m c 0 (Nat.zero_le _) from rfl]
  exact Idealize.SL.BI.Entails.refl _

theorem launch_out (c : Dev nD) : (dats m 0 c).Φ (Fin.last cfg0.N) ⊢ Pipeline.ΦA spec0 c := by
  rw [show (dats m 0 c).Φ (Fin.last cfg0.N) = PhiS m c cfg0.N (Nat.le_refl _) from rfl, rest_eq]
  exact PhiS_forget m c _ _

-- the launch theorem's implicit arguments are found by unfolding plain definitions in a metavariable's type
set_option backward.isDefEq.respectTransparency.types false in
/-- From any memory with zero counters every fair execution ends, at the proof data's arrays and with the counters zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := launch_in m) (hout := launch_out m)

/-- The arguments end as they began and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel4Ideal.Project

end
-- ==== Proof.ProjectCdBits.lean ====
/- The second layer's normalized projection as printed is the idealized one's text at machine floats: its body, its launch and
   its host operations are the same, so its run is the idealized kernel's. -/
module

public import proofs.«01_k».proof.Defs
public import proofs.«01_k».proof.Proof.Gen.Kernel4
public import proofs.«01_k».proof.Proof.ProjectCdFrame

@[expose] public section

set_option maxRecDepth 8000

noncomputable section

namespace Cert.Kernel4

open Idealize.ShloMosaic Idealize.SL.Sem

/-- The bodies are one. -/
theorem body_eq (i : Kernel4Ideal.grid0.Coords) (x : Memref Kernel4Ideal.sig .tc .vmem Kernel4Ideal.S1024x1024 .f32)
    (g : Memref Kernel4Ideal.sig .tc .vmem Kernel4Ideal.S1x1024 .f32) (w : Memref Kernel4Ideal.sig .tc .vmem Kernel4Ideal.S1024x512 .bf16)
    (n : Memref Kernel4Ideal.sig .tc .vmem Kernel4Ideal.S1024x128 .bf16) (o : Memref Kernel4Ideal.sig .tc .vmem Kernel4Ideal.S1024x512 .f32)
    (s : Memref Kernel4Ideal.sig .tc .vmem Kernel4Ideal.S1024x128 .f32) (h : Memref Kernel4Ideal.sig .tc .vmem Kernel4Ideal.S1024x1024 .bf16)
    (hx : x.IsWhole) (hg : g.IsWhole) (hw : w.IsWhole) (hn : n.IsWhole) (ho : o.IsWhole) (hs : s.IsWhole) (hh : h.IsWhole) :
    cc0_rms_project (F := Bits) i x hx g hg w hw n hn o ho s hs h hh
      = Kernel4Ideal.cc0_rms_project (F := Bits) i x hx g hg w hw n hn o ho s hs h hh := by
  unfold cc0_rms_project Kernel4Ideal.cc0_rms_project
  rfl

/-- So are the definitions a launch calls. -/
theorem defs_eq : defs (F := Bits) = Kernel4Ideal.defs (F := Bits) := by
  refine congrArg (Pipeline.defs Kernel4Ideal.pcfgs) ?_
  unfold defs₀ Kernel4Ideal.defs₀
  refine congrArg Defs.onTc (funext fun l => funext fun x => ?_)
  match l, x with
  | 0, (t, s) => exact body_eq _ _ _ _ _ _ _ _ _ _ _ _ _ _ _

/-- The kernel's frame. -/
theorem frame (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Kernel4Ideal.Project.frame (F := Bits) m g

end Cert.Kernel4

end
-- ==== Proof.ProjectCd.lean ====
/- The second layer's normalized projection: what a grid point computes, what its blocks hold, and the two result arrays. -/
module

public import Idealize.ShloMosaic.Lib.Pipeline.ValueKit
public import Idealize.ShloMosaic.Lib.Pipeline.Covers
public import proofs.«01_k».proof.Proof.ProjectCdFrame
public import proofs.«01_k».proof.Proof.ProjectProblem

@[expose] public section

set_option maxRecDepth 16384

noncomputable section

namespace Cert.Kernel4Ideal.Project

open Cert.Kernel4Ideal Cert.Kernel4Ideal.Gen Cert.Layer
open Idealize.ShloMosaic Idealize.ShloMosaic.TcCoe

/-! ## One point -/

theorem rows_pay (x : FVec Ideal S1024x1024 .f32) (g : FVec Ideal S1x1024 .f32) (r k : Fin 1024) :
    k0_pay2 (F := Ideal) x g (ix2 r k) = normed (fun j => x (ix2 r j)) (fun j => g (ix2 0 j)) k := by
  unfold normed scale
  pointwise [k0_pay2, k0_pay1]

theorem wide_pay (h : FVec Ideal S1024x1024 .bf16) (w : FVec Ideal S1024x512 .bf16) (r : Fin 1024) (k : Fin 512) :
    k0_pay4 (F := Ideal) h w (ix2 r k) = ∑ j : Fin 1024, h (ix2 r j) * w (ix2 j k) := by
  pointwise [k0_pay4]

theorem thin_pay (x : FVec Ideal S1024x1024 .f32) (g : FVec Ideal S1x1024 .f32) (n : FVec Ideal S1024x128 .bf16) (r : Fin 1024)
    (k : Fin 128) :
    k0_pay3 (F := Ideal) x g n (ix2 r k) = onto (fun j => x (ix2 r j)) (fun j => g (ix2 0 j)) (fun j => n (ix2 j k)) := by
  unfold onto normed scale
  pointwise [k0_pay3, k0_pay1]

variable (m : (ℓ : Loc nD τ sig) → Buf (Elt Ideal) ℓ)

/-! ## The arguments -/

/-- The arguments, by position; a row is a batch's and a place's. -/
def rows (c : Dev nD) (R : Fin 32768) (k : Fin 1024) : EReal :=
  m ((c : Thread nD τ).loc main_arg0) (ix3 ⟨R.val / 4096, by omega⟩ ⟨R.val % 4096, by omega⟩ k)
def gain (c : Dev nD) (k : Fin 1024) : EReal := m ((c : Thread nD τ).loc main_arg1) (ix1 k)
def weight (c : Dev nD) (j : Fin 1024) (k : Fin 3592) : EReal := m ((c : Thread nD τ).loc main_arg2) (ix2 j k)

/-- The column of the weight a wide result's column is of, and a narrow one's. -/
def wideCol (k : Fin 3584) : Fin 3592 := if h : k.val < 2048 then ⟨k.val, by omega⟩ else ⟨8 + k.val, by omega⟩
def thinCol (k : Fin 8) : Fin 3592 := ⟨2048 + k.val, by omega⟩

/-- The arguments as the host lays them out. -/
theorem rows_entry (c : Dev nD) (R : Fin 32768) (k : Fin 1024) : V m c main_v4 (ix2 R k) = rows m c R k := by
  unfold rows
  simp only [V, hostOps0, hostOps0_1, hostOps0_2, List.flatten_cons, List.flatten_nil, List.append_nil, List.cons_append,
    List.nil_append]
  entry_read
  pointwise
theorem gain_entry (c : Dev nD) (k : Fin 1024) : V m c main_v8 (ix2 0 k) = gain m c k := by
  unfold gain
  simp only [V, hostOps0, hostOps0_1, hostOps0_2, List.flatten_cons, List.flatten_nil, List.append_nil, List.cons_append,
    List.nil_append]
  entry_read
  pointwise
theorem wide_entry (c : Dev nD) (j : Fin 1024) (k : Fin 3584) : V m c main_v3 (ix2 j k) = weight m c j (wideCol k) := by
  unfold weight wideCol
  simp only [V, hostOps0, hostOps0_1, hostOps0_2, List.flatten_cons, List.flatten_nil, List.append_nil, List.cons_append,
    List.nil_append]
  entry_read
  pointwise
  by_cases h : k.val < 2048
  · simp only [dif_pos h]
  · simp only [dif_neg h]
    exact congrArg (fun l => m ((c : Thread nD τ).loc main_arg2) (ix2 j l)) (Fin.ext (by show 2056 + (k.val - 2048) = 8 + k.val; omega))
theorem thin_entry (c : Dev nD) (j : Fin 1024) (k : Fin 128) :
    V m c main_v7 (ix2 j k) = lanes (fun i => weight m c j (thinCol i)) k := by
  unfold lanes weight thinCol
  simp only [V, hostOps0, hostOps0_1, hostOps0_2, List.flatten_cons, List.flatten_nil, List.append_nil, List.cons_append,
    List.nil_append]
  entry_read
  simp only [StableHlo.TRef.toBuf, StableHlo.TRef.ofBuf, cast_cast, cast_eq]
  pointwise
  rw [zero_word]

/-! ## The blocks -/

/-- The place of each window's block. -/
theorem at_x : ∀ t : Fin cfg0.N, (cfg0.win 0).index t = ![t.val / 7, 0] := by decide +kernel
theorem at_g : ∀ t : Fin cfg0.N, (cfg0.win 1).index t = ![0, 0] := by decide +kernel
theorem at_w : ∀ t : Fin cfg0.N, (cfg0.win 2).index t = ![0, t.val % 7] := by decide +kernel
theorem at_n : ∀ t : Fin cfg0.N, (cfg0.win 3).index t = ![0, 0] := by decide +kernel
theorem at_o : ∀ t : Fin cfg0.N, (cfg0.win 4).index t = ![t.val / 7, t.val % 7] := by decide +kernel
theorem at_s : ∀ t : Fin cfg0.N, (cfg0.win 5).index t = ![t.val / 7, 0] := by decide +kernel

theorem point_lt (t : Fin cfg0.N) : t.val < 224 := t.isLt

/-- The row of a point's row block, -/
def place (t : Fin cfg0.N) (r : Fin 1024) : Fin 32768 := ⟨1024 * (t.val / 7) + r.val, by have := point_lt t; omega⟩
/-- and the column of its column block. -/
def column (t : Fin cfg0.N) (k : Fin 512) : Fin 3584 := ⟨512 * (t.val % 7) + k.val, by omega⟩

/-- The first point of a row block has its rows. -/
theorem place_start (t : Fin cfg0.N) (r : Fin 1024) : place (start t) r = place t r :=
  Fin.ext (by show 1024 * ((t.val - t.val % 7) / 7) + r.val = 1024 * (t.val / 7) + r.val; omega)

theorem x_at (c : Dev nD) (t : Fin cfg0.N) (r k : Fin 1024) : iblk m c 0 t (ix2 r k) = rows m c (place t r) k := by
  rw [← rows_entry]; unfold place
  blk_ext [iblk, at_x t]
theorem g_at (c : Dev nD) (t : Fin cfg0.N) (k : Fin 1024) : iblk m c 1 t (ix2 0 k) = gain m c k := by
  rw [← gain_entry]
  blk_ext [iblk, at_g t]
theorem w_at (c : Dev nD) (t : Fin cfg0.N) (j : Fin 1024) (k : Fin 512) :
    iblk m c 2 t (ix2 j k) = weight m c j (wideCol (column t k)) := by
  rw [← wide_entry]; unfold column
  blk_ext [iblk, at_w t]
theorem n_at (c : Dev nD) (t : Fin cfg0.N) (j : Fin 1024) (k : Fin 128) :
    iblk m c 3 t (ix2 j k) = lanes (fun i => weight m c j (thinCol i)) k := by
  rw [← thin_entry]
  blk_ext [iblk, at_n t]

/-- What a point leaves of the wide result, -/
theorem wideAt_at (c : Dev nD) (t : Fin cfg0.N) (r : Fin 1024) (k : Fin 512) :
    wideAt m c t (ix2 r k) = onto (rows m c (place t r)) (gain m c) (fun j => weight m c j (wideCol (column t k))) := by
  unfold wideAt
  rw [wide_pay]
  unfold onto rowsAt
  refine Finset.sum_congr rfl fun j _ => ?_
  rw [rows_pay, w_at]
  simp only [x_at, g_at, place_start]
/-- and of the narrow one. -/
theorem thinAt_at (c : Dev nD) (t : Fin cfg0.N) (r : Fin 1024) (k : Fin 128) :
    thinAt m c t (ix2 r k) = lanes (fun i => onto (rows m c (place t r)) (gain m c) (fun j => weight m c j (thinCol i))) k := by
  unfold thinAt
  rw [thin_pay]
  simp only [x_at, g_at, n_at, place_start]
  exact onto_lanes _ _ _ k

/-! ## The result arrays -/

def wideArray (c : Dev nD) : Buf (Elt Ideal) ((c : Thread nD τ).loc main_v9_0) := fun y =>
  onto (rows m c (y 0)) (gain m c) (fun j => weight m c j (wideCol (y 1)))
def thinArray (c : Dev nD) : Buf (Elt Ideal) ((c : Thread nD τ).loc main_v9_1) := fun y =>
  lanes (fun i => onto (rows m c (y 0)) (gain m c) (fun j => weight m c j (thinCol i))) (y 1)

theorem covers_wide : (cfg0.win 4).Covers := by
  refine Pipeline.Window.covers_of_index_surj _ rfl (by decide) fun β => ?_
  have b0 : (β 0).val < 32 := (β 0).isLt
  have b1 : (β 1).val < 7 := (β 1).isLt
  refine ⟨⟨7 * (β 0).val + (β 1).val, by show _ < 224; omega⟩, fun a => ?_⟩
  rw [at_o]
  match a with
  | ⟨0, _⟩ => show (7 * (β 0).val + (β 1).val) / 7 = (β 0).val; omega
  | ⟨1, _⟩ => show (7 * (β 0).val + (β 1).val) % 7 = (β 1).val; omega

theorem covers_thin : (cfg0.win 5).Covers := by
  refine Pipeline.Window.covers_of_index_surj _ rfl (by decide) fun β => ?_
  have b0 : (β 0).val < 32 := (β 0).isLt
  have b1 : (β 1).val < 1 := (β 1).isLt
  refine ⟨⟨7 * (β 0).val, by show _ < 224; omega⟩, fun a => ?_⟩
  rw [at_s]
  match a with
  | ⟨0, _⟩ => show 7 * (β 0).val / 7 = (β 0).val; omega
  | ⟨1, _⟩ => show 0 = (β 1).val; omega

/-- The wide result's array after the run. -/
theorem wide_eq (c : Dev nD) : (dats m 0 c).arrAt 4 cfg0.N = wideArray m c := by
  refine (dats m 0 c).arrAt_eq_of_covers 4 _ covers_wide fun t hf y => ?_
  have e := at_o t
  have y0 : (y 0).val < 1024 := (y 0).isLt
  have y1 : (y 1).val < 512 := (y 1).isLt
  have e0 : ((cfg0.win 4).blk t).view.emb y 0 = place t ⟨(y 0).val, y0⟩ := Fin.ext (by
    show _ = 1024 * (t.val / 7) + (y 0).val; blk_simp [e]; omega)
  have e1 : ((cfg0.win 4).blk t).view.emb y 1 = column t ⟨(y 1).val, y1⟩ := Fin.ext (by
    show _ = 512 * (t.val % 7) + (y 1).val; blk_simp [e]; omega)
  have ey : (ix2 ⟨(y 0).val, y0⟩ ⟨(y 1).val, y1⟩ : S1024x512.Idx) = y := by
    funext a
    match a with
    | ⟨0, _⟩ => rfl
    | ⟨1, _⟩ => rfl
  have R : wideArray m c (((cfg0.win 4).blk t).view.emb y)
      = onto (rows m c (place t ⟨(y 0).val, y0⟩)) (gain m c) (fun j => weight m c j (wideCol (column t ⟨(y 1).val, y1⟩))) := by
    unfold wideArray
    rw [e0, e1]
  refine Eq.trans ?_ R.symm
  blk_simp
  rw [after_o]
  exact (congrArg (wideAt m c t) ey.symm).trans (wideAt_at m c t _ _)

/-- The narrow result's array after the run. -/
theorem thin_eq (c : Dev nD) : (dats m 0 c).arrAt 5 cfg0.N = thinArray m c := by
  refine (dats m 0 c).arrAt_eq_of_covers 5 _ covers_thin fun t hf y => ?_
  have e := at_s t
  have y0 : (y 0).val < 1024 := (y 0).isLt
  have y1 : (y 1).val < 128 := (y 1).isLt
  have e0 : ((cfg0.win 5).blk t).view.emb y 0 = place t ⟨(y 0).val, y0⟩ := Fin.ext (by
    show _ = 1024 * (t.val / 7) + (y 0).val; blk_simp [e]; omega)
  have e1 : ((cfg0.win 5).blk t).view.emb y 1 = (⟨(y 1).val, y1⟩ : Fin 128) := Fin.ext (by blk_simp [e])
  have ey : (ix2 ⟨(y 0).val, y0⟩ ⟨(y 1).val, y1⟩ : S1024x128.Idx) = y := by
    funext a
    match a with
    | ⟨0, _⟩ => rfl
    | ⟨1, _⟩ => rfl
  have R : thinArray m c (((cfg0.win 5).blk t).view.emb y)
      = lanes (fun i => onto (rows m c (place t ⟨(y 0).val, y0⟩)) (gain m c) (fun j => weight m c j (thinCol i))) ⟨(y 1).val, y1⟩ := by
    unfold thinArray
    rw [e0, e1]
  refine Eq.trans ?_ R.symm
  blk_simp
  rw [after_s]
  exact (congrArg (thinAt m c t) ey.symm).trans (thinAt_at m c t _ _)

end Cert.Kernel4Ideal.Project

end
-- ==== Proof.ProjectCdClaim.lean ====
/- The second layer's normalized projection: what its reference holds, and the claims. -/
module

public import proofs.«01_k».proof.Defs
public import proofs.«01_k».proof.Proof.Gen.Reference4Ideal
public import proofs.«01_k».proof.Proof.Gen.Reference4Ideal.Run
public import proofs.«01_k».proof.Proof.Gen.Reference4Ideal.Read
public import proofs.«01_k».proof.Proof.ProjectCd
public import Idealize.ShloMosaic.Lib.Quiescent

@[expose] public section

set_option maxRecDepth 16384

noncomputable section

namespace Cert.Reference4Ideal.Project

open Cert.Reference4Ideal Cert.Reference4Ideal.Gen Cert.Reference4Ideal.Read Cert.Layer
open Idealize.ShloMosaic

variable (x0 : FVec Ideal S8x4096x1024 .f32) (x1 : FVec Ideal S1024 .f32) (x2 : FVec Ideal S1024x3592 .f32)

/-- The normalised input. -/
theorem norm_at (b : Fin 8) (s : Fin 4096) (k : Fin 1024) :
    val_main_v12 (F := Ideal) x0 x1 (ix3 b s k) = normed (fun j => x0 (ix3 b s j)) (fun j => x1 (ix1 j)) k := by
  unfold normed scale
  pointwise [val_main_v0, val_main_cst, val_main_v1, val_main_v2, val_main_cst_0, val_main_v3, val_main_v4, val_main_cst_1,
    val_main_v5, val_main_v6, val_main_v7, val_main_v8, val_main_v9, val_main_v10, val_main_v11, val_main_v12]

/-- The product, by batch and position, -/
theorem product_at (b : Fin 8) (s : Fin 4096) (k : Fin 3592) :
    val_main_v13 (F := Ideal) x0 x1 x2 (ix3 b s k)
      = onto (fun j => x0 (ix3 b s j)) (fun j => x1 (ix1 j)) (fun j => x2 (ix2 j k)) := by
  unfold onto
  simp only [← norm_at]
  unfold val_main_v13
  generalize val_main_v12 (F := Ideal) x0 x1 = h
  pointwise

/-- and by row. -/
theorem row_at (R : Fin 32768) (k : Fin 3592) :
    val_main_v14 (F := Ideal) x0 x1 x2 (ix2 R k)
      = onto (fun j => x0 (ix3 ⟨R.val / 4096, by omega⟩ ⟨R.val % 4096, by omega⟩ j)) (fun j => x1 (ix1 j))
          (fun j => x2 (ix2 j k)) := by
  rw [← product_at, val_main_v14_apply]
  refine congrArg _ (funext fun a => ?_)
  match a with
  | ⟨0, _⟩ => exact Fin.ext (by show (R.val * 3592 + k.val) / 14712832 = R.val / 4096; omega)
  | ⟨1, _⟩ => exact Fin.ext (by show (R.val * 3592 + k.val) / 3592 % 4096 = R.val % 4096; omega)
  | ⟨2, _⟩ => exact Fin.ext (by show (R.val * 3592 + k.val) % 3592 = k.val; omega)

open Cert.Kernel4Ideal.Project (wideCol thinCol)

/-- The wide result. -/
theorem wide_at (R : Fin 32768) (k : Fin 3584) :
    val_main_v17 (F := Ideal) x0 x1 x2 (ix2 R k)
      = onto (fun j => x0 (ix3 ⟨R.val / 4096, by omega⟩ ⟨R.val % 4096, by omega⟩ j)) (fun j => x1 (ix1 j))
          (fun j => x2 (ix2 j (wideCol k))) := by
  rw [← row_at]
  unfold val_main_v17 val_main_v16 val_main_v15 wideCol
  generalize val_main_v14 (F := Ideal) x0 x1 x2 = z
  pointwise
  by_cases h : k.val < 2048
  · simp only [dif_pos h]
  · simp only [dif_neg h]
    exact congrArg (fun l => z (ix2 R l)) (Fin.ext (by show 2056 + (k.val - 2048) = 8 + k.val; omega))

/-- The narrow result. -/
theorem thin_at (R : Fin 32768) (k : Fin 128) :
    val_main_v19 (F := Ideal) x0 x1 x2 (ix2 R k)
      = lanes (fun i => onto (fun j => x0 (ix3 ⟨R.val / 4096, by omega⟩ ⟨R.val % 4096, by omega⟩ j)) (fun j => x1 (ix1 j))
          (fun j => x2 (ix2 j (thinCol i)))) k := by
  simp only [← row_at]
  unfold val_main_v19 val_main_v18 val_main_call0_v0 val_main_c thinCol lanes
  generalize val_main_v14 (F := Ideal) x0 x1 x2 = h
  pointwise
  rw [zero_word]

open Idealize.SL.Sem

/-- The reference ends with its arguments unchanged and no counter raised: it has none. -/
theorem reference_frame : Cert.quiescent_Reference4Ideal (hReference4Ideal := Cert.Reference4Ideal.Gen.facts) := fun m g _ =>
  (θ_run Cert.Reference4Ideal.defs _ _).mono
    (fun r h => ⟨fun c => (h c).2.2, sem_eq_zero_of_no_sems rfl r.2⟩) (Cert.Reference4Ideal.Value.run m g)

/-- The idealized kernel ends with the projected rows, and so does the reference of arguments it shares. -/
theorem results : Cert.algebraic_Kernel4Ideal_Reference4Ideal (hKernel4Ideal := Cert.Kernel4Ideal.Gen.facts)
    (hReference4Ideal := Cert.Reference4Ideal.Gen.facts) := fun m g m' g' _ agree => by
  refine ⟨Cert.Kernel4Ideal.Project.wideArray m, Cert.Kernel4Ideal.Project.thinArray m, ?_, ?_⟩
  · refine (θ_run Cert.Kernel4Ideal.defs _ _).mono
      (fun r h c => ⟨((h.1.1 c).1 4).trans (Cert.Kernel4Ideal.Project.wide_eq m c),
        ((h.1.1 c).1 5).trans (Cert.Kernel4Ideal.Project.thin_eq m c), h.2.1 c⟩)
      (θ_run_and (Cert.Kernel4Ideal.Project.run_main m g) (Cert.Kernel4Ideal.Project.frame m g))
  · refine (θ_run Cert.Reference4Ideal.defs _ _).mono (fun r h c => ⟨(h c).1.trans ?_, (h c).2.1.trans ?_, (h c).2.2⟩)
      (Cert.Reference4Ideal.Value.run m' g')
    · obtain ⟨e0, e1, e2⟩ := agree c
      rw [val_main_v17_eq, e0, e1, e2]
      funext y
      obtain ⟨R, k, rfl⟩ : ∃ (R : Fin 32768) (k : Fin 3584), y = ix2 R k := ⟨y 0, y 1, eq_ix2 y⟩
      exact wide_at _ _ _ R k
    · obtain ⟨e0, e1, e2⟩ := agree c
      rw [val_main_v19_eq, e0, e1, e2]
      funext y
      obtain ⟨R, k, rfl⟩ : ∃ (R : Fin 32768) (k : Fin 128), y = ix2 R k := ⟨y 0, y 1, eq_ix2 y⟩
      exact thin_at _ _ _ R k

end Cert.Reference4Ideal.Project

end
-- ==== Proof.OutProblem.lean ====
/- The output projection of a row: the residual row, and the product of two mixers' outputs, laid side by side, with one
   matrix. It is two products added, one per mixer. -/
module

public import Idealize.ShloMosaic.PureOps.Ideal

@[expose] public section

noncomputable section

namespace Cert.Layer

/-- One entry: the residual, the first mixer's row with the matrix's first rows, the second's with the rest. -/
def projected {p q : ℕ} (x : EReal) (a : Fin p → EReal) (b : Fin q → EReal) (w : Fin (p + q) → EReal) : EReal :=
  x + ∑ j, a j * w (Fin.castAdd q j) + ∑ j, b j * w (Fin.natAdd p j)

/-- The rows side by side, one product: the same entry. -/
theorem projected_eq {p q : ℕ} (x : EReal) (a : Fin p → EReal) (b : Fin q → EReal) (w : Fin (p + q) → EReal)
    (ab : Fin (p + q) → EReal) (ha : ∀ j, ab (Fin.castAdd q j) = a j) (hb : ∀ j, ab (Fin.natAdd p j) = b j) :
    x + ∑ j, ab j * w j = projected x a b w := by
  unfold projected
  rw [Fin.sum_univ_add, ← add_assoc]
  simp only [ha, hb]

end Cert.Layer

end
-- ==== Proof.OutAb.lean ====
/- The first layer's output projection: what a grid point computes, what its blocks hold, and the result array. -/
module

public import Idealize.ShloMosaic.Lib.Pipeline.ValueKit
public import Idealize.ShloMosaic.Lib.Pipeline.Covers
public import proofs.«01_k».proof.Proof.Gen.Kernel5Ideal.Frame
public import proofs.«01_k».proof.Proof.OutProblem

@[expose] public section

set_option maxRecDepth 16384

noncomputable section

namespace Cert.Kernel5Ideal.Out

open Cert.Kernel5Ideal Cert.Kernel5Ideal.Gen Cert.Layer
open Idealize.ShloMosaic Idealize.ShloMosaic.TcCoe

/-- What a point stores, from the loaded blocks. -/
theorem pay_at (x : FVec Ideal S512x1024 .f32) (a : FVec Ideal S512x512 .f32) (u : FVec Ideal S512x1024 .bf16)
    (b : FVec Ideal S512x1024 .f32) (v : FVec Ideal S1024x1024 .bf16) (r : Fin 512) (k : Fin 1024) :
    k0_pay1 (F := Ideal) x a u b v (ix2 r k)
      = x (ix2 r k) + ∑ j, a (ix2 r j) * u (ix2 j k) + ∑ j, b (ix2 r j) * v (ix2 j k) := by
  pointwise [k0_pay1]

/-- One row and column of a point's block. -/
theorem out_at (a : FVec Ideal S512x512 .f32) (b : FVec Ideal S512x1024 .f32) (x : FVec Ideal S512x1024 .f32)
    (w : FVec Ideal S1536x1024 .bf16) (r : Fin 512) (k : Fin 1024) :
    out0_4 (F := Ideal) a b x w (ix2 r k)
      = projected (p := 512) (q := 1024) (x (ix2 r k)) (fun j => a (ix2 r j)) (fun j => b (ix2 r j)) (fun j => w (ix2 j k)) := by
  unfold projected out0_4
  rw [View.canon_cons_unit_lit _ _ _ (by decide), pay_at]
  rw [show View.ld (Val := Elt Ideal) (e' := .f32) x r0_0 = x from View.ld_unit_lit (Val := Elt Ideal) (e := .f32) (S := S512x1024) (off := ![0, 0]) _ x (by decide),
    show View.ld (Val := Elt Ideal) (e' := .f32) a r0_1 = a from View.ld_unit_lit (Val := Elt Ideal) (e := .f32) (S := S512x512) (off := ![0, 0]) _ a (by decide),
    show View.ld (Val := Elt Ideal) (e' := .f32) b r0_0 = b from View.ld_unit_lit (Val := Elt Ideal) (e := .f32) (S := S512x1024) (off := ![0, 0]) _ b (by decide)]
  refine congrArg₂ (fun s s' => x (ix2 r k) + s + s') (Finset.sum_congr rfl fun j _ => congrArg (_ * ·) ?_)
    (Finset.sum_congr rfl fun j _ => congrArg (_ * ·) ?_)
  · rw [View.ld_unit]
    pointwise
    rfl
  · rw [View.ld_unit]
    pointwise
    rfl

variable (m : (ℓ : Loc nD τ sig) → Buf (Elt Ideal) ℓ)

/-- The arguments, by position; a row is a batch's and a place's. -/
def first (c : Dev nD) (R : Fin 32768) (j : Fin 512) : EReal :=
  m ((c : Thread nD τ).loc main_arg0) (ix3 ⟨R.val / 4096, by omega⟩ ⟨R.val % 4096, by omega⟩ j)
def second (c : Dev nD) (R : Fin 32768) (j : Fin 1024) : EReal :=
  m ((c : Thread nD τ).loc main_arg1) (ix3 ⟨R.val / 4096, by omega⟩ ⟨R.val % 4096, by omega⟩ j)
def rows (c : Dev nD) (R : Fin 32768) (k : Fin 1024) : EReal :=
  m ((c : Thread nD τ).loc main_arg2) (ix3 ⟨R.val / 4096, by omega⟩ ⟨R.val % 4096, by omega⟩ k)
def weight (c : Dev nD) (j : Fin 1536) (k : Fin 1024) : EReal := m ((c : Thread nD τ).loc main_arg3) (ix2 j k)

/-- The result array. -/
def outArray (c : Dev nD) : Buf (Elt Ideal) ((c : Thread nD τ).loc main_v4) := fun y =>
  projected (p := 512) (q := 1024) (rows m c (y 0) (y 1)) (first m c (y 0)) (second m c (y 0)) (fun j => weight m c j (y 1))

/-- The place of each window's block. -/
theorem at_a : ∀ t : Fin cfg0.N, (cfg0.win 0).index t = ![t.val, 0] := by decide +kernel
theorem at_b : ∀ t : Fin cfg0.N, (cfg0.win 1).index t = ![t.val, 0] := by decide +kernel
theorem at_x : ∀ t : Fin cfg0.N, (cfg0.win 2).index t = ![t.val, 0] := by decide +kernel
theorem at_w : ∀ t : Fin cfg0.N, (cfg0.win 3).index t = ![0, 0] := by decide +kernel
theorem at_o : ∀ t : Fin cfg0.N, (cfg0.win 4).index t = ![t.val, 0] := by decide +kernel

theorem point_lt (t : Fin cfg0.N) : t.val < 64 := t.isLt

/-- The arguments as the host lays them out. -/
theorem first_entry (c : Dev nD) (R : Fin 32768) (j : Fin 512) : V m c main_v0 (ix2 R j) = first m c R j := by
  unfold first
  entry_read
  pointwise
theorem second_entry (c : Dev nD) (R : Fin 32768) (j : Fin 1024) : V m c main_v1 (ix2 R j) = second m c R j := by
  unfold second
  entry_read
  pointwise
theorem rows_entry (c : Dev nD) (R : Fin 32768) (k : Fin 1024) : V m c main_v2 (ix2 R k) = rows m c R k := by
  unfold rows
  entry_read
  pointwise
theorem weight_entry (c : Dev nD) (j : Fin 1536) (k : Fin 1024) : V m c main_v3 (ix2 j k) = weight m c j k := by
  unfold weight
  entry_read
  pointwise

/-- The row of a point's block. -/
def place (t : Fin cfg0.N) (r : Fin 512) : Fin 32768 := ⟨512 * t.val + r.val, by have := point_lt t; omega⟩

theorem a_at (c : Dev nD) (t : Fin cfg0.N) (r : Fin 512) (j : Fin 512) : iblk m c 0 t (ix2 r j) = first m c (place t r) j := by
  rw [← first_entry]; unfold place
  blk_ext [iblk, at_a t]
theorem b_at (c : Dev nD) (t : Fin cfg0.N) (r : Fin 512) (j : Fin 1024) : iblk m c 1 t (ix2 r j) = second m c (place t r) j := by
  rw [← second_entry]; unfold place
  blk_ext [iblk, at_b t]
theorem x_at (c : Dev nD) (t : Fin cfg0.N) (r : Fin 512) (k : Fin 1024) : iblk m c 2 t (ix2 r k) = rows m c (place t r) k := by
  rw [← rows_entry]; unfold place
  blk_ext [iblk, at_x t]
theorem w_at (c : Dev nD) (t : Fin cfg0.N) (j : Fin 1536) (k : Fin 1024) : iblk m c 3 t (ix2 j k) = weight m c j k := by
  rw [← weight_entry]
  blk_ext [iblk, at_w t]

theorem covers : (cfg0.win 4).Covers := by
  refine Pipeline.Window.covers_of_index_surj _ rfl (by decide) fun β => ?_
  have b0 : (β 0).val < 64 := (β 0).isLt
  have b1 : (β 1).val < 1 := (β 1).isLt
  refine ⟨⟨(β 0).val, b0⟩, fun a => ?_⟩
  rw [at_o]
  match a with
  | ⟨0, _⟩ => rfl
  | ⟨1, _⟩ => show 0 = (β 1).val; omega

/-- The result array after the run. -/
theorem arr_eq (c : Dev nD) : (dats m 0 c).arrAt 4 cfg0.N = outArray m c := by
  refine (dats m 0 c).arrAt_eq_of_covers 4 _ covers fun t hf y => ?_
  have e := at_o t
  have y0 : (y 0).val < 512 := (y 0).isLt
  have y1 : (y 1).val < 1024 := (y 1).isLt
  have e0 : ((cfg0.win 4).blk t).view.emb y 0 = place t ⟨(y 0).val, y0⟩ := Fin.ext (by
    show _ = 512 * t.val + (y 0).val; blk_simp [e]; omega)
  have e1 : ((cfg0.win 4).blk t).view.emb y 1 = (⟨(y 1).val, y1⟩ : Fin 1024) := Fin.ext (by blk_simp [e])
  have ey : (ix2 ⟨(y 0).val, y0⟩ ⟨(y 1).val, y1⟩ : S512x1024.Idx) = y := by
    funext a
    match a with
    | ⟨0, _⟩ => rfl
    | ⟨1, _⟩ => rfl
  have D := out_at (iblk m c 0 t) (iblk m c 1 t) (iblk m c 2 t) (iblk m c 3 t) ⟨(y 0).val, y0⟩ ⟨(y 1).val, y1⟩
  simp only [a_at, b_at, x_at, w_at] at D
  have R : outArray m c (((cfg0.win 4).blk t).view.emb y)
      = projected (p := 512) (q := 1024) (rows m c (place t ⟨(y 0).val, y0⟩) ⟨(y 1).val, y1⟩) (first m c (place t ⟨(y 0).val, y0⟩))
          (second m c (place t ⟨(y 0).val, y0⟩)) (fun j => weight m c j ⟨(y 1).val, y1⟩) := by
    unfold outArray
    rw [e0, e1]
  refine Eq.trans ?_ R.symm
  blk_simp
  rw [after0_4]
  exact (congrArg (out0_4 (iblk m c 0 t) (iblk m c 1 t) (iblk m c 2 t) (iblk m c 3 t)) ey.symm).trans D

end Cert.Kernel5Ideal.Out

end
-- ==== Proof.OutAbClaim.lean ====
/- The first layer's output projection: what its reference holds, and the claims. -/
module

public import proofs.«01_k».proof.Defs
public import proofs.«01_k».proof.Proof.Gen.Reference5Ideal
public import proofs.«01_k».proof.Proof.Gen.Reference5Ideal.Run
public import proofs.«01_k».proof.Proof.Gen.Reference5Ideal.Read
public import proofs.«01_k».proof.Proof.OutAb
public import Idealize.ShloMosaic.Lib.Quiescent

@[expose] public section

set_option maxRecDepth 16384

noncomputable section

namespace Cert.Reference5Ideal.Out

open Cert.Reference5Ideal Cert.Reference5Ideal.Gen Cert.Reference5Ideal.Read Cert.Layer
open Idealize.ShloMosaic

variable (x0 : FVec Ideal S8x4096x512 .f32) (x1 x2 : FVec Ideal S8x4096x1024 .f32) (x3 : FVec Ideal S1536x1024 .f32)

/-- The mixers' outputs side by side: the first's columns, then the second's. -/
theorem beside_first (b : Fin 8) (s : Fin 4096) (j : Fin 512) :
    val_main_v0 (F := Ideal) x0 x1 (ix3 b s (Fin.castAdd 1024 j)) = x0 (ix3 b s j) := by
  pointwise [val_main_v0]
  exact dif_pos j.isLt
theorem beside_second (b : Fin 8) (s : Fin 4096) (j : Fin 1024) :
    val_main_v0 (F := Ideal) x0 x1 (ix3 b s (Fin.natAdd 512 j)) = x1 (ix3 b s j) := by
  pointwise [val_main_v0]
  refine (dif_neg (by simp only [Fin.val_natAdd]; omega)).trans (congrArg (fun i => x1 (ix3 b s i)) (Fin.ext ?_))
  simp only [Fin.val_natAdd]; omega

/-- The result, by batch and position. -/
theorem out_at (b : Fin 8) (s : Fin 4096) (k : Fin 1024) :
    val_main_v2 (F := Ideal) x0 x1 x2 x3 (ix3 b s k)
      = projected (p := 512) (q := 1024) (x2 (ix3 b s k)) (fun j => x0 (ix3 b s j)) (fun j => x1 (ix3 b s j)) (fun j => x3 (ix2 j k)) := by
  rw [← projected_eq _ _ _ _ (fun j => val_main_v0 (F := Ideal) x0 x1 (ix3 b s j)) (beside_first x0 x1 b s) (beside_second x0 x1 b s)]
  unfold val_main_v2 val_main_v1
  generalize val_main_v0 (F := Ideal) x0 x1 = h
  pointwise

/-- The result, by row. -/
theorem result_at (R : Fin 32768) (k : Fin 1024) :
    val_main_v3 (F := Ideal) x0 x1 x2 x3 (ix2 R k)
      = projected (p := 512) (q := 1024) (x2 (ix3 ⟨R.val / 4096, by omega⟩ ⟨R.val % 4096, by omega⟩ k))
          (fun j => x0 (ix3 ⟨R.val / 4096, by omega⟩ ⟨R.val % 4096, by omega⟩ j))
          (fun j => x1 (ix3 ⟨R.val / 4096, by omega⟩ ⟨R.val % 4096, by omega⟩ j)) (fun j => x3 (ix2 j k)) := by
  rw [← out_at, val_main_v3_apply]
  refine congrArg _ (funext fun a => ?_)
  match a with
  | ⟨0, _⟩ => exact Fin.ext (by show (R.val * 1024 + k.val) / 4194304 = R.val / 4096; omega)
  | ⟨1, _⟩ => exact Fin.ext (by show (R.val * 1024 + k.val) / 1024 % 4096 = R.val % 4096; omega)
  | ⟨2, _⟩ => exact Fin.ext (by show (R.val * 1024 + k.val) % 1024 = k.val; omega)

open Idealize.SL.Sem

/-- The reference ends with its arguments unchanged and no counter raised: it has none. -/
theorem reference_frame : Cert.quiescent_Reference5Ideal (hReference5Ideal := Cert.Reference5Ideal.Gen.facts) := fun m g _ =>
  (θ_run Cert.Reference5Ideal.defs _ _).mono
    (fun r h => ⟨fun c => (h c).2, sem_eq_zero_of_no_sems rfl r.2⟩) (Cert.Reference5Ideal.Value.run m g)

/-- The idealized kernel ends with the projected rows, and so does the reference of arguments it shares. -/
theorem results : Cert.algebraic_Kernel5Ideal_Reference5Ideal (hKernel5Ideal := Cert.Kernel5Ideal.Gen.facts)
    (hReference5Ideal := Cert.Reference5Ideal.Gen.facts) := fun m g m' g' _ agree => by
  refine ⟨Cert.Kernel5Ideal.Out.outArray m, ?_, ?_⟩
  · refine (θ_run Cert.Kernel5Ideal.defs _ _).mono (fun r h c => ⟨((h.1 c).1 4).trans ?_, h.2.1 c⟩)
      (θ_run_and (Cert.Kernel5Ideal.Gen.run_main m g) (Cert.Kernel5Ideal.Gen.frame m g))
    exact Cert.Kernel5Ideal.Out.arr_eq m c
  · refine (θ_run Cert.Reference5Ideal.defs _ _).mono (fun r h c => ⟨(h c).1.trans ?_, (h c).2⟩)
      (Cert.Reference5Ideal.Value.run m' g')
    obtain ⟨e0, e1, e2, e3⟩ := agree c
    rw [val_main_v3_eq, e0, e1, e2, e3]
    funext y
    obtain ⟨R, k, rfl⟩ : ∃ (R : Fin 32768) (k : Fin 1024), y = ix2 R k := ⟨y 0, y 1, eq_ix2 y⟩
    exact result_at _ _ _ _ R k

end Cert.Reference5Ideal.Out

end
-- ==== Proof.OutCd.lean ====
/- The second layer's output projection: what a grid point computes, what its blocks hold, and the result array. -/
module

public import Idealize.ShloMosaic.Lib.Pipeline.ValueKit
public import Idealize.ShloMosaic.Lib.Pipeline.Covers
public import proofs.«01_k».proof.Proof.Gen.Kernel6Ideal.Frame
public import proofs.«01_k».proof.Proof.OutProblem

@[expose] public section

set_option maxRecDepth 16384

noncomputable section

namespace Cert.Kernel6Ideal.Out

open Cert.Kernel6Ideal Cert.Kernel6Ideal.Gen Cert.Layer
open Idealize.ShloMosaic Idealize.ShloMosaic.TcCoe

/-- What a point stores, from the loaded blocks. -/
theorem pay_at (x : FVec Ideal S512x1024 .f32) (a : FVec Ideal S512x512 .f32) (u : FVec Ideal S512x1024 .bf16)
    (b : FVec Ideal S512x512 .f32) (v : FVec Ideal S512x1024 .bf16) (r : Fin 512) (k : Fin 1024) :
    k0_pay1 (F := Ideal) x a u b v (ix2 r k)
      = x (ix2 r k) + ∑ j, a (ix2 r j) * u (ix2 j k) + ∑ j, b (ix2 r j) * v (ix2 j k) := by
  pointwise [k0_pay1]

/-- One row and column of a point's block. -/
theorem out_at (a : FVec Ideal S512x512 .f32) (b : FVec Ideal S512x512 .f32) (x : FVec Ideal S512x1024 .f32)
    (w : FVec Ideal S1024x1024 .bf16) (r : Fin 512) (k : Fin 1024) :
    out0_4 (F := Ideal) a b x w (ix2 r k)
      = projected (p := 512) (q := 512) (x (ix2 r k)) (fun j => a (ix2 r j)) (fun j => b (ix2 r j)) (fun j => w (ix2 j k)) := by
  unfold projected out0_4
  rw [View.canon_cons_unit_lit _ _ _ (by decide), pay_at]
  rw [show View.ld (Val := Elt Ideal) (e' := .f32) x r0_0 = x from View.ld_unit_lit (Val := Elt Ideal) (e := .f32) (S := S512x1024) (off := ![0, 0]) _ x (by decide),
    show View.ld (Val := Elt Ideal) (e' := .f32) a r0_1 = a from View.ld_unit_lit (Val := Elt Ideal) (e := .f32) (S := S512x512) (off := ![0, 0]) _ a (by decide),
    show View.ld (Val := Elt Ideal) (e' := .f32) b r0_1 = b from View.ld_unit_lit (Val := Elt Ideal) (e := .f32) (S := S512x512) (off := ![0, 0]) _ b (by decide)]
  refine congrArg₂ (fun s s' => x (ix2 r k) + s + s') (Finset.sum_congr rfl fun j _ => congrArg (_ * ·) ?_)
    (Finset.sum_congr rfl fun j _ => congrArg (_ * ·) ?_)
  · rw [View.ld_unit]
    pointwise
    rfl
  · rw [View.ld_unit]
    pointwise
    rfl

variable (m : (ℓ : Loc nD τ sig) → Buf (Elt Ideal) ℓ)

/-- The arguments, by position; a row is a batch's and a place's. -/
def first (c : Dev nD) (R : Fin 32768) (j : Fin 512) : EReal :=
  m ((c : Thread nD τ).loc main_arg0) (ix3 ⟨R.val / 4096, by omega⟩ ⟨R.val % 4096, by omega⟩ j)
def second (c : Dev nD) (R : Fin 32768) (j : Fin 512) : EReal :=
  m ((c : Thread nD τ).loc main_arg1) (ix3 ⟨R.val / 4096, by omega⟩ ⟨R.val % 4096, by omega⟩ j)
def rows (c : Dev nD) (R : Fin 32768) (k : Fin 1024) : EReal :=
  m ((c : Thread nD τ).loc main_arg2) (ix3 ⟨R.val / 4096, by omega⟩ ⟨R.val % 4096, by omega⟩ k)
def weight (c : Dev nD) (j : Fin 1024) (k : Fin 1024) : EReal := m ((c : Thread nD τ).loc main_arg3) (ix2 j k)

/-- The result array. -/
def outArray (c : Dev nD) : Buf (Elt Ideal) ((c : Thread nD τ).loc main_v4) := fun y =>
  projected (p := 512) (q := 512) (rows m c (y 0) (y 1)) (first m c (y 0)) (second m c (y 0)) (fun j => weight m c j (y 1))

/-- The place of each window's block. -/
theorem at_a : ∀ t : Fin cfg0.N, (cfg0.win 0).index t = ![t.val, 0] := by decide +kernel
theorem at_b : ∀ t : Fin cfg0.N, (cfg0.win 1).index t = ![t.val, 0] := by decide +kernel
theorem at_x : ∀ t : Fin cfg0.N, (cfg0.win 2).index t = ![t.val, 0] := by decide +kernel
theorem at_w : ∀ t : Fin cfg0.N, (cfg0.win 3).index t = ![0, 0] := by decide +kernel
theorem at_o : ∀ t : Fin cfg0.N, (cfg0.win 4).index t = ![t.val, 0] := by decide +kernel

theorem point_lt (t : Fin cfg0.N) : t.val < 64 := t.isLt

/-- The arguments as the host lays them out. -/
theorem first_entry (c : Dev nD) (R : Fin 32768) (j : Fin 512) : V m c main_v0 (ix2 R j) = first m c R j := by
  unfold first
  entry_read
  pointwise
theorem second_entry (c : Dev nD) (R : Fin 32768) (j : Fin 512) : V m c main_v1 (ix2 R j) = second m c R j := by
  unfold second
  entry_read
  pointwise
theorem rows_entry (c : Dev nD) (R : Fin 32768) (k : Fin 1024) : V m c main_v2 (ix2 R k) = rows m c R k := by
  unfold rows
  entry_read
  pointwise
theorem weight_entry (c : Dev nD) (j : Fin 1024) (k : Fin 1024) : V m c main_v3 (ix2 j k) = weight m c j k := by
  unfold weight
  entry_read
  pointwise

/-- The row of a point's block. -/
def place (t : Fin cfg0.N) (r : Fin 512) : Fin 32768 := ⟨512 * t.val + r.val, by have := point_lt t; omega⟩

theorem a_at (c : Dev nD) (t : Fin cfg0.N) (r : Fin 512) (j : Fin 512) : iblk m c 0 t (ix2 r j) = first m c (place t r) j := by
  rw [← first_entry]; unfold place
  blk_ext [iblk, at_a t]
theorem b_at (c : Dev nD) (t : Fin cfg0.N) (r : Fin 512) (j : Fin 512) : iblk m c 1 t (ix2 r j) = second m c (place t r) j := by
  rw [← second_entry]; unfold place
  blk_ext [iblk, at_b t]
theorem x_at (c : Dev nD) (t : Fin cfg0.N) (r : Fin 512) (k : Fin 1024) : iblk m c 2 t (ix2 r k) = rows m c (place t r) k := by
  rw [← rows_entry]; unfold place
  blk_ext [iblk, at_x t]
theorem w_at (c : Dev nD) (t : Fin cfg0.N) (j : Fin 1024) (k : Fin 1024) : iblk m c 3 t (ix2 j k) = weight m c j k := by
  rw [← weight_entry]
  blk_ext [iblk, at_w t]

theorem covers : (cfg0.win 4).Covers := by
  refine Pipeline.Window.covers_of_index_surj _ rfl (by decide) fun β => ?_
  have b0 : (β 0).val < 64 := (β 0).isLt
  have b1 : (β 1).val < 1 := (β 1).isLt
  refine ⟨⟨(β 0).val, b0⟩, fun a => ?_⟩
  rw [at_o]
  match a with
  | ⟨0, _⟩ => rfl
  | ⟨1, _⟩ => show 0 = (β 1).val; omega

/-- The result array after the run. -/
theorem arr_eq (c : Dev nD) : (dats m 0 c).arrAt 4 cfg0.N = outArray m c := by
  refine (dats m 0 c).arrAt_eq_of_covers 4 _ covers fun t hf y => ?_
  have e := at_o t
  have y0 : (y 0).val < 512 := (y 0).isLt
  have y1 : (y 1).val < 1024 := (y 1).isLt
  have e0 : ((cfg0.win 4).blk t).view.emb y 0 = place t ⟨(y 0).val, y0⟩ := Fin.ext (by
    show _ = 512 * t.val + (y 0).val; blk_simp [e]; omega)
  have e1 : ((cfg0.win 4).blk t).view.emb y 1 = (⟨(y 1).val, y1⟩ : Fin 1024) := Fin.ext (by blk_simp [e])
  have ey : (ix2 ⟨(y 0).val, y0⟩ ⟨(y 1).val, y1⟩ : S512x1024.Idx) = y := by
    funext a
    match a with
    | ⟨0, _⟩ => rfl
    | ⟨1, _⟩ => rfl
  have D := out_at (iblk m c 0 t) (iblk m c 1 t) (iblk m c 2 t) (iblk m c 3 t) ⟨(y 0).val, y0⟩ ⟨(y 1).val, y1⟩
  simp only [a_at, b_at, x_at, w_at] at D
  have R : outArray m c (((cfg0.win 4).blk t).view.emb y)
      = projected (p := 512) (q := 512) (rows m c (place t ⟨(y 0).val, y0⟩) ⟨(y 1).val, y1⟩) (first m c (place t ⟨(y 0).val, y0⟩))
          (second m c (place t ⟨(y 0).val, y0⟩)) (fun j => weight m c j ⟨(y 1).val, y1⟩) := by
    unfold outArray
    rw [e0, e1]
  refine Eq.trans ?_ R.symm
  blk_simp
  rw [after0_4]
  exact (congrArg (out0_4 (iblk m c 0 t) (iblk m c 1 t) (iblk m c 2 t) (iblk m c 3 t)) ey.symm).trans D

end Cert.Kernel6Ideal.Out

end
-- ==== Proof.OutCdClaim.lean ====
/- The second layer's output projection: what its reference holds, and the claims. -/
module

public import proofs.«01_k».proof.Defs
public import proofs.«01_k».proof.Proof.Gen.Reference6Ideal
public import proofs.«01_k».proof.Proof.Gen.Reference6Ideal.Run
public import proofs.«01_k».proof.Proof.Gen.Reference6Ideal.Read
public import proofs.«01_k».proof.Proof.OutCd
public import Idealize.ShloMosaic.Lib.Quiescent

@[expose] public section

set_option maxRecDepth 16384

noncomputable section

namespace Cert.Reference6Ideal.Out

open Cert.Reference6Ideal Cert.Reference6Ideal.Gen Cert.Reference6Ideal.Read Cert.Layer
open Idealize.ShloMosaic

variable (x0 x1 : FVec Ideal S8x4096x512 .f32) (x2 : FVec Ideal S8x4096x1024 .f32) (x3 : FVec Ideal S1024x1024 .f32)

/-- The mixers' outputs side by side: the first's columns, then the second's. -/
theorem beside_first (b : Fin 8) (s : Fin 4096) (j : Fin 512) :
    val_main_v0 (F := Ideal) x0 x1 (ix3 b s (Fin.castAdd 512 j)) = x0 (ix3 b s j) := by
  pointwise [val_main_v0]
  exact dif_pos j.isLt
theorem beside_second (b : Fin 8) (s : Fin 4096) (j : Fin 512) :
    val_main_v0 (F := Ideal) x0 x1 (ix3 b s (Fin.natAdd 512 j)) = x1 (ix3 b s j) := by
  pointwise [val_main_v0]
  refine (dif_neg (by simp only [Fin.val_natAdd]; omega)).trans (congrArg (fun i => x1 (ix3 b s i)) (Fin.ext ?_))
  simp only [Fin.val_natAdd]; omega

/-- The result, by batch and position. -/
theorem out_at (b : Fin 8) (s : Fin 4096) (k : Fin 1024) :
    val_main_v2 (F := Ideal) x0 x1 x2 x3 (ix3 b s k)
      = projected (p := 512) (q := 512) (x2 (ix3 b s k)) (fun j => x0 (ix3 b s j)) (fun j => x1 (ix3 b s j)) (fun j => x3 (ix2 j k)) := by
  rw [← projected_eq _ _ _ _ (fun j => val_main_v0 (F := Ideal) x0 x1 (ix3 b s j)) (beside_first x0 x1 b s) (beside_second x0 x1 b s)]
  unfold val_main_v2 val_main_v1
  generalize val_main_v0 (F := Ideal) x0 x1 = h
  pointwise

/-- The result, by row. -/
theorem result_at (R : Fin 32768) (k : Fin 1024) :
    val_main_v3 (F := Ideal) x0 x1 x2 x3 (ix2 R k)
      = projected (p := 512) (q := 512) (x2 (ix3 ⟨R.val / 4096, by omega⟩ ⟨R.val % 4096, by omega⟩ k))
          (fun j => x0 (ix3 ⟨R.val / 4096, by omega⟩ ⟨R.val % 4096, by omega⟩ j))
          (fun j => x1 (ix3 ⟨R.val / 4096, by omega⟩ ⟨R.val % 4096, by omega⟩ j)) (fun j => x3 (ix2 j k)) := by
  rw [← out_at, val_main_v3_apply]
  refine congrArg _ (funext fun a => ?_)
  match a with
  | ⟨0, _⟩ => exact Fin.ext (by show (R.val * 1024 + k.val) / 4194304 = R.val / 4096; omega)
  | ⟨1, _⟩ => exact Fin.ext (by show (R.val * 1024 + k.val) / 1024 % 4096 = R.val % 4096; omega)
  | ⟨2, _⟩ => exact Fin.ext (by show (R.val * 1024 + k.val) % 1024 = k.val; omega)

open Idealize.SL.Sem

/-- The reference ends with its arguments unchanged and no counter raised: it has none. -/
theorem reference_frame : Cert.quiescent_Reference6Ideal (hReference6Ideal := Cert.Reference6Ideal.Gen.facts) := fun m g _ =>
  (θ_run Cert.Reference6Ideal.defs _ _).mono
    (fun r h => ⟨fun c => (h c).2, sem_eq_zero_of_no_sems rfl r.2⟩) (Cert.Reference6Ideal.Value.run m g)

/-- The idealized kernel ends with the projected rows, and so does the reference of arguments it shares. -/
theorem results : Cert.algebraic_Kernel6Ideal_Reference6Ideal (hKernel6Ideal := Cert.Kernel6Ideal.Gen.facts)
    (hReference6Ideal := Cert.Reference6Ideal.Gen.facts) := fun m g m' g' _ agree => by
  refine ⟨Cert.Kernel6Ideal.Out.outArray m, ?_, ?_⟩
  · refine (θ_run Cert.Kernel6Ideal.defs _ _).mono (fun r h c => ⟨((h.1 c).1 4).trans ?_, h.2.1 c⟩)
      (θ_run_and (Cert.Kernel6Ideal.Gen.run_main m g) (Cert.Kernel6Ideal.Gen.frame m g))
    exact Cert.Kernel6Ideal.Out.arr_eq m c
  · refine (θ_run Cert.Reference6Ideal.defs _ _).mono (fun r h c => ⟨(h c).1.trans ?_, (h c).2⟩)
      (Cert.Reference6Ideal.Value.run m' g')
    obtain ⟨e0, e1, e2, e3⟩ := agree c
    rw [val_main_v3_eq, e0, e1, e2, e3]
    funext y
    obtain ⟨R, k, rfl⟩ : ∃ (R : Fin 32768) (k : Fin 1024), y = ix2 R k := ⟨y 0, y 1, eq_ix2 y⟩
    exact result_at _ _ _ _ R k

end Cert.Reference6Ideal.Out

end
-- ==== Proof.SampleAbRun.lean ====
/- The body of the first layer's normalized projection of the sample batch at one grid point, run on whole buffers. A point
   is `t = i·7 + j`: row block `i`, column block `j` of the wide weight. The first point of a row block normalizes its rows
   into the scratch and projects them onto the narrow weight; every point projects the scratch onto its column block of the
   wide weight. -/
module

public import proofs.«01_k».proof.Proof.Whole
public import proofs.«01_k».proof.Proof.Gen.Kernel8Ideal.Skeleton
public import proofs.«01_k».proof.Proof.Gen.Kernel8Ideal.Frame

@[expose] public section

set_option maxRecDepth 16384

noncomputable section

namespace Cert.Kernel8Ideal.Project

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its row block. -/
abbrev First (i : grid0.Coords) : Prop := k0_cond1 i = 1#1

theorem first_iff (t : Fin grid0.N) : First (grid0.coords t) ↔ t.val % 7 = 0 := by
  have h : (grid0.coords t 1).val = t.val / 1 % 7 := Pipeline.Grid.coords_val t 1 (by decide) rfl
  rw [Nat.div_one] at h
  simp only [First, k0_cond1, h]
  word_cmp

/-- The staging buffer of each window at a point, and its wholeness: the rows, the norm's weight, the wide and the narrow
    weight, the wide and the narrow result. -/
abbrev mx (t : Fin cfg0.N) : Memref sig .tc .vmem S256x1024 .f32 := win0_0.stage (cfg0.slots t 0)
abbrev hx (t : Fin cfg0.N) : (mx t).IsWhole := hstage0_0 ((cfg0.slots t 0).cast nbuf0_0)
abbrev mg (t : Fin cfg0.N) : Memref sig .tc .vmem S1x1024 .f32 := win0_1.stage (cfg0.slots t 1)
abbrev hg (t : Fin cfg0.N) : (mg t).IsWhole := hstage0_1 ((cfg0.slots t 1).cast nbuf0_1)
abbrev mw (t : Fin cfg0.N) : Memref sig .tc .vmem S1024x1024 .bf16 := win0_2.stage (cfg0.slots t 2)
abbrev hw (t : Fin cfg0.N) : (mw t).IsWhole := hstage0_2 ((cfg0.slots t 2).cast nbuf0_2)
abbrev mn (t : Fin cfg0.N) : Memref sig .tc .vmem S1024x128 .bf16 := win0_3.stage (cfg0.slots t 3)
abbrev hn (t : Fin cfg0.N) : (mn t).IsWhole := hstage0_3 ((cfg0.slots t 3).cast nbuf0_3)
abbrev mo (t : Fin cfg0.N) : Memref sig .tc .vmem S256x1024 .f32 := win0_4.stage (cfg0.slots t 4)
abbrev ho (t : Fin cfg0.N) : (mo t).IsWhole := hstage0_4 ((cfg0.slots t 4).cast nbuf0_4)
abbrev ms (t : Fin cfg0.N) : Memref sig .tc .vmem S256x128 .f32 := win0_5.stage (cfg0.slots t 5)
abbrev hs (t : Fin cfg0.N) : (ms t).IsWhole := hstage0_5 ((cfg0.slots t 5).cast nbuf0_5)
/-- The scratch holding the normalized rows. -/
abbrev mh : Memref sig .tc .vmem S256x1024 .bf16 := Memref.whole cc0_scratch0

/-- The invariant the launch starts and ends with: the scratch at some contents, and the generator's register. -/
theorem rest_eq (c : Dev nD) :
    (Pipeline.ΦA spec0 c : sProp 𝕄)
      = iprop(iprop((∃ d, owns (c : Thread nD τ) mh fullShare d)) ∗ (∃ r, prngReg c r)) := by
  unfold Pipeline.ΦA; rw [scopedRest0_eq]; simp only [mh, owns_whole]; try rfl

variable (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S256x1024 .f32) (harg6 : arg6.IsWhole) (arg7 : Memref sig .tc .vmem S256x128 .f32) (harg7 : arg7.IsWhole) (arg8 : Memref sig .tc .vmem S256x1024 .bf16) (harg8 : arg8.IsWhole)
    (x : Vec F S256x1024 .f32) (g : Vec F S1x1024 .f32) (w : Vec F S1024x1024 .bf16) (n : Vec F S1024x128 .bf16)

set_option maxHeartbeats 1000000 in
/-- At the first point of a row block, the inputs left as they were. -/
theorem run_first (hf : First i) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare n ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w ∗ owns (c : Thread nD τ) arg5 fullShare n ∗ owns (c : Thread nD τ) arg6 fullShare (k0_pay4 (k0_pay2 x g) w) ∗ owns (c : Thread nD τ) arg7 fullShare (k0_pay3 x g n) ∗ owns (c : Thread nD τ) arg8 fullShare (k0_pay2 x g)) -∗ K ⟨⟩))
      ⊢ wp frame (wpE (defs₀ (F := F)) Variants.none c none) E (cc0_rms_project i arg2 harg2 arg3 harg3 arg4 harg4 arg5 harg5 arg6 harg6 arg7 harg7 arg8 harg8) K := by
  simp only [cc0_rms_project_eq_skeleton]; unfold cc0_rms_project_skel
  unfold owns
  iintro ⟨⟨%fx, %hfx, Hx⟩, ⟨%fg, %hfg, Hg⟩, ⟨%fw, %hfw, Hw⟩, ⟨%fn, %hfn, Hn⟩, ⟨%dw, %fo, -, Ho⟩, ⟨%ds, %fs, -, Hs⟩, ⟨%dh, %fh, -, Hh⟩, Hend⟩
  obtain rfl := harg2.eq_unread hfx; obtain rfl := harg3.eq_unread hfg; obtain rfl := harg4.eq_unread hfw; obtain rfl := harg5.eq_unread hfn
  sl_exec (disch := sl_exact hf)
  sl_step
  iapply Hend
  isplitl [Hx]
  · iexists _; isplitr; · ipureintro; exact harg2.read_unread _
    iexact Hx
  isplitl [Hg]
  · iexists _; isplitr; · ipureintro; exact harg3.read_unread _
    iexact Hg
  isplitl [Hw]
  · iexists _; isplitr; · ipureintro; exact harg4.read_unread _
    iexact Hw
  isplitl [Hn]
  · iexists _; isplitr; · ipureintro; exact harg5.read_unread _
    iexact Hn
  isplitl [Ho]
  · iexists _; isplitr
    swap; · iexact Ho
    ipureintro
    rw [Layer.store_whole _ _ _ (by decide)]
    delta run_first.sl.v3 run_first.sl.Hh_1
    simp (disch := decide) only [Layer.load_whole, View.readCov_unit_lit']
  isplitl [Hs]
  · iexists _; isplitr
    swap; · iexact Hs
    ipureintro
    rw [Layer.store_whole _ _ _ (by decide)]
    simp (disch := decide) only [Layer.load_whole]
  iexists _; isplitr
  swap; · iexact Hh
  ipureintro
  delta run_first.sl.Hh_1
  rw [Layer.store_whole _ _ _ (by decide)]
  simp (disch := decide) only [Layer.load_whole]

set_option maxHeartbeats 1000000 in
/-- At a later point, from the normalized rows `h` in the scratch: only the wide result changes. -/
theorem run_later (h : Vec F S256x1024 .bf16) (s : Vec F S256x128 .f32) (hf : ¬First i) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare n ∗ (∃ d, owns (c : Thread nD τ) arg6 fullShare d) ∗ owns (c : Thread nD τ) arg7 fullShare s ∗ owns (c : Thread nD τ) arg8 fullShare h
        ∗ (iprop(owns (c : Thread nD τ) arg2 fullShare x ∗ owns (c : Thread nD τ) arg3 fullShare g ∗ owns (c : Thread nD τ) arg4 fullShare w ∗ owns (c : Thread nD τ) arg5 fullShare n ∗ owns (c : Thread nD τ) arg6 fullShare (k0_pay4 h w) ∗ owns (c : Thread nD τ) arg7 fullShare s ∗ owns (c : Thread nD τ) arg8 fullShare h) -∗ K ⟨⟩))
      ⊢ wp frame (wpE (defs₀ (F := F)) Variants.none c none) E (cc0_rms_project i arg2 harg2 arg3 harg3 arg4 harg4 arg5 harg5 arg6 harg6 arg7 harg7 arg8 harg8) K := by
  simp only [cc0_rms_project_eq_skeleton]; unfold cc0_rms_project_skel
  unfold owns
  iintro ⟨⟨%fx, %hfx, Hx⟩, ⟨%fg, %hfg, Hg⟩, ⟨%fw, %hfw, Hw⟩, ⟨%fn, %hfn, Hn⟩, ⟨%dw, %fo, -, Ho⟩, ⟨%fs, %hfs, Hs⟩, ⟨%fh, %hfh, Hh⟩, Hend⟩
  obtain rfl := harg2.eq_unread hfx; obtain rfl := harg3.eq_unread hfg; obtain rfl := harg4.eq_unread hfw; obtain rfl := harg5.eq_unread hfn
  obtain rfl := harg7.eq_unread hfs; obtain rfl := harg8.eq_unread hfh
  sl_exec (disch := sl_exact hf)
  sl_step
  iapply Hend
  isplitl [Hx]
  · iexists _; isplitr; · ipureintro; exact harg2.read_unread _
    iexact Hx
  isplitl [Hg]
  · iexists _; isplitr; · ipureintro; exact harg3.read_unread _
    iexact Hg
  isplitl [Hw]
  · iexists _; isplitr; · ipureintro; exact harg4.read_unread _
    iexact Hw
  isplitl [Hn]
  · iexists _; isplitr; · ipureintro; exact harg5.read_unread _
    iexact Hn
  isplitl [Ho]
  · iexists _; isplitr
    swap; · iexact Ho
    ipureintro
    rw [Layer.store_whole _ _ _ (by decide)]
    simp (disch := decide) only [Layer.load_whole]
  isplitl [Hs]
  · iexists _; isplitr; · ipureintro; exact harg7.read_unread _
    iexact Hs
  iexists _; isplitr; · ipureintro; exact harg8.read_unread _
  iexact Hh

end Cert.Kernel8Ideal.Project

end
-- ==== Proof.SampleAbFrame.lean ====
/- The whole run of the first layer's normalized projection of the sample batch: what the results' buffers and the scratch
   hold after each grid point, the proof that the body takes each point's state to the next, and the launch. -/
module

public import proofs.«01_k».proof.Proof.SampleAbRun
public import Idealize.ShloMosaic.Lib.Pipeline.TableIdle
public import Idealize.ShloMosaic.Lib.Claim

@[expose] public section

set_option maxRecDepth 16384

noncomputable section

namespace Cert.Kernel8Ideal.Project

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The first point of a point's row block. -/
def start (t : Fin cfg0.N) : Fin cfg0.N := ⟨t.val - t.val % 7, Nat.lt_of_le_of_lt (Nat.sub_le _ _) t.isLt⟩

theorem start_first (t : Fin cfg0.N) (h : t.val % 7 = 0) : start t = t := Fin.ext (by simp only [start]; omega)

/-- A later point has the first point of the point before it. -/
theorem start_later (t : Fin cfg0.N) (h : ¬t.val % 7 = 0) (hp : t.val - 1 < cfg0.N) : start ⟨t.val - 1, hp⟩ = start t :=
  Fin.ext (by simp only [start]; omega)

/-- The normalized rows in the scratch after a point, -/
def rowsAt (c : Dev nD) (t : Fin cfg0.N) : Vec F S256x1024 .bf16 := k0_pay2 (iblk m c 0 (start t)) (iblk m c 1 (start t))
/-- the wide result's block, -/
def wideAt (c : Dev nD) (t : Fin cfg0.N) : Vec F S256x1024 .f32 := k0_pay4 (rowsAt m c t) (iblk m c 2 t)
/-- and the narrow result's. -/
def thinAt (c : Dev nD) (t : Fin cfg0.N) : Vec F S256x128 .f32 :=
  k0_pay3 (iblk m c 0 (start t)) (iblk m c 1 (start t)) (iblk m c 3 (start t))

theorem rowsAt_later (c : Dev nD) (t : Fin cfg0.N) (h : ¬t.val % 7 = 0) (hp : t.val - 1 < cfg0.N) :
    rowsAt m c ⟨t.val - 1, hp⟩ = rowsAt m c t := by unfold rowsAt; rw [start_later t h hp]
theorem thinAt_later (c : Dev nD) (t : Fin cfg0.N) (h : ¬t.val % 7 = 0) (hp : t.val - 1 < cfg0.N) :
    thinAt m c ⟨t.val - 1, hp⟩ = thinAt m c t := by unfold thinAt; rw [start_later t h hp]

/-! ## The proof data -/

/-- Before the first point the scratch holds anything; after a point the normalized rows. -/
def PhiS (c : Dev nD) : (n : ℕ) → n ≤ cfg0.N → sProp 𝕄
  | 0, _ => Pipeline.ΦA spec0 c
  | n + 1, hn => iprop(iprop(owns (c : Thread nD τ) mh fullShare (rowsAt m c ⟨n, hn⟩)) ∗ (∃ r, prngReg c r))

theorem PhiS_pos (c : Dev nD) (n : ℕ) (h : n ≤ cfg0.N) (hz : n ≠ 0) :
    PhiS m c n h = iprop(iprop(owns (c : Thread nD τ) mh fullShare (rowsAt m c ⟨n - 1, by omega⟩)) ∗ (∃ r, prngReg c r)) := by
  cases n with
  | zero => exact absurd rfl hz
  | succ n => rfl

/-- Whatever the invariant knows of the scratch may be forgotten. -/
theorem PhiS_forget (c : Dev nD) (n : ℕ) (h : n ≤ cfg0.N) :
    PhiS m c n h ⊢ iprop(iprop((∃ d, owns (c : Thread nD τ) mh fullShare d)) ∗ (∃ r, prngReg c r)) := by
  cases n with
  | zero => rw [← rest_eq]; exact Idealize.SL.BI.Entails.refl _
  | succ n =>
    rw [PhiS_pos m c _ h (Nat.succ_ne_zero n)]
    iintro ⟨Hs, Hg⟩
    isplitl [Hs]
    · iexists _; iexact Hs
    iexact Hg

/-- The pipeline's proof data: each input's buffer at its block, the results' at theirs, the normalized rows in the
    invariant, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wideAt m c t
    | ⟨5, _⟩ => thinAt m c t
  Φ t := PhiS m c t.val (Nat.le_of_lt_succ t.isLt)
  q w := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_x (c : Dev nD) (t : Fin cfg0.N) : (dats m 0 c).after 0 t = iblk m c 0 t := by dsimp only [dats]
theorem after_g (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_n (c : Dev nD) (t : Fin cfg0.N) : (dats m 0 c).after 3 t = iblk m c 3 t := by dsimp only [dats]
theorem after_o (c : Dev nD) (t : Fin cfg0.N) : (dats m 0 c).after 4 t = wideAt m c t := by dsimp only [dats]
theorem after_s (c : Dev nD) (t : Fin cfg0.N) : (dats m 0 c).after 5 t = thinAt m c t := by dsimp only [dats]

theorem before_x (c : Dev nD) (t : Fin cfg0.N) (d) : (dats m 0 c).before 0 t d = iblk m c 0 t :=
  before0_0_of m (dats m 0 c) (A_eq m c 0) (after_x m c) t d
theorem before_g (c : Dev nD) (t : Fin cfg0.N) (d) : (dats m 0 c).before 1 t d = iblk m c 1 t :=
  before0_1_of m (dats m 0 c) (A_eq m c 1) (after_g m c) t d
theorem before_w (c : Dev nD) (t : Fin cfg0.N) (d) : (dats m 0 c).before 2 t d = iblk m c 2 t :=
  before0_2_of m (dats m 0 c) (A_eq m c 2) (after_w m c) t d
theorem before_n (c : Dev nD) (t : Fin cfg0.N) (d) : (dats m 0 c).before 3 t d = iblk m c 3 t :=
  before0_3_of m (dats m 0 c) (A_eq m c 3) (after_n m c) t d

/-! ## The narrow result's buffer between points -/

/-- Where the body stores nothing into the narrow result the point is not a row block's first. -/
theorem not_first_of_idle (t : Fin cfg0.N) (h : cfg0.idle 5 (grid0.coords t) = true) : ¬t.val % 7 = 0 := by
  have h' : (!(k0_cond1 (grid0.coords t) == 1#1)) = true := h
  simp only [Bool.not_eq_true', beq_eq_false_iff_ne, ne_eq] at h'
  exact fun e => h' ((first_iff t).2 e)

/-- The narrow result's buffer holds nothing of the kernel's only at a row block's first point. -/
theorem first_of_fresh : ∀ n, n ≤ cfg0.N → cfg0.fresh 5 n = true → n % 7 = 0
  | 0, _, _ => rfl
  | n + 1, hn, h => by
    rw [Cfg.fresh_succ cfg0 5 n hn, Bool.or_eq_true, Bool.and_eq_true] at h
    rcases h with h | ⟨hi, hf⟩
    · have := (flush0_5 ⟨n, hn⟩).1 h
      simp only at this; omega
    · exact absurd (first_of_fresh n (Nat.le_of_lt hn) hf) (not_first_of_idle ⟨n, hn⟩ hi)

/-- Past a row block's first point the narrow result's buffer holds what is to be there. -/
theorem before_s (c : Dev nD) (t : Fin cfg0.N) (h : ¬t.val % 7 = 0) (d) : (dats m 0 c).before 5 t d = thinAt m c t := by
  have hf : cfg0.fresh 5 t.val = false := by
    cases hc : cfg0.fresh 5 t.val
    · rfl
    · exact absurd (first_of_fresh t.val (Nat.le_of_lt t.isLt) hc) h
  rw [(dats m 0 c).before_out_traj 5 rfl (fun _ _ => rfl) (fun t hz hi _ => by
    have hn := not_first_of_idle t hi
    rw [after_s, after_s, thinAt_later m c t hn]) t.val t rfl d, hf, after_s]
  exact thinAt_later m c t h _

/-- The narrow result's buffer at its block is what the point is to leave there. -/
theorem leaves_s (c : Dev nD) (t : Fin cfg0.N) :
    owns (c : Thread nD τ) (ms t) fullShare (thinAt m c t) ⊢ ((dats m 0 c).leavesExact 5 t : sProp 𝕄) := by
  unfold Dat.leavesExact
  cases hi : cfg0.idle 5 (cfg0.grid.coords t)
  · simp only [after_s]; exact Idealize.SL.BI.Entails.refl _
  · cases hf : (cfg0.win 5).flush t
    · have hn := not_first_of_idle t hi
      simp only [before_s m c t hn]
      iintro H
      iexists (fun _ => Classical.arbitrary _)
      iexact H
    · simp only [after_s]; exact Idealize.SL.BI.Entails.refl _

theorem leaves_x (c : Dev nD) (t : Fin cfg0.N) : (dats m 0 c).leavesExact 0 t = owns (c : Thread nD τ) (mx t) fullShare (iblk m c 0 t) := by
  unfold Dat.leavesExact; rw [show cfg0.idle 0 (cfg0.grid.coords t) = false from rfl, after_x]
theorem leaves_g (c : Dev nD) (t : Fin cfg0.N) : (dats m 0 c).leavesExact 1 t = owns (c : Thread nD τ) (mg t) fullShare (iblk m c 1 t) := by
  unfold Dat.leavesExact; rw [show cfg0.idle 1 (cfg0.grid.coords t) = false from rfl, after_g]
theorem leaves_w (c : Dev nD) (t : Fin cfg0.N) : (dats m 0 c).leavesExact 2 t = owns (c : Thread nD τ) (mw t) fullShare (iblk m c 2 t) := by
  unfold Dat.leavesExact; rw [show cfg0.idle 2 (cfg0.grid.coords t) = false from rfl, after_w]
theorem leaves_n (c : Dev nD) (t : Fin cfg0.N) : (dats m 0 c).leavesExact 3 t = owns (c : Thread nD τ) (mn t) fullShare (iblk m c 3 t) := by
  unfold Dat.leavesExact; rw [show cfg0.idle 3 (cfg0.grid.coords t) = false from rfl, after_n]
theorem leaves_o (c : Dev nD) (t : Fin cfg0.N) : (dats m 0 c).leavesExact 4 t = owns (c : Thread nD τ) (mo t) fullShare (wideAt m c t) := by
  unfold Dat.leavesExact; rw [show cfg0.idle 4 (cfg0.grid.coords t) = false from rfl, after_o]

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (mg t) fullShare ((dats m 0 c).before 1 t d))
    ∗ (∃ d, owns (c : Thread nD τ) (mw t) fullShare ((dats m 0 c).before 2 t d))
    ∗ (∃ d, owns (c : Thread nD τ) (mn t) fullShare ((dats m 0 c).before 3 t d))
    ∗ (∃ d, owns (c : Thread nD τ) (mo t) fullShare ((dats m 0 c).before 4 t d))
    ∗ (∃ d, owns (c : Thread nD τ) (ms t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_g, before_w, before_n, leaves_x, leaves_g, leaves_w, leaves_n, leaves_o]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), Phi_castSucc]
  rw [show rowsAt m c ⟨t.val + 1 - 1, _⟩ = rowsAt m c t from rfl]
  by_cases h0 : t.val % 7 = 0
  · have hf : First (grid0.coords t) := (first_iff t).2 h0
    iintro ⟨HP, Hq, ⟨%d0, Hx⟩, ⟨%d1, Hg⟩, ⟨%d2, Hw⟩, ⟨%d3, Hn⟩, ⟨%d4, Ho⟩, ⟨%d5, Hs⟩⟩
    ihave HP := (PhiS_forget m c _ _) $$ HP
    icases HP with ⟨Hh, Hr⟩
    iapply (run_first c (grid0.coords t) (mx t) (hx t) (mg t) (hg t) (mw t) (hw t) (mn t) (hn t) (mo t) (ho t) (ms t) (hs t) mh (Memref.isWhole_whole _) (iblk m c 0 t) (iblk m c 1 t) (iblk m c 2 t) (iblk m c 3 t) hf Set.univ _)
    isplitl [Hx]; · iexact Hx
    isplitl [Hg]; · iexact Hg
    isplitl [Hw]; · iexact Hw
    isplitl [Hn]; · iexact Hn
    isplitl [Ho]; · iexists _; iexact Ho
    isplitl [Hs]; · iexists _; iexact Hs
    isplitl [Hh]; · iexact Hh
    iintro ⟨Hx, Hg, Hw, Hn, Ho, Hs, Hh⟩
    rw [show rowsAt m c t = k0_pay2 (iblk m c 0 t) (iblk m c 1 t) by unfold rowsAt; rw [start_first t h0],
      show wideAt m c t = k0_pay4 (k0_pay2 (iblk m c 0 t) (iblk m c 1 t)) (iblk m c 2 t) by unfold wideAt rowsAt; rw [start_first t h0]]
    isplitl [Hh Hr]
    · isplitl [Hh]; · iexact Hh
      iexact Hr
    isplitl [Hq]; · iexact Hq
    isplitl [Hx]; · iexact Hx
    isplitl [Hg]; · iexact Hg
    isplitl [Hw]; · iexact Hw
    isplitl [Hn]; · iexact Hn
    isplitl [Ho]; · iexact Ho
    iapply (leaves_s m c t)
    rw [show thinAt m c t = k0_pay3 (iblk m c 0 t) (iblk m c 1 t) (iblk m c 3 t) by unfold thinAt; rw [start_first t h0]]
    iexact Hs
  · have hf : ¬First (grid0.coords t) := fun h => h0 ((first_iff t).1 h)
    have hz : t.val ≠ 0 := fun h => h0 (by rw [h])
    rw [PhiS_pos m c _ _ hz, rowsAt_later m c t h0]
    simp only [before_s m c t h0]
    iintro ⟨⟨Hh, Hr⟩, Hq, ⟨%d0, Hx⟩, ⟨%d1, Hg⟩, ⟨%d2, Hw⟩, ⟨%d3, Hn⟩, ⟨%d4, Ho⟩, ⟨%d5, Hs⟩⟩
    iapply (run_later c (grid0.coords t) (mx t) (hx t) (mg t) (hg t) (mw t) (hw t) (mn t) (hn t) (mo t) (ho t) (ms t) (hs t) mh (Memref.isWhole_whole _) (iblk m c 0 t) (iblk m c 1 t) (iblk m c 2 t) (iblk m c 3 t) (rowsAt m c t) (thinAt m c t) hf Set.univ _)
    isplitl [Hx]; · iexact Hx
    isplitl [Hg]; · iexact Hg
    isplitl [Hw]; · iexact Hw
    isplitl [Hn]; · iexact Hn
    isplitl [Ho]; · iexists _; iexact Ho
    isplitl [Hs]; · iexact Hs
    isplitl [Hh]; · iexact Hh
    iintro ⟨Hx, Hg, Hw, Hn, Ho, Hs, Hh⟩
    isplitl [Hh Hr]
    · isplitl [Hh]; · iexact Hh
      iexact Hr
    isplitl [Hq]; · iexact Hq
    isplitl [Hx]; · iexact Hx
    isplitl [Hg]; · iexact Hg
    isplitl [Hw]; · iexact Hw
    isplitl [Hn]; · iexact Hn
    isplitl [Ho]; · iexact Ho
    iapply (leaves_s m c t)
    iexact Hs

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

theorem launch_in (c : Dev nD) : Pipeline.ΦA spec0 c ⊢ (dats m 0 c).Φ 0 := by
  rw [show (dats m 0 c).Φ 0 = PhiS m c 0 (Nat.zero_le _) from rfl]
  exact Idealize.SL.BI.Entails.refl _

theorem launch_out (c : Dev nD) : (dats m 0 c).Φ (Fin.last cfg0.N) ⊢ Pipeline.ΦA spec0 c := by
  rw [show (dats m 0 c).Φ (Fin.last cfg0.N) = PhiS m c cfg0.N (Nat.le_refl _) from rfl, rest_eq]
  exact PhiS_forget m c _ _

-- the launch theorem's implicit arguments are found by unfolding plain definitions in a metavariable's type
set_option backward.isDefEq.respectTransparency.types false in
/-- From any memory with zero counters every fair execution ends, at the proof data's arrays and with the counters zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := launch_in m) (hout := launch_out m)

/-- The arguments end as they began and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel8Ideal.Project

end
-- ==== Proof.SampleAbBits.lean ====
/- The first layer's normalized projection of the sample batch as printed is the idealized one's text at machine floats: its
   body, its launch and its host operations are the same, so its run is the idealized kernel's. -/
module

public import proofs.«01_k».proof.Defs
public import proofs.«01_k».proof.Proof.Gen.Kernel8
public import proofs.«01_k».proof.Proof.SampleAbFrame

@[expose] public section

set_option maxRecDepth 8000

noncomputable section

namespace Cert.Kernel8

open Idealize.ShloMosaic Idealize.SL.Sem

/-- The bodies are one. -/
theorem body_eq (i : Kernel8Ideal.grid0.Coords) (x : Memref Kernel8Ideal.sig .tc .vmem Kernel8Ideal.S256x1024 .f32)
    (g : Memref Kernel8Ideal.sig .tc .vmem Kernel8Ideal.S1x1024 .f32) (w : Memref Kernel8Ideal.sig .tc .vmem Kernel8Ideal.S1024x1024 .bf16)
    (n : Memref Kernel8Ideal.sig .tc .vmem Kernel8Ideal.S1024x128 .bf16) (o : Memref Kernel8Ideal.sig .tc .vmem Kernel8Ideal.S256x1024 .f32)
    (s : Memref Kernel8Ideal.sig .tc .vmem Kernel8Ideal.S256x128 .f32) (h : Memref Kernel8Ideal.sig .tc .vmem Kernel8Ideal.S256x1024 .bf16)
    (hx : x.IsWhole) (hg : g.IsWhole) (hw : w.IsWhole) (hn : n.IsWhole) (ho : o.IsWhole) (hs : s.IsWhole) (hh : h.IsWhole) :
    cc0_rms_project (F := Bits) i x hx g hg w hw n hn o ho s hs h hh
      = Kernel8Ideal.cc0_rms_project (F := Bits) i x hx g hg w hw n hn o ho s hs h hh := by
  unfold cc0_rms_project Kernel8Ideal.cc0_rms_project
  rfl

/-- So are the definitions a launch calls. -/
theorem defs_eq : defs (F := Bits) = Kernel8Ideal.defs (F := Bits) := by
  refine congrArg (Pipeline.defs Kernel8Ideal.pcfgs) ?_
  unfold defs₀ Kernel8Ideal.defs₀
  refine congrArg Defs.onTc (funext fun l => funext fun x => ?_)
  match l, x with
  | 0, (t, s) => exact body_eq _ _ _ _ _ _ _ _ _ _ _ _ _ _ _

/-- The kernel's frame. -/
theorem frame (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Kernel8Ideal.Project.frame (F := Bits) m g

end Cert.Kernel8

end
-- ==== Proof.SampleAb.lean ====
/- The first layer's normalized projection of the sample batch: what a grid point computes, what its blocks hold, and the two
   result arrays. -/
module

public import Idealize.ShloMosaic.Lib.Pipeline.ValueKit
public import Idealize.ShloMosaic.Lib.Pipeline.Covers
public import proofs.«01_k».proof.Proof.SampleAbFrame
public import proofs.«01_k».proof.Proof.ProjectProblem

@[expose] public section

set_option maxRecDepth 16384

noncomputable section

namespace Cert.Kernel8Ideal.Project

open Cert.Kernel8Ideal Cert.Kernel8Ideal.Gen Cert.Layer
open Idealize.ShloMosaic Idealize.ShloMosaic.TcCoe

/-! ## One point -/

theorem rows_pay (x : FVec Ideal S256x1024 .f32) (g : FVec Ideal S1x1024 .f32) (r : Fin 256) (k : Fin 1024) :
    k0_pay2 (F := Ideal) x g (ix2 r k) = normed (fun j => x (ix2 r j)) (fun j => g (ix2 0 j)) k := by
  unfold normed scale
  pointwise [k0_pay2, k0_pay1]

theorem wide_pay (h : FVec Ideal S256x1024 .bf16) (w : FVec Ideal S1024x1024 .bf16) (r : Fin 256) (k : Fin 1024) :
    k0_pay4 (F := Ideal) h w (ix2 r k) = ∑ j : Fin 1024, h (ix2 r j) * w (ix2 j k) := by
  pointwise [k0_pay4]

theorem thin_pay (x : FVec Ideal S256x1024 .f32) (g : FVec Ideal S1x1024 .f32) (n : FVec Ideal S1024x128 .bf16) (r : Fin 256)
    (k : Fin 128) :
    k0_pay3 (F := Ideal) x g n (ix2 r k) = onto (fun j => x (ix2 r j)) (fun j => g (ix2 0 j)) (fun j => n (ix2 j k)) := by
  unfold onto normed scale
  pointwise [k0_pay3, k0_pay1]

variable (m : (ℓ : Loc nD τ sig) → Buf (Elt Ideal) ℓ)

/-! ## The arguments -/

/-- The arguments, by position; a row is a batch's and a place's. -/
def rows (c : Dev nD) (R : Fin 256) (k : Fin 1024) : EReal :=
  m ((c : Thread nD τ).loc main_arg0) (ix3 ⟨R.val / 8, by omega⟩ ⟨R.val % 8, by omega⟩ k)
def gain (c : Dev nD) (k : Fin 1024) : EReal := m ((c : Thread nD τ).loc main_arg1) (ix1 k)
def weight (c : Dev nD) (j : Fin 1024) (k : Fin 7184) : EReal := m ((c : Thread nD τ).loc main_arg2) (ix2 j k)

/-- The column of the weight a wide result's column is of, and a narrow one's. -/
def wideCol (k : Fin 7168) : Fin 7184 := ⟨k.val, by omega⟩
def thinCol (k : Fin 16) : Fin 7184 := ⟨7168 + k.val, by omega⟩

/-- The arguments as the host lays them out. -/
theorem rows_entry (c : Dev nD) (R : Fin 256) (k : Fin 1024) : V m c main_v0 (ix2 R k) = rows m c R k := by
  unfold rows
  simp only [V, hostOps0, hostOps0_1, hostOps0_2, List.flatten_cons, List.flatten_nil, List.append_nil, List.cons_append,
    List.nil_append]
  entry_read
  pointwise
theorem gain_entry (c : Dev nD) (k : Fin 1024) : V m c main_v6 (ix2 0 k) = gain m c k := by
  unfold gain
  simp only [V, hostOps0, hostOps0_1, hostOps0_2, List.flatten_cons, List.flatten_nil, List.append_nil, List.cons_append,
    List.nil_append]
  entry_read
  pointwise
theorem wide_entry (c : Dev nD) (j : Fin 1024) (k : Fin 7168) : V m c main_v2 (ix2 j k) = weight m c j (wideCol k) := by
  unfold weight wideCol
  simp only [V, hostOps0, hostOps0_1, hostOps0_2, List.flatten_cons, List.flatten_nil, List.append_nil, List.cons_append,
    List.nil_append]
  entry_read
  pointwise
theorem thin_entry (c : Dev nD) (j : Fin 1024) (k : Fin 128) :
    V m c main_v5 (ix2 j k) = lanes (fun i => weight m c j (thinCol i)) k := by
  unfold lanes weight thinCol
  simp only [V, hostOps0, hostOps0_1, hostOps0_2, List.flatten_cons, List.flatten_nil, List.append_nil, List.cons_append,
    List.nil_append]
  entry_read
  simp only [StableHlo.TRef.toBuf, StableHlo.TRef.ofBuf, cast_cast, cast_eq]
  pointwise
  rw [zero_word]

/-! ## The blocks -/

/-- The place of each window's block. -/
theorem at_x : ∀ t : Fin cfg0.N, (cfg0.win 0).index t = ![t.val / 7, 0] := by decide +kernel
theorem at_g : ∀ t : Fin cfg0.N, (cfg0.win 1).index t = ![0, 0] := by decide +kernel
theorem at_w : ∀ t : Fin cfg0.N, (cfg0.win 2).index t = ![0, t.val % 7] := by decide +kernel
theorem at_n : ∀ t : Fin cfg0.N, (cfg0.win 3).index t = ![0, 0] := by decide +kernel
theorem at_o : ∀ t : Fin cfg0.N, (cfg0.win 4).index t = ![t.val / 7, t.val % 7] := by decide +kernel
theorem at_s : ∀ t : Fin cfg0.N, (cfg0.win 5).index t = ![t.val / 7, 0] := by decide +kernel

theorem point_lt (t : Fin cfg0.N) : t.val < 7 := t.isLt

/-- The row of a point's row block, -/
def place (t : Fin cfg0.N) (r : Fin 256) : Fin 256 := ⟨256 * (t.val / 7) + r.val, by have := point_lt t; omega⟩
/-- and the column of its column block. -/
def column (t : Fin cfg0.N) (k : Fin 1024) : Fin 7168 := ⟨1024 * (t.val % 7) + k.val, by omega⟩

/-- The first point of a row block has its rows. -/
theorem place_start (t : Fin cfg0.N) (r : Fin 256) : place (start t) r = place t r :=
  Fin.ext (by show 256 * ((t.val - t.val % 7) / 7) + r.val = 256 * (t.val / 7) + r.val; omega)

theorem x_at (c : Dev nD) (t : Fin cfg0.N) (r : Fin 256) (k : Fin 1024) : iblk m c 0 t (ix2 r k) = rows m c (place t r) k := by
  rw [← rows_entry]; unfold place
  blk_ext [iblk, at_x t]
theorem g_at (c : Dev nD) (t : Fin cfg0.N) (k : Fin 1024) : iblk m c 1 t (ix2 0 k) = gain m c k := by
  rw [← gain_entry]
  blk_ext [iblk, at_g t]
theorem w_at (c : Dev nD) (t : Fin cfg0.N) (j : Fin 1024) (k : Fin 1024) :
    iblk m c 2 t (ix2 j k) = weight m c j (wideCol (column t k)) := by
  rw [← wide_entry]; unfold column
  blk_ext [iblk, at_w t]
theorem n_at (c : Dev nD) (t : Fin cfg0.N) (j : Fin 1024) (k : Fin 128) :
    iblk m c 3 t (ix2 j k) = lanes (fun i => weight m c j (thinCol i)) k := by
  rw [← thin_entry]
  blk_ext [iblk, at_n t]

/-- What a point leaves of the wide result, -/
theorem wideAt_at (c : Dev nD) (t : Fin cfg0.N) (r : Fin 256) (k : Fin 1024) :
    wideAt m c t (ix2 r k) = onto (rows m c (place t r)) (gain m c) (fun j => weight m c j (wideCol (column t k))) := by
  unfold wideAt
  rw [wide_pay]
  unfold onto rowsAt
  refine Finset.sum_congr rfl fun j _ => ?_
  rw [rows_pay, w_at]
  simp only [x_at, g_at, place_start]
/-- and of the narrow one. -/
theorem thinAt_at (c : Dev nD) (t : Fin cfg0.N) (r : Fin 256) (k : Fin 128) :
    thinAt m c t (ix2 r k) = lanes (fun i => onto (rows m c (place t r)) (gain m c) (fun j => weight m c j (thinCol i))) k := by
  unfold thinAt
  rw [thin_pay]
  simp only [x_at, g_at, n_at, place_start]
  exact onto_lanes _ _ _ k

/-! ## The result arrays -/

def wideArray (c : Dev nD) : Buf (Elt Ideal) ((c : Thread nD τ).loc main_v7_0) := fun y =>
  onto (rows m c (y 0)) (gain m c) (fun j => weight m c j (wideCol (y 1)))
def thinArray (c : Dev nD) : Buf (Elt Ideal) ((c : Thread nD τ).loc main_v7_1) := fun y =>
  lanes (fun i => onto (rows m c (y 0)) (gain m c) (fun j => weight m c j (thinCol i))) (y 1)

theorem covers_wide : (cfg0.win 4).Covers := by
  refine Pipeline.Window.covers_of_index_surj _ rfl (by decide) fun β => ?_
  have b0 : (β 0).val < 1 := (β 0).isLt
  have b1 : (β 1).val < 7 := (β 1).isLt
  refine ⟨⟨7 * (β 0).val + (β 1).val, by show _ < 7; omega⟩, fun a => ?_⟩
  rw [at_o]
  match a with
  | ⟨0, _⟩ => show (7 * (β 0).val + (β 1).val) / 7 = (β 0).val; omega
  | ⟨1, _⟩ => show (7 * (β 0).val + (β 1).val) % 7 = (β 1).val; omega

theorem covers_thin : (cfg0.win 5).Covers := by
  refine Pipeline.Window.covers_of_index_surj _ rfl (by decide) fun β => ?_
  have b0 : (β 0).val < 1 := (β 0).isLt
  have b1 : (β 1).val < 1 := (β 1).isLt
  refine ⟨⟨7 * (β 0).val, by show _ < 7; omega⟩, fun a => ?_⟩
  rw [at_s]
  match a with
  | ⟨0, _⟩ => show 7 * (β 0).val / 7 = (β 0).val; omega
  | ⟨1, _⟩ => show 0 = (β 1).val; omega

/-- The wide result's array after the run. -/
theorem wide_eq (c : Dev nD) : (dats m 0 c).arrAt 4 cfg0.N = wideArray m c := by
  refine (dats m 0 c).arrAt_eq_of_covers 4 _ covers_wide fun t hf y => ?_
  have e := at_o t
  have y0 : (y 0).val < 256 := (y 0).isLt
  have y1 : (y 1).val < 1024 := (y 1).isLt
  have e0 : ((cfg0.win 4).blk t).view.emb y 0 = place t ⟨(y 0).val, y0⟩ := Fin.ext (by
    show _ = 256 * (t.val / 7) + (y 0).val; blk_simp [e]; omega)
  have e1 : ((cfg0.win 4).blk t).view.emb y 1 = column t ⟨(y 1).val, y1⟩ := Fin.ext (by
    show _ = 1024 * (t.val % 7) + (y 1).val; blk_simp [e]; omega)
  have ey : (ix2 ⟨(y 0).val, y0⟩ ⟨(y 1).val, y1⟩ : S256x1024.Idx) = y := by
    funext a
    match a with
    | ⟨0, _⟩ => rfl
    | ⟨1, _⟩ => rfl
  have R : wideArray m c (((cfg0.win 4).blk t).view.emb y)
      = onto (rows m c (place t ⟨(y 0).val, y0⟩)) (gain m c) (fun j => weight m c j (wideCol (column t ⟨(y 1).val, y1⟩))) := by
    unfold wideArray
    rw [e0, e1]
  refine Eq.trans ?_ R.symm
  blk_simp
  rw [after_o]
  exact (congrArg (wideAt m c t) ey.symm).trans (wideAt_at m c t _ _)

/-- The narrow result's array after the run. -/
theorem thin_eq (c : Dev nD) : (dats m 0 c).arrAt 5 cfg0.N = thinArray m c := by
  refine (dats m 0 c).arrAt_eq_of_covers 5 _ covers_thin fun t hf y => ?_
  have e := at_s t
  have y0 : (y 0).val < 256 := (y 0).isLt
  have y1 : (y 1).val < 128 := (y 1).isLt
  have e0 : ((cfg0.win 5).blk t).view.emb y 0 = place t ⟨(y 0).val, y0⟩ := Fin.ext (by
    show _ = 256 * (t.val / 7) + (y 0).val; blk_simp [e]; omega)
  have e1 : ((cfg0.win 5).blk t).view.emb y 1 = (⟨(y 1).val, y1⟩ : Fin 128) := Fin.ext (by blk_simp [e])
  have ey : (ix2 ⟨(y 0).val, y0⟩ ⟨(y 1).val, y1⟩ : S256x128.Idx) = y := by
    funext a
    match a with
    | ⟨0, _⟩ => rfl
    | ⟨1, _⟩ => rfl
  have R : thinArray m c (((cfg0.win 5).blk t).view.emb y)
      = lanes (fun i => onto (rows m c (place t ⟨(y 0).val, y0⟩)) (gain m c) (fun j => weight m c j (thinCol i))) ⟨(y 1).val, y1⟩ := by
    unfold thinArray
    rw [e0, e1]
  refine Eq.trans ?_ R.symm
  blk_simp
  rw [after_s]
  exact (congrArg (thinAt m c t) ey.symm).trans (thinAt_at m c t _ _)

end Cert.Kernel8Ideal.Project

end
-- ==== Proof.SampleAbClaim.lean ====
/- The first layer's normalized projection of the sample batch: what its reference holds, and the claims. -/
module

public import proofs.«01_k».proof.Defs
public import proofs.«01_k».proof.Proof.Gen.Reference8Ideal
public import proofs.«01_k».proof.Proof.Gen.Reference8Ideal.Run
public import proofs.«01_k».proof.Proof.Gen.Reference8Ideal.Read
public import proofs.«01_k».proof.Proof.SampleAb
public import Idealize.ShloMosaic.Lib.Quiescent

@[expose] public section

set_option maxRecDepth 16384

noncomputable section

namespace Cert.Reference8Ideal.Project

open Cert.Reference8Ideal Cert.Reference8Ideal.Gen Cert.Reference8Ideal.Read Cert.Layer
open Idealize.ShloMosaic

variable (x0 : FVec Ideal S32x8x1024 .f32) (x1 : FVec Ideal S1024 .f32) (x2 : FVec Ideal S1024x7184 .f32)

/-- The normalised input. -/
theorem norm_at (b : Fin 32) (s : Fin 8) (k : Fin 1024) :
    val_main_v12 (F := Ideal) x0 x1 (ix3 b s k) = normed (fun j => x0 (ix3 b s j)) (fun j => x1 (ix1 j)) k := by
  unfold normed scale
  pointwise [val_main_v0, val_main_cst, val_main_v1, val_main_v2, val_main_cst_0, val_main_v3, val_main_v4, val_main_cst_1,
    val_main_v5, val_main_v6, val_main_v7, val_main_v8, val_main_v9, val_main_v10, val_main_v11, val_main_v12]

/-- The product, by batch and position, -/
theorem product_at (b : Fin 32) (s : Fin 8) (k : Fin 7184) :
    val_main_v13 (F := Ideal) x0 x1 x2 (ix3 b s k)
      = onto (fun j => x0 (ix3 b s j)) (fun j => x1 (ix1 j)) (fun j => x2 (ix2 j k)) := by
  unfold onto
  simp only [← norm_at]
  unfold val_main_v13
  generalize val_main_v12 (F := Ideal) x0 x1 = h
  pointwise

/-- and by row. -/
theorem row_at (R : Fin 256) (k : Fin 7184) :
    val_main_v14 (F := Ideal) x0 x1 x2 (ix2 R k)
      = onto (fun j => x0 (ix3 ⟨R.val / 8, by omega⟩ ⟨R.val % 8, by omega⟩ j)) (fun j => x1 (ix1 j))
          (fun j => x2 (ix2 j k)) := by
  rw [← product_at, val_main_v14_apply]
  refine congrArg _ (funext fun a => ?_)
  match a with
  | ⟨0, _⟩ => exact Fin.ext (by show (R.val * 7184 + k.val) / 57472 = R.val / 8; omega)
  | ⟨1, _⟩ => exact Fin.ext (by show (R.val * 7184 + k.val) / 7184 % 8 = R.val % 8; omega)
  | ⟨2, _⟩ => exact Fin.ext (by show (R.val * 7184 + k.val) % 7184 = k.val; omega)

open Cert.Kernel8Ideal.Project (wideCol thinCol)

/-- The wide result. -/
theorem wide_at (R : Fin 256) (k : Fin 7168) :
    val_main_v15 (F := Ideal) x0 x1 x2 (ix2 R k)
      = onto (fun j => x0 (ix3 ⟨R.val / 8, by omega⟩ ⟨R.val % 8, by omega⟩ j)) (fun j => x1 (ix1 j))
          (fun j => x2 (ix2 j (wideCol k))) := by
  rw [← row_at]
  unfold val_main_v15 wideCol
  generalize val_main_v14 (F := Ideal) x0 x1 x2 = h
  pointwise

/-- The narrow result. -/
theorem thin_at (R : Fin 256) (k : Fin 128) :
    val_main_v17 (F := Ideal) x0 x1 x2 (ix2 R k)
      = lanes (fun i => onto (fun j => x0 (ix3 ⟨R.val / 8, by omega⟩ ⟨R.val % 8, by omega⟩ j)) (fun j => x1 (ix1 j))
          (fun j => x2 (ix2 j (thinCol i)))) k := by
  simp only [← row_at]
  unfold val_main_v17 val_main_v16 val_main_call0_v0 val_main_c thinCol lanes
  generalize val_main_v14 (F := Ideal) x0 x1 x2 = h
  pointwise
  rw [zero_word]

open Idealize.SL.Sem

/-- The reference ends with its arguments unchanged and no counter raised: it has none. -/
theorem reference_frame : Cert.quiescent_Reference8Ideal (hReference8Ideal := Cert.Reference8Ideal.Gen.facts) := fun m g _ =>
  (θ_run Cert.Reference8Ideal.defs _ _).mono
    (fun r h => ⟨fun c => (h c).2.2, sem_eq_zero_of_no_sems rfl r.2⟩) (Cert.Reference8Ideal.Value.run m g)

/-- The idealized kernel ends with the projected rows, and so does the reference of arguments it shares. -/
theorem results : Cert.algebraic_Kernel8Ideal_Reference8Ideal (hKernel8Ideal := Cert.Kernel8Ideal.Gen.facts)
    (hReference8Ideal := Cert.Reference8Ideal.Gen.facts) := fun m g m' g' _ agree => by
  refine ⟨Cert.Kernel8Ideal.Project.wideArray m, Cert.Kernel8Ideal.Project.thinArray m, ?_, ?_⟩
  · refine (θ_run Cert.Kernel8Ideal.defs _ _).mono
      (fun r h c => ⟨((h.1.1 c).1 4).trans (Cert.Kernel8Ideal.Project.wide_eq m c),
        ((h.1.1 c).1 5).trans (Cert.Kernel8Ideal.Project.thin_eq m c), h.2.1 c⟩)
      (θ_run_and (Cert.Kernel8Ideal.Project.run_main m g) (Cert.Kernel8Ideal.Project.frame m g))
  · refine (θ_run Cert.Reference8Ideal.defs _ _).mono (fun r h c => ⟨(h c).1.trans ?_, (h c).2.1.trans ?_, (h c).2.2⟩)
      (Cert.Reference8Ideal.Value.run m' g')
    · obtain ⟨e0, e1, e2⟩ := agree c
      rw [val_main_v15_eq, e0, e1, e2]
      funext y
      obtain ⟨R, k, rfl⟩ : ∃ (R : Fin 256) (k : Fin 7168), y = ix2 R k := ⟨y 0, y 1, eq_ix2 y⟩
      exact wide_at _ _ _ R k
    · obtain ⟨e0, e1, e2⟩ := agree c
      rw [val_main_v17_eq, e0, e1, e2]
      funext y
      obtain ⟨R, k, rfl⟩ : ∃ (R : Fin 256) (k : Fin 128), y = ix2 R k := ⟨y 0, y 1, eq_ix2 y⟩
      exact thin_at _ _ _ R k

end Cert.Reference8Ideal.Project

end
-- ==== Proof.SampleCdRun.lean ====
/- The body of the second layer's normalized projection of the sample batch at one grid point, run on whole buffers. A point
   is `t = i·7 + j`: row block `i`, column block `j` of the wide weight. The first point of a row block normalizes its rows
   into the scratch and projects them onto the narrow weight; every point projects the scratch onto its column block of the
   wide weight. -/
module

public import proofs.«01_k».proof.Proof.Whole
public import proofs.«01_k».proof.Proof.Gen.Kernel9Ideal.Skeleton
public import proofs.«01_k».proof.Proof.Gen.Kernel9Ideal.Frame

@[expose] public section

set_option maxRecDepth 16384

noncomputable section

namespace Cert.Kernel9Ideal.Project

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its row block. -/
abbrev First (i : grid0.Coords) : Prop := k0_cond1 i = 1#1

theorem first_iff (t : Fin grid0.N) : First (grid0.coords t) ↔ t.val % 7 = 0 := by
  have h : (grid0.coords t 1).val = t.val / 1 % 7 := Pipeline.Grid.coords_val t 1 (by decide) rfl
  rw [Nat.div_one] at h
  simp only [First, k0_cond1, h]
  word_cmp

/-- The staging buffer of each window at a point, and its wholeness: the rows, the norm's weight, the wide and the narrow
    weight, the wide and the narrow result. -/
abbrev mx (t : Fin cfg0.N) : Memref sig .tc .vmem S256x1024 .f32 := win0_0.stage (cfg0.slots t 0)
abbrev hx (t : Fin cfg0.N) : (mx t).IsWhole := hstage0_0 ((cfg0.slots t 0).cast nbuf0_0)
abbrev mg (t : Fin cfg0.N) : Memref sig .tc .vmem S1x1024 .f32 := win0_1.stage (cfg0.slots t 1)
abbrev hg (t : Fin cfg0.N) : (mg t).IsWhole := hstage0_1 ((cfg0.slots t 1).cast nbuf0_1)
abbrev mw (t : Fin cfg0.N) : Memref sig .tc .vmem S1024x512 .bf16 := win0_2.stage (cfg0.slots t 2)
abbrev hw (t : Fin cfg0.N) : (mw t).IsWhole := hstage0_2 ((cfg0.slots t 2).cast nbuf0_2)
abbrev mn (t : Fin cfg0.N) : Memref sig .tc .vmem S1024x128 .bf16 := win0_3.stage (cfg0.slots t 3)
abbrev hn (t : Fin cfg0.N) : (mn t).IsWhole := hstage0_3 ((cfg0.slots t 3).cast nbuf0_3)
abbrev mo (t : Fin cfg0.N) : Memref sig .tc .vmem S256x512 .f32 := win0_4.stage (cfg0.slots t 4)
abbrev ho (t : Fin cfg0.N) : (mo t).IsWhole := hstage0_4 ((cfg0.slots t 4).cast nbuf0_4)
abbrev ms (t : Fin cfg0.N) : Memref sig .tc .vmem S256x128 .f32 := win0_5.stage (cfg0.slots t 5)
abbrev hs (t : Fin cfg0.N) : (ms t).IsWhole := hstage0_5 ((cfg0.slots t 5).cast nbuf0_5)
/-- The scratch holding the normalized rows. -/
abbrev mh : Memref sig .tc .vmem S256x1024 .bf16 := Memref.whole cc0_scratch0

/-- The invariant the launch starts and ends with: the scratch at some contents, and the generator's register. -/
theorem rest_eq (c : Dev nD) :
    (Pipeline.ΦA spec0 c : sProp 𝕄)
      = iprop(iprop((∃ d, owns (c : Thread nD τ) mh fullShare d)) ∗ (∃ r, prngReg c r)) := by
  unfold Pipeline.ΦA; rw [scopedRest0_eq]; simp only [mh, owns_whole]; try rfl

variable (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S256x512 .f32) (harg6 : arg6.IsWhole) (arg7 : Memref sig .tc .vmem S256x128 .f32) (harg7 : arg7.IsWhole) (arg8 : Memref sig .tc .vmem S256x1024 .bf16) (harg8 : arg8.IsWhole)
    (x : Vec F S256x1024 .f32) (g : Vec F S1x1024 .f32) (w : Vec F S1024x512 .bf16) (n : Vec F S1024x128 .bf16)

set_option maxHeartbeats 1000000 in
/-- At the first point of a row block, the inputs left as they were. -/
theorem run_first (hf : First i) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare n ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w ∗ owns (c : Thread nD τ) arg5 fullShare n ∗ owns (c : Thread nD τ) arg6 fullShare (k0_pay4 (k0_pay2 x g) w) ∗ owns (c : Thread nD τ) arg7 fullShare (k0_pay3 x g n) ∗ owns (c : Thread nD τ) arg8 fullShare (k0_pay2 x g)) -∗ K ⟨⟩))
      ⊢ wp frame (wpE (defs₀ (F := F)) Variants.none c none) E (cc0_rms_project i arg2 harg2 arg3 harg3 arg4 harg4 arg5 harg5 arg6 harg6 arg7 harg7 arg8 harg8) K := by
  simp only [cc0_rms_project_eq_skeleton]; unfold cc0_rms_project_skel
  unfold owns
  iintro ⟨⟨%fx, %hfx, Hx⟩, ⟨%fg, %hfg, Hg⟩, ⟨%fw, %hfw, Hw⟩, ⟨%fn, %hfn, Hn⟩, ⟨%dw, %fo, -, Ho⟩, ⟨%ds, %fs, -, Hs⟩, ⟨%dh, %fh, -, Hh⟩, Hend⟩
  obtain rfl := harg2.eq_unread hfx; obtain rfl := harg3.eq_unread hfg; obtain rfl := harg4.eq_unread hfw; obtain rfl := harg5.eq_unread hfn
  sl_exec (disch := sl_exact hf)
  sl_step
  iapply Hend
  isplitl [Hx]
  · iexists _; isplitr; · ipureintro; exact harg2.read_unread _
    iexact Hx
  isplitl [Hg]
  · iexists _; isplitr; · ipureintro; exact harg3.read_unread _
    iexact Hg
  isplitl [Hw]
  · iexists _; isplitr; · ipureintro; exact harg4.read_unread _
    iexact Hw
  isplitl [Hn]
  · iexists _; isplitr; · ipureintro; exact harg5.read_unread _
    iexact Hn
  isplitl [Ho]
  · iexists _; isplitr
    swap; · iexact Ho
    ipureintro
    rw [Layer.store_whole _ _ _ (by decide)]
    delta run_first.sl.v3 run_first.sl.Hh_1
    simp (disch := decide) only [Layer.load_whole, View.readCov_unit_lit']
  isplitl [Hs]
  · iexists _; isplitr
    swap; · iexact Hs
    ipureintro
    rw [Layer.store_whole _ _ _ (by decide)]
    simp (disch := decide) only [Layer.load_whole]
  iexists _; isplitr
  swap; · iexact Hh
  ipureintro
  delta run_first.sl.Hh_1
  rw [Layer.store_whole _ _ _ (by decide)]
  simp (disch := decide) only [Layer.load_whole]

set_option maxHeartbeats 1000000 in
/-- At a later point, from the normalized rows `h` in the scratch: only the wide result changes. -/
theorem run_later (h : Vec F S256x1024 .bf16) (s : Vec F S256x128 .f32) (hf : ¬First i) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare n ∗ (∃ d, owns (c : Thread nD τ) arg6 fullShare d) ∗ owns (c : Thread nD τ) arg7 fullShare s ∗ owns (c : Thread nD τ) arg8 fullShare h
        ∗ (iprop(owns (c : Thread nD τ) arg2 fullShare x ∗ owns (c : Thread nD τ) arg3 fullShare g ∗ owns (c : Thread nD τ) arg4 fullShare w ∗ owns (c : Thread nD τ) arg5 fullShare n ∗ owns (c : Thread nD τ) arg6 fullShare (k0_pay4 h w) ∗ owns (c : Thread nD τ) arg7 fullShare s ∗ owns (c : Thread nD τ) arg8 fullShare h) -∗ K ⟨⟩))
      ⊢ wp frame (wpE (defs₀ (F := F)) Variants.none c none) E (cc0_rms_project i arg2 harg2 arg3 harg3 arg4 harg4 arg5 harg5 arg6 harg6 arg7 harg7 arg8 harg8) K := by
  simp only [cc0_rms_project_eq_skeleton]; unfold cc0_rms_project_skel
  unfold owns
  iintro ⟨⟨%fx, %hfx, Hx⟩, ⟨%fg, %hfg, Hg⟩, ⟨%fw, %hfw, Hw⟩, ⟨%fn, %hfn, Hn⟩, ⟨%dw, %fo, -, Ho⟩, ⟨%fs, %hfs, Hs⟩, ⟨%fh, %hfh, Hh⟩, Hend⟩
  obtain rfl := harg2.eq_unread hfx; obtain rfl := harg3.eq_unread hfg; obtain rfl := harg4.eq_unread hfw; obtain rfl := harg5.eq_unread hfn
  obtain rfl := harg7.eq_unread hfs; obtain rfl := harg8.eq_unread hfh
  sl_exec (disch := sl_exact hf)
  sl_step
  iapply Hend
  isplitl [Hx]
  · iexists _; isplitr; · ipureintro; exact harg2.read_unread _
    iexact Hx
  isplitl [Hg]
  · iexists _; isplitr; · ipureintro; exact harg3.read_unread _
    iexact Hg
  isplitl [Hw]
  · iexists _; isplitr; · ipureintro; exact harg4.read_unread _
    iexact Hw
  isplitl [Hn]
  · iexists _; isplitr; · ipureintro; exact harg5.read_unread _
    iexact Hn
  isplitl [Ho]
  · iexists _; isplitr
    swap; · iexact Ho
    ipureintro
    rw [Layer.store_whole _ _ _ (by decide)]
    simp (disch := decide) only [Layer.load_whole]
  isplitl [Hs]
  · iexists _; isplitr; · ipureintro; exact harg7.read_unread _
    iexact Hs
  iexists _; isplitr; · ipureintro; exact harg8.read_unread _
  iexact Hh

end Cert.Kernel9Ideal.Project

end
-- ==== Proof.SampleCdFrame.lean ====
/- The whole run of the second layer's normalized projection of the sample batch: what the results' buffers and the scratch
   hold after each grid point, the proof that the body takes each point's state to the next, and the launch. -/
module

public import proofs.«01_k».proof.Proof.SampleCdRun
public import Idealize.ShloMosaic.Lib.Pipeline.TableIdle
public import Idealize.ShloMosaic.Lib.Claim

@[expose] public section

set_option maxRecDepth 16384

noncomputable section

namespace Cert.Kernel9Ideal.Project

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The first point of a point's row block. -/
def start (t : Fin cfg0.N) : Fin cfg0.N := ⟨t.val - t.val % 7, Nat.lt_of_le_of_lt (Nat.sub_le _ _) t.isLt⟩

theorem start_first (t : Fin cfg0.N) (h : t.val % 7 = 0) : start t = t := Fin.ext (by simp only [start]; omega)

/-- A later point has the first point of the point before it. -/
theorem start_later (t : Fin cfg0.N) (h : ¬t.val % 7 = 0) (hp : t.val - 1 < cfg0.N) : start ⟨t.val - 1, hp⟩ = start t :=
  Fin.ext (by simp only [start]; omega)

/-- The normalized rows in the scratch after a point, -/
def rowsAt (c : Dev nD) (t : Fin cfg0.N) : Vec F S256x1024 .bf16 := k0_pay2 (iblk m c 0 (start t)) (iblk m c 1 (start t))
/-- the wide result's block, -/
def wideAt (c : Dev nD) (t : Fin cfg0.N) : Vec F S256x512 .f32 := k0_pay4 (rowsAt m c t) (iblk m c 2 t)
/-- and the narrow result's. -/
def thinAt (c : Dev nD) (t : Fin cfg0.N) : Vec F S256x128 .f32 :=
  k0_pay3 (iblk m c 0 (start t)) (iblk m c 1 (start t)) (iblk m c 3 (start t))

theorem rowsAt_later (c : Dev nD) (t : Fin cfg0.N) (h : ¬t.val % 7 = 0) (hp : t.val - 1 < cfg0.N) :
    rowsAt m c ⟨t.val - 1, hp⟩ = rowsAt m c t := by unfold rowsAt; rw [start_later t h hp]
theorem thinAt_later (c : Dev nD) (t : Fin cfg0.N) (h : ¬t.val % 7 = 0) (hp : t.val - 1 < cfg0.N) :
    thinAt m c ⟨t.val - 1, hp⟩ = thinAt m c t := by unfold thinAt; rw [start_later t h hp]

/-! ## The proof data -/

/-- Before the first point the scratch holds anything; after a point the normalized rows. -/
def PhiS (c : Dev nD) : (n : ℕ) → n ≤ cfg0.N → sProp 𝕄
  | 0, _ => Pipeline.ΦA spec0 c
  | n + 1, hn => iprop(iprop(owns (c : Thread nD τ) mh fullShare (rowsAt m c ⟨n, hn⟩)) ∗ (∃ r, prngReg c r))

theorem PhiS_pos (c : Dev nD) (n : ℕ) (h : n ≤ cfg0.N) (hz : n ≠ 0) :
    PhiS m c n h = iprop(iprop(owns (c : Thread nD τ) mh fullShare (rowsAt m c ⟨n - 1, by omega⟩)) ∗ (∃ r, prngReg c r)) := by
  cases n with
  | zero => exact absurd rfl hz
  | succ n => rfl

/-- Whatever the invariant knows of the scratch may be forgotten. -/
theorem PhiS_forget (c : Dev nD) (n : ℕ) (h : n ≤ cfg0.N) :
    PhiS m c n h ⊢ iprop(iprop((∃ d, owns (c : Thread nD τ) mh fullShare d)) ∗ (∃ r, prngReg c r)) := by
  cases n with
  | zero => rw [← rest_eq]; exact Idealize.SL.BI.Entails.refl _
  | succ n =>
    rw [PhiS_pos m c _ h (Nat.succ_ne_zero n)]
    iintro ⟨Hs, Hg⟩
    isplitl [Hs]
    · iexists _; iexact Hs
    iexact Hg

/-- The pipeline's proof data: each input's buffer at its block, the results' at theirs, the normalized rows in the
    invariant, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wideAt m c t
    | ⟨5, _⟩ => thinAt m c t
  Φ t := PhiS m c t.val (Nat.le_of_lt_succ t.isLt)
  q w := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_x (c : Dev nD) (t : Fin cfg0.N) : (dats m 0 c).after 0 t = iblk m c 0 t := by dsimp only [dats]
theorem after_g (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_n (c : Dev nD) (t : Fin cfg0.N) : (dats m 0 c).after 3 t = iblk m c 3 t := by dsimp only [dats]
theorem after_o (c : Dev nD) (t : Fin cfg0.N) : (dats m 0 c).after 4 t = wideAt m c t := by dsimp only [dats]
theorem after_s (c : Dev nD) (t : Fin cfg0.N) : (dats m 0 c).after 5 t = thinAt m c t := by dsimp only [dats]

theorem before_x (c : Dev nD) (t : Fin cfg0.N) (d) : (dats m 0 c).before 0 t d = iblk m c 0 t :=
  before0_0_of m (dats m 0 c) (A_eq m c 0) (after_x m c) t d
theorem before_g (c : Dev nD) (t : Fin cfg0.N) (d) : (dats m 0 c).before 1 t d = iblk m c 1 t :=
  before0_1_of m (dats m 0 c) (A_eq m c 1) (after_g m c) t d
theorem before_w (c : Dev nD) (t : Fin cfg0.N) (d) : (dats m 0 c).before 2 t d = iblk m c 2 t :=
  before0_2_of m (dats m 0 c) (A_eq m c 2) (after_w m c) t d
theorem before_n (c : Dev nD) (t : Fin cfg0.N) (d) : (dats m 0 c).before 3 t d = iblk m c 3 t :=
  before0_3_of m (dats m 0 c) (A_eq m c 3) (after_n m c) t d

/-! ## The narrow result's buffer between points -/

/-- Where the body stores nothing into the narrow result the point is not a row block's first. -/
theorem not_first_of_idle (t : Fin cfg0.N) (h : cfg0.idle 5 (grid0.coords t) = true) : ¬t.val % 7 = 0 := by
  have h' : (!(k0_cond1 (grid0.coords t) == 1#1)) = true := h
  simp only [Bool.not_eq_true', beq_eq_false_iff_ne, ne_eq] at h'
  exact fun e => h' ((first_iff t).2 e)

/-- The narrow result's buffer holds nothing of the kernel's only at a row block's first point. -/
theorem first_of_fresh : ∀ n, n ≤ cfg0.N → cfg0.fresh 5 n = true → n % 7 = 0
  | 0, _, _ => rfl
  | n + 1, hn, h => by
    rw [Cfg.fresh_succ cfg0 5 n hn, Bool.or_eq_true, Bool.and_eq_true] at h
    rcases h with h | ⟨hi, hf⟩
    · have := (flush0_5 ⟨n, hn⟩).1 h
      simp only at this; omega
    · exact absurd (first_of_fresh n (Nat.le_of_lt hn) hf) (not_first_of_idle ⟨n, hn⟩ hi)

/-- Past a row block's first point the narrow result's buffer holds what is to be there. -/
theorem before_s (c : Dev nD) (t : Fin cfg0.N) (h : ¬t.val % 7 = 0) (d) : (dats m 0 c).before 5 t d = thinAt m c t := by
  have hf : cfg0.fresh 5 t.val = false := by
    cases hc : cfg0.fresh 5 t.val
    · rfl
    · exact absurd (first_of_fresh t.val (Nat.le_of_lt t.isLt) hc) h
  rw [(dats m 0 c).before_out_traj 5 rfl (fun _ _ => rfl) (fun t hz hi _ => by
    have hn := not_first_of_idle t hi
    rw [after_s, after_s, thinAt_later m c t hn]) t.val t rfl d, hf, after_s]
  exact thinAt_later m c t h _

/-- The narrow result's buffer at its block is what the point is to leave there. -/
theorem leaves_s (c : Dev nD) (t : Fin cfg0.N) :
    owns (c : Thread nD τ) (ms t) fullShare (thinAt m c t) ⊢ ((dats m 0 c).leavesExact 5 t : sProp 𝕄) := by
  unfold Dat.leavesExact
  cases hi : cfg0.idle 5 (cfg0.grid.coords t)
  · simp only [after_s]; exact Idealize.SL.BI.Entails.refl _
  · cases hf : (cfg0.win 5).flush t
    · have hn := not_first_of_idle t hi
      simp only [before_s m c t hn]
      iintro H
      iexists (fun _ => Classical.arbitrary _)
      iexact H
    · simp only [after_s]; exact Idealize.SL.BI.Entails.refl _

theorem leaves_x (c : Dev nD) (t : Fin cfg0.N) : (dats m 0 c).leavesExact 0 t = owns (c : Thread nD τ) (mx t) fullShare (iblk m c 0 t) := by
  unfold Dat.leavesExact; rw [show cfg0.idle 0 (cfg0.grid.coords t) = false from rfl, after_x]
theorem leaves_g (c : Dev nD) (t : Fin cfg0.N) : (dats m 0 c).leavesExact 1 t = owns (c : Thread nD τ) (mg t) fullShare (iblk m c 1 t) := by
  unfold Dat.leavesExact; rw [show cfg0.idle 1 (cfg0.grid.coords t) = false from rfl, after_g]
theorem leaves_w (c : Dev nD) (t : Fin cfg0.N) : (dats m 0 c).leavesExact 2 t = owns (c : Thread nD τ) (mw t) fullShare (iblk m c 2 t) := by
  unfold Dat.leavesExact; rw [show cfg0.idle 2 (cfg0.grid.coords t) = false from rfl, after_w]
theorem leaves_n (c : Dev nD) (t : Fin cfg0.N) : (dats m 0 c).leavesExact 3 t = owns (c : Thread nD τ) (mn t) fullShare (iblk m c 3 t) := by
  unfold Dat.leavesExact; rw [show cfg0.idle 3 (cfg0.grid.coords t) = false from rfl, after_n]
theorem leaves_o (c : Dev nD) (t : Fin cfg0.N) : (dats m 0 c).leavesExact 4 t = owns (c : Thread nD τ) (mo t) fullShare (wideAt m c t) := by
  unfold Dat.leavesExact; rw [show cfg0.idle 4 (cfg0.grid.coords t) = false from rfl, after_o]

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (mg t) fullShare ((dats m 0 c).before 1 t d))
    ∗ (∃ d, owns (c : Thread nD τ) (mw t) fullShare ((dats m 0 c).before 2 t d))
    ∗ (∃ d, owns (c : Thread nD τ) (mn t) fullShare ((dats m 0 c).before 3 t d))
    ∗ (∃ d, owns (c : Thread nD τ) (mo t) fullShare ((dats m 0 c).before 4 t d))
    ∗ (∃ d, owns (c : Thread nD τ) (ms t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_g, before_w, before_n, leaves_x, leaves_g, leaves_w, leaves_n, leaves_o]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), Phi_castSucc]
  rw [show rowsAt m c ⟨t.val + 1 - 1, _⟩ = rowsAt m c t from rfl]
  by_cases h0 : t.val % 7 = 0
  · have hf : First (grid0.coords t) := (first_iff t).2 h0
    iintro ⟨HP, Hq, ⟨%d0, Hx⟩, ⟨%d1, Hg⟩, ⟨%d2, Hw⟩, ⟨%d3, Hn⟩, ⟨%d4, Ho⟩, ⟨%d5, Hs⟩⟩
    ihave HP := (PhiS_forget m c _ _) $$ HP
    icases HP with ⟨Hh, Hr⟩
    iapply (run_first c (grid0.coords t) (mx t) (hx t) (mg t) (hg t) (mw t) (hw t) (mn t) (hn t) (mo t) (ho t) (ms t) (hs t) mh (Memref.isWhole_whole _) (iblk m c 0 t) (iblk m c 1 t) (iblk m c 2 t) (iblk m c 3 t) hf Set.univ _)
    isplitl [Hx]; · iexact Hx
    isplitl [Hg]; · iexact Hg
    isplitl [Hw]; · iexact Hw
    isplitl [Hn]; · iexact Hn
    isplitl [Ho]; · iexists _; iexact Ho
    isplitl [Hs]; · iexists _; iexact Hs
    isplitl [Hh]; · iexact Hh
    iintro ⟨Hx, Hg, Hw, Hn, Ho, Hs, Hh⟩
    rw [show rowsAt m c t = k0_pay2 (iblk m c 0 t) (iblk m c 1 t) by unfold rowsAt; rw [start_first t h0],
      show wideAt m c t = k0_pay4 (k0_pay2 (iblk m c 0 t) (iblk m c 1 t)) (iblk m c 2 t) by unfold wideAt rowsAt; rw [start_first t h0]]
    isplitl [Hh Hr]
    · isplitl [Hh]; · iexact Hh
      iexact Hr
    isplitl [Hq]; · iexact Hq
    isplitl [Hx]; · iexact Hx
    isplitl [Hg]; · iexact Hg
    isplitl [Hw]; · iexact Hw
    isplitl [Hn]; · iexact Hn
    isplitl [Ho]; · iexact Ho
    iapply (leaves_s m c t)
    rw [show thinAt m c t = k0_pay3 (iblk m c 0 t) (iblk m c 1 t) (iblk m c 3 t) by unfold thinAt; rw [start_first t h0]]
    iexact Hs
  · have hf : ¬First (grid0.coords t) := fun h => h0 ((first_iff t).1 h)
    have hz : t.val ≠ 0 := fun h => h0 (by rw [h])
    rw [PhiS_pos m c _ _ hz, rowsAt_later m c t h0]
    simp only [before_s m c t h0]
    iintro ⟨⟨Hh, Hr⟩, Hq, ⟨%d0, Hx⟩, ⟨%d1, Hg⟩, ⟨%d2, Hw⟩, ⟨%d3, Hn⟩, ⟨%d4, Ho⟩, ⟨%d5, Hs⟩⟩
    iapply (run_later c (grid0.coords t) (mx t) (hx t) (mg t) (hg t) (mw t) (hw t) (mn t) (hn t) (mo t) (ho t) (ms t) (hs t) mh (Memref.isWhole_whole _) (iblk m c 0 t) (iblk m c 1 t) (iblk m c 2 t) (iblk m c 3 t) (rowsAt m c t) (thinAt m c t) hf Set.univ _)
    isplitl [Hx]; · iexact Hx
    isplitl [Hg]; · iexact Hg
    isplitl [Hw]; · iexact Hw
    isplitl [Hn]; · iexact Hn
    isplitl [Ho]; · iexists _; iexact Ho
    isplitl [Hs]; · iexact Hs
    isplitl [Hh]; · iexact Hh
    iintro ⟨Hx, Hg, Hw, Hn, Ho, Hs, Hh⟩
    isplitl [Hh Hr]
    · isplitl [Hh]; · iexact Hh
      iexact Hr
    isplitl [Hq]; · iexact Hq
    isplitl [Hx]; · iexact Hx
    isplitl [Hg]; · iexact Hg
    isplitl [Hw]; · iexact Hw
    isplitl [Hn]; · iexact Hn
    isplitl [Ho]; · iexact Ho
    iapply (leaves_s m c t)
    iexact Hs

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

theorem launch_in (c : Dev nD) : Pipeline.ΦA spec0 c ⊢ (dats m 0 c).Φ 0 := by
  rw [show (dats m 0 c).Φ 0 = PhiS m c 0 (Nat.zero_le _) from rfl]
  exact Idealize.SL.BI.Entails.refl _

theorem launch_out (c : Dev nD) : (dats m 0 c).Φ (Fin.last cfg0.N) ⊢ Pipeline.ΦA spec0 c := by
  rw [show (dats m 0 c).Φ (Fin.last cfg0.N) = PhiS m c cfg0.N (Nat.le_refl _) from rfl, rest_eq]
  exact PhiS_forget m c _ _

-- the launch theorem's implicit arguments are found by unfolding plain definitions in a metavariable's type
set_option backward.isDefEq.respectTransparency.types false in
/-- From any memory with zero counters every fair execution ends, at the proof data's arrays and with the counters zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := launch_in m) (hout := launch_out m)

/-- The arguments end as they began and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel9Ideal.Project

end
-- ==== Proof.SampleCdBits.lean ====
/- The second layer's normalized projection of the sample batch as printed is the idealized one's text at machine floats: its
   body, its launch and its host operations are the same, so its run is the idealized kernel's. -/
module

public import proofs.«01_k».proof.Defs
public import proofs.«01_k».proof.Proof.Gen.Kernel9
public import proofs.«01_k».proof.Proof.SampleCdFrame

@[expose] public section

set_option maxRecDepth 8000

noncomputable section

namespace Cert.Kernel9

open Idealize.ShloMosaic Idealize.SL.Sem

/-- The bodies are one. -/
theorem body_eq (i : Kernel9Ideal.grid0.Coords) (x : Memref Kernel9Ideal.sig .tc .vmem Kernel9Ideal.S256x1024 .f32)
    (g : Memref Kernel9Ideal.sig .tc .vmem Kernel9Ideal.S1x1024 .f32) (w : Memref Kernel9Ideal.sig .tc .vmem Kernel9Ideal.S1024x512 .bf16)
    (n : Memref Kernel9Ideal.sig .tc .vmem Kernel9Ideal.S1024x128 .bf16) (o : Memref Kernel9Ideal.sig .tc .vmem Kernel9Ideal.S256x512 .f32)
    (s : Memref Kernel9Ideal.sig .tc .vmem Kernel9Ideal.S256x128 .f32) (h : Memref Kernel9Ideal.sig .tc .vmem Kernel9Ideal.S256x1024 .bf16)
    (hx : x.IsWhole) (hg : g.IsWhole) (hw : w.IsWhole) (hn : n.IsWhole) (ho : o.IsWhole) (hs : s.IsWhole) (hh : h.IsWhole) :
    cc0_rms_project (F := Bits) i x hx g hg w hw n hn o ho s hs h hh
      = Kernel9Ideal.cc0_rms_project (F := Bits) i x hx g hg w hw n hn o ho s hs h hh := by
  unfold cc0_rms_project Kernel9Ideal.cc0_rms_project
  rfl

/-- So are the definitions a launch calls. -/
theorem defs_eq : defs (F := Bits) = Kernel9Ideal.defs (F := Bits) := by
  refine congrArg (Pipeline.defs Kernel9Ideal.pcfgs) ?_
  unfold defs₀ Kernel9Ideal.defs₀
  refine congrArg Defs.onTc (funext fun l => funext fun x => ?_)
  match l, x with
  | 0, (t, s) => exact body_eq _ _ _ _ _ _ _ _ _ _ _ _ _ _ _

/-- The kernel's frame. -/
theorem frame (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Kernel9Ideal.Project.frame (F := Bits) m g

end Cert.Kernel9

end
-- ==== Proof.SampleCd.lean ====
/- The second layer's normalized projection of the sample batch: what a grid point computes, what its blocks hold, and the
   two result arrays. -/
module

public import Idealize.ShloMosaic.Lib.Pipeline.ValueKit
public import Idealize.ShloMosaic.Lib.Pipeline.Covers
public import proofs.«01_k».proof.Proof.SampleCdFrame
public import proofs.«01_k».proof.Proof.ProjectProblem

@[expose] public section

set_option maxRecDepth 16384

noncomputable section

namespace Cert.Kernel9Ideal.Project

open Cert.Kernel9Ideal Cert.Kernel9Ideal.Gen Cert.Layer
open Idealize.ShloMosaic Idealize.ShloMosaic.TcCoe

/-! ## One point -/

theorem rows_pay (x : FVec Ideal S256x1024 .f32) (g : FVec Ideal S1x1024 .f32) (r : Fin 256) (k : Fin 1024) :
    k0_pay2 (F := Ideal) x g (ix2 r k) = normed (fun j => x (ix2 r j)) (fun j => g (ix2 0 j)) k := by
  unfold normed scale
  pointwise [k0_pay2, k0_pay1]

theorem wide_pay (h : FVec Ideal S256x1024 .bf16) (w : FVec Ideal S1024x512 .bf16) (r : Fin 256) (k : Fin 512) :
    k0_pay4 (F := Ideal) h w (ix2 r k) = ∑ j : Fin 1024, h (ix2 r j) * w (ix2 j k) := by
  pointwise [k0_pay4]

theorem thin_pay (x : FVec Ideal S256x1024 .f32) (g : FVec Ideal S1x1024 .f32) (n : FVec Ideal S1024x128 .bf16) (r : Fin 256)
    (k : Fin 128) :
    k0_pay3 (F := Ideal) x g n (ix2 r k) = onto (fun j => x (ix2 r j)) (fun j => g (ix2 0 j)) (fun j => n (ix2 j k)) := by
  unfold onto normed scale
  pointwise [k0_pay3, k0_pay1]

variable (m : (ℓ : Loc nD τ sig) → Buf (Elt Ideal) ℓ)

/-! ## The arguments -/

/-- The arguments, by position; a row is a batch's and a place's. -/
def rows (c : Dev nD) (R : Fin 256) (k : Fin 1024) : EReal :=
  m ((c : Thread nD τ).loc main_arg0) (ix3 ⟨R.val / 8, by omega⟩ ⟨R.val % 8, by omega⟩ k)
def gain (c : Dev nD) (k : Fin 1024) : EReal := m ((c : Thread nD τ).loc main_arg1) (ix1 k)
def weight (c : Dev nD) (j : Fin 1024) (k : Fin 3592) : EReal := m ((c : Thread nD τ).loc main_arg2) (ix2 j k)

/-- The column of the weight a wide result's column is of, and a narrow one's. -/
def wideCol (k : Fin 3584) : Fin 3592 := if h : k.val < 2048 then ⟨k.val, by omega⟩ else ⟨8 + k.val, by omega⟩
def thinCol (k : Fin 8) : Fin 3592 := ⟨2048 + k.val, by omega⟩

/-- The arguments as the host lays them out. -/
theorem rows_entry (c : Dev nD) (R : Fin 256) (k : Fin 1024) : V m c main_v4 (ix2 R k) = rows m c R k := by
  unfold rows
  simp only [V, hostOps0, hostOps0_1, hostOps0_2, List.flatten_cons, List.flatten_nil, List.append_nil, List.cons_append,
    List.nil_append]
  entry_read
  pointwise
theorem gain_entry (c : Dev nD) (k : Fin 1024) : V m c main_v8 (ix2 0 k) = gain m c k := by
  unfold gain
  simp only [V, hostOps0, hostOps0_1, hostOps0_2, List.flatten_cons, List.flatten_nil, List.append_nil, List.cons_append,
    List.nil_append]
  entry_read
  pointwise
theorem wide_entry (c : Dev nD) (j : Fin 1024) (k : Fin 3584) : V m c main_v3 (ix2 j k) = weight m c j (wideCol k) := by
  unfold weight wideCol
  simp only [V, hostOps0, hostOps0_1, hostOps0_2, List.flatten_cons, List.flatten_nil, List.append_nil, List.cons_append,
    List.nil_append]
  entry_read
  pointwise
  by_cases h : k.val < 2048
  · simp only [dif_pos h]
  · simp only [dif_neg h]
    exact congrArg (fun l => m ((c : Thread nD τ).loc main_arg2) (ix2 j l)) (Fin.ext (by show 2056 + (k.val - 2048) = 8 + k.val; omega))
theorem thin_entry (c : Dev nD) (j : Fin 1024) (k : Fin 128) :
    V m c main_v7 (ix2 j k) = lanes (fun i => weight m c j (thinCol i)) k := by
  unfold lanes weight thinCol
  simp only [V, hostOps0, hostOps0_1, hostOps0_2, List.flatten_cons, List.flatten_nil, List.append_nil, List.cons_append,
    List.nil_append]
  entry_read
  simp only [StableHlo.TRef.toBuf, StableHlo.TRef.ofBuf, cast_cast, cast_eq]
  pointwise
  rw [zero_word]

/-! ## The blocks -/

/-- The place of each window's block. -/
theorem at_x : ∀ t : Fin cfg0.N, (cfg0.win 0).index t = ![t.val / 7, 0] := by decide +kernel
theorem at_g : ∀ t : Fin cfg0.N, (cfg0.win 1).index t = ![0, 0] := by decide +kernel
theorem at_w : ∀ t : Fin cfg0.N, (cfg0.win 2).index t = ![0, t.val % 7] := by decide +kernel
theorem at_n : ∀ t : Fin cfg0.N, (cfg0.win 3).index t = ![0, 0] := by decide +kernel
theorem at_o : ∀ t : Fin cfg0.N, (cfg0.win 4).index t = ![t.val / 7, t.val % 7] := by decide +kernel
theorem at_s : ∀ t : Fin cfg0.N, (cfg0.win 5).index t = ![t.val / 7, 0] := by decide +kernel

theorem point_lt (t : Fin cfg0.N) : t.val < 7 := t.isLt

/-- The row of a point's row block, -/
def place (t : Fin cfg0.N) (r : Fin 256) : Fin 256 := ⟨256 * (t.val / 7) + r.val, by have := point_lt t; omega⟩
/-- and the column of its column block. -/
def column (t : Fin cfg0.N) (k : Fin 512) : Fin 3584 := ⟨512 * (t.val % 7) + k.val, by omega⟩

/-- The first point of a row block has its rows. -/
theorem place_start (t : Fin cfg0.N) (r : Fin 256) : place (start t) r = place t r :=
  Fin.ext (by show 256 * ((t.val - t.val % 7) / 7) + r.val = 256 * (t.val / 7) + r.val; omega)

theorem x_at (c : Dev nD) (t : Fin cfg0.N) (r : Fin 256) (k : Fin 1024) : iblk m c 0 t (ix2 r k) = rows m c (place t r) k := by
  rw [← rows_entry]; unfold place
  blk_ext [iblk, at_x t]
theorem g_at (c : Dev nD) (t : Fin cfg0.N) (k : Fin 1024) : iblk m c 1 t (ix2 0 k) = gain m c k := by
  rw [← gain_entry]
  blk_ext [iblk, at_g t]
theorem w_at (c : Dev nD) (t : Fin cfg0.N) (j : Fin 1024) (k : Fin 512) :
    iblk m c 2 t (ix2 j k) = weight m c j (wideCol (column t k)) := by
  rw [← wide_entry]; unfold column
  blk_ext [iblk, at_w t]
theorem n_at (c : Dev nD) (t : Fin cfg0.N) (j : Fin 1024) (k : Fin 128) :
    iblk m c 3 t (ix2 j k) = lanes (fun i => weight m c j (thinCol i)) k := by
  rw [← thin_entry]
  blk_ext [iblk, at_n t]

/-- What a point leaves of the wide result, -/
theorem wideAt_at (c : Dev nD) (t : Fin cfg0.N) (r : Fin 256) (k : Fin 512) :
    wideAt m c t (ix2 r k) = onto (rows m c (place t r)) (gain m c) (fun j => weight m c j (wideCol (column t k))) := by
  unfold wideAt
  rw [wide_pay]
  unfold onto rowsAt
  refine Finset.sum_congr rfl fun j _ => ?_
  rw [rows_pay, w_at]
  simp only [x_at, g_at, place_start]
/-- and of the narrow one. -/
theorem thinAt_at (c : Dev nD) (t : Fin cfg0.N) (r : Fin 256) (k : Fin 128) :
    thinAt m c t (ix2 r k) = lanes (fun i => onto (rows m c (place t r)) (gain m c) (fun j => weight m c j (thinCol i))) k := by
  unfold thinAt
  rw [thin_pay]
  simp only [x_at, g_at, n_at, place_start]
  exact onto_lanes _ _ _ k

/-! ## The result arrays -/

def wideArray (c : Dev nD) : Buf (Elt Ideal) ((c : Thread nD τ).loc main_v9_0) := fun y =>
  onto (rows m c (y 0)) (gain m c) (fun j => weight m c j (wideCol (y 1)))
def thinArray (c : Dev nD) : Buf (Elt Ideal) ((c : Thread nD τ).loc main_v9_1) := fun y =>
  lanes (fun i => onto (rows m c (y 0)) (gain m c) (fun j => weight m c j (thinCol i))) (y 1)

theorem covers_wide : (cfg0.win 4).Covers := by
  refine Pipeline.Window.covers_of_index_surj _ rfl (by decide) fun β => ?_
  have b0 : (β 0).val < 1 := (β 0).isLt
  have b1 : (β 1).val < 7 := (β 1).isLt
  refine ⟨⟨7 * (β 0).val + (β 1).val, by show _ < 7; omega⟩, fun a => ?_⟩
  rw [at_o]
  match a with
  | ⟨0, _⟩ => show (7 * (β 0).val + (β 1).val) / 7 = (β 0).val; omega
  | ⟨1, _⟩ => show (7 * (β 0).val + (β 1).val) % 7 = (β 1).val; omega

theorem covers_thin : (cfg0.win 5).Covers := by
  refine Pipeline.Window.covers_of_index_surj _ rfl (by decide) fun β => ?_
  have b0 : (β 0).val < 1 := (β 0).isLt
  have b1 : (β 1).val < 1 := (β 1).isLt
  refine ⟨⟨7 * (β 0).val, by show _ < 7; omega⟩, fun a => ?_⟩
  rw [at_s]
  match a with
  | ⟨0, _⟩ => show 7 * (β 0).val / 7 = (β 0).val; omega
  | ⟨1, _⟩ => show 0 = (β 1).val; omega

/-- The wide result's array after the run. -/
theorem wide_eq (c : Dev nD) : (dats m 0 c).arrAt 4 cfg0.N = wideArray m c := by
  refine (dats m 0 c).arrAt_eq_of_covers 4 _ covers_wide fun t hf y => ?_
  have e := at_o t
  have y0 : (y 0).val < 256 := (y 0).isLt
  have y1 : (y 1).val < 512 := (y 1).isLt
  have e0 : ((cfg0.win 4).blk t).view.emb y 0 = place t ⟨(y 0).val, y0⟩ := Fin.ext (by
    show _ = 256 * (t.val / 7) + (y 0).val; blk_simp [e]; omega)
  have e1 : ((cfg0.win 4).blk t).view.emb y 1 = column t ⟨(y 1).val, y1⟩ := Fin.ext (by
    show _ = 512 * (t.val % 7) + (y 1).val; blk_simp [e]; omega)
  have ey : (ix2 ⟨(y 0).val, y0⟩ ⟨(y 1).val, y1⟩ : S256x512.Idx) = y := by
    funext a
    match a with
    | ⟨0, _⟩ => rfl
    | ⟨1, _⟩ => rfl
  have R : wideArray m c (((cfg0.win 4).blk t).view.emb y)
      = onto (rows m c (place t ⟨(y 0).val, y0⟩)) (gain m c) (fun j => weight m c j (wideCol (column t ⟨(y 1).val, y1⟩))) := by
    unfold wideArray
    rw [e0, e1]
  refine Eq.trans ?_ R.symm
  blk_simp
  rw [after_o]
  exact (congrArg (wideAt m c t) ey.symm).trans (wideAt_at m c t _ _)

/-- The narrow result's array after the run. -/
theorem thin_eq (c : Dev nD) : (dats m 0 c).arrAt 5 cfg0.N = thinArray m c := by
  refine (dats m 0 c).arrAt_eq_of_covers 5 _ covers_thin fun t hf y => ?_
  have e := at_s t
  have y0 : (y 0).val < 256 := (y 0).isLt
  have y1 : (y 1).val < 128 := (y 1).isLt
  have e0 : ((cfg0.win 5).blk t).view.emb y 0 = place t ⟨(y 0).val, y0⟩ := Fin.ext (by
    show _ = 256 * (t.val / 7) + (y 0).val; blk_simp [e]; omega)
  have e1 : ((cfg0.win 5).blk t).view.emb y 1 = (⟨(y 1).val, y1⟩ : Fin 128) := Fin.ext (by blk_simp [e])
  have ey : (ix2 ⟨(y 0).val, y0⟩ ⟨(y 1).val, y1⟩ : S256x128.Idx) = y := by
    funext a
    match a with
    | ⟨0, _⟩ => rfl
    | ⟨1, _⟩ => rfl
  have R : thinArray m c (((cfg0.win 5).blk t).view.emb y)
      = lanes (fun i => onto (rows m c (place t ⟨(y 0).val, y0⟩)) (gain m c) (fun j => weight m c j (thinCol i))) ⟨(y 1).val, y1⟩ := by
    unfold thinArray
    rw [e0, e1]
  refine Eq.trans ?_ R.symm
  blk_simp
  rw [after_s]
  exact (congrArg (thinAt m c t) ey.symm).trans (thinAt_at m c t _ _)

end Cert.Kernel9Ideal.Project

end
-- ==== Proof.SampleCdClaim.lean ====
/- The second layer's normalized projection of the sample batch: what its reference holds, and the claims. -/
module

public import proofs.«01_k».proof.Defs
public import proofs.«01_k».proof.Proof.Gen.Reference9Ideal
public import proofs.«01_k».proof.Proof.Gen.Reference9Ideal.Run
public import proofs.«01_k».proof.Proof.Gen.Reference9Ideal.Read
public import proofs.«01_k».proof.Proof.SampleCd
public import Idealize.ShloMosaic.Lib.Quiescent

@[expose] public section

set_option maxRecDepth 16384

noncomputable section

namespace Cert.Reference9Ideal.Project

open Cert.Reference9Ideal Cert.Reference9Ideal.Gen Cert.Reference9Ideal.Read Cert.Layer
open Idealize.ShloMosaic

variable (x0 : FVec Ideal S32x8x1024 .f32) (x1 : FVec Ideal S1024 .f32) (x2 : FVec Ideal S1024x3592 .f32)

/-- The normalised input. -/
theorem norm_at (b : Fin 32) (s : Fin 8) (k : Fin 1024) :
    val_main_v12 (F := Ideal) x0 x1 (ix3 b s k) = normed (fun j => x0 (ix3 b s j)) (fun j => x1 (ix1 j)) k := by
  unfold normed scale
  pointwise [val_main_v0, val_main_cst, val_main_v1, val_main_v2, val_main_cst_0, val_main_v3, val_main_v4, val_main_cst_1,
    val_main_v5, val_main_v6, val_main_v7, val_main_v8, val_main_v9, val_main_v10, val_main_v11, val_main_v12]

/-- The product, by batch and position, -/
theorem product_at (b : Fin 32) (s : Fin 8) (k : Fin 3592) :
    val_main_v13 (F := Ideal) x0 x1 x2 (ix3 b s k)
      = onto (fun j => x0 (ix3 b s j)) (fun j => x1 (ix1 j)) (fun j => x2 (ix2 j k)) := by
  unfold onto
  simp only [← norm_at]
  unfold val_main_v13
  generalize val_main_v12 (F := Ideal) x0 x1 = h
  pointwise

/-- and by row. -/
theorem row_at (R : Fin 256) (k : Fin 3592) :
    val_main_v14 (F := Ideal) x0 x1 x2 (ix2 R k)
      = onto (fun j => x0 (ix3 ⟨R.val / 8, by omega⟩ ⟨R.val % 8, by omega⟩ j)) (fun j => x1 (ix1 j))
          (fun j => x2 (ix2 j k)) := by
  rw [← product_at, val_main_v14_apply]
  refine congrArg _ (funext fun a => ?_)
  match a with
  | ⟨0, _⟩ => exact Fin.ext (by show (R.val * 3592 + k.val) / 28736 = R.val / 8; omega)
  | ⟨1, _⟩ => exact Fin.ext (by show (R.val * 3592 + k.val) / 3592 % 8 = R.val % 8; omega)
  | ⟨2, _⟩ => exact Fin.ext (by show (R.val * 3592 + k.val) % 3592 = k.val; omega)

open Cert.Kernel9Ideal.Project (wideCol thinCol)

/-- The wide result. -/
theorem wide_at (R : Fin 256) (k : Fin 3584) :
    val_main_v17 (F := Ideal) x0 x1 x2 (ix2 R k)
      = onto (fun j => x0 (ix3 ⟨R.val / 8, by omega⟩ ⟨R.val % 8, by omega⟩ j)) (fun j => x1 (ix1 j))
          (fun j => x2 (ix2 j (wideCol k))) := by
  rw [← row_at]
  unfold val_main_v17 val_main_v16 val_main_v15 wideCol
  generalize val_main_v14 (F := Ideal) x0 x1 x2 = z
  pointwise
  by_cases h : k.val < 2048
  · simp only [dif_pos h]
  · simp only [dif_neg h]
    exact congrArg (fun l => z (ix2 R l)) (Fin.ext (by show 2056 + (k.val - 2048) = 8 + k.val; omega))

/-- The narrow result. -/
theorem thin_at (R : Fin 256) (k : Fin 128) :
    val_main_v19 (F := Ideal) x0 x1 x2 (ix2 R k)
      = lanes (fun i => onto (fun j => x0 (ix3 ⟨R.val / 8, by omega⟩ ⟨R.val % 8, by omega⟩ j)) (fun j => x1 (ix1 j))
          (fun j => x2 (ix2 j (thinCol i)))) k := by
  simp only [← row_at]
  unfold val_main_v19 val_main_v18 val_main_call0_v0 val_main_c thinCol lanes
  generalize val_main_v14 (F := Ideal) x0 x1 x2 = h
  pointwise
  rw [zero_word]

open Idealize.SL.Sem

/-- The reference ends with its arguments unchanged and no counter raised: it has none. -/
theorem reference_frame : Cert.quiescent_Reference9Ideal (hReference9Ideal := Cert.Reference9Ideal.Gen.facts) := fun m g _ =>
  (θ_run Cert.Reference9Ideal.defs _ _).mono
    (fun r h => ⟨fun c => (h c).2.2, sem_eq_zero_of_no_sems rfl r.2⟩) (Cert.Reference9Ideal.Value.run m g)

/-- The idealized kernel ends with the projected rows, and so does the reference of arguments it shares. -/
theorem results : Cert.algebraic_Kernel9Ideal_Reference9Ideal (hKernel9Ideal := Cert.Kernel9Ideal.Gen.facts)
    (hReference9Ideal := Cert.Reference9Ideal.Gen.facts) := fun m g m' g' _ agree => by
  refine ⟨Cert.Kernel9Ideal.Project.wideArray m, Cert.Kernel9Ideal.Project.thinArray m, ?_, ?_⟩
  · refine (θ_run Cert.Kernel9Ideal.defs _ _).mono
      (fun r h c => ⟨((h.1.1 c).1 4).trans (Cert.Kernel9Ideal.Project.wide_eq m c),
        ((h.1.1 c).1 5).trans (Cert.Kernel9Ideal.Project.thin_eq m c), h.2.1 c⟩)
      (θ_run_and (Cert.Kernel9Ideal.Project.run_main m g) (Cert.Kernel9Ideal.Project.frame m g))
  · refine (θ_run Cert.Reference9Ideal.defs _ _).mono (fun r h c => ⟨(h c).1.trans ?_, (h c).2.1.trans ?_, (h c).2.2⟩)
      (Cert.Reference9Ideal.Value.run m' g')
    · obtain ⟨e0, e1, e2⟩ := agree c
      rw [val_main_v17_eq, e0, e1, e2]
      funext y
      obtain ⟨R, k, rfl⟩ : ∃ (R : Fin 256) (k : Fin 3584), y = ix2 R k := ⟨y 0, y 1, eq_ix2 y⟩
      exact wide_at _ _ _ R k
    · obtain ⟨e0, e1, e2⟩ := agree c
      rw [val_main_v19_eq, e0, e1, e2]
      funext y
      obtain ⟨R, k, rfl⟩ : ∃ (R : Fin 256) (k : Fin 128), y = ix2 R k := ⟨y 0, y 1, eq_ix2 y⟩
      exact thin_at _ _ _ R k

end Cert.Reference9Ideal.Project

end
-- ==== Proof.SampleMlpStep.lean ====
/- What one grid point of the sample batch's feed-forward kernel computes, at a row and a column of its blocks: the
   normalised rows, the first block's zeros, a block's products added, the normalised sum. -/
module

public import Idealize.ShloMosaic.Lib.Pipeline.ValueKit
public import proofs.«01_k».proof.Proof.Gen.Kernel10Ideal.Frame
public import proofs.«01_k».proof.Proof.MlpProblem

@[expose] public section

set_option maxRecDepth 16384

noncomputable section

namespace Cert.Kernel10Ideal.Mlp

open Cert.Kernel10Ideal Cert.Kernel10Ideal.Gen Cert.Layer
open Idealize.ShloMosaic Idealize.ShloMosaic.TcCoe

theorem start_at (x : FVec Ideal S256x1024 .f32) (w : FVec Ideal S1x1024 .f32) (r : Fin 256) (k : Fin 1024) :
    k0_pay1 (F := Ideal) x w (ix2 r k) = normed (fun j => x (ix2 r j)) (fun j => w (ix2 0 j)) k := by
  unfold normed scale
  pointwise [k0_pay1]

theorem zero_at (i : S256x1024.Idx) : k0_pay2 (F := Ideal) i = 0 := by
  pointwise [k0_pay2]

theorem add_at (h : FVec Ideal S256x1024 .bf16) (u : FVec Ideal S1024x512 .bf16) (a : FVec Ideal S256x1024 .f32)
    (d : FVec Ideal S512x1024 .bf16) (r : Fin 256) (k : Fin 1024) :
    k0_pay3 (F := Ideal) h u a d (ix2 r k)
      = a (ix2 r k) + ∑ f : Fin 512, unit (fun j => h (ix2 r j)) (fun j => u (ix2 j f)) * d (ix2 f k) := by
  unfold unit
  pointwise [k0_pay3]

theorem finish_at (x a : FVec Ideal S256x1024 .f32) (w : FVec Ideal S1x1024 .f32) (r : Fin 256) (k : Fin 1024) :
    k0_pay4 (F := Ideal) x a w (ix2 r k) = normed (fun j => x (ix2 r j) + a (ix2 r j)) (fun j => w (ix2 0 j)) k := by
  unfold normed scale
  pointwise [k0_pay4]

end Cert.Kernel10Ideal.Mlp

end
-- ==== Proof.SampleMlpBlocks.lean ====
/- What each grid point's blocks of the sample batch's feed-forward kernel hold, as entries of the arguments: 256 rows, 512
   columns of the first matrix and 512 rows of the second, the gains. -/
module

public import proofs.«01_k».proof.Proof.SampleMlpStep

@[expose] public section

noncomputable section

namespace Cert.Kernel10Ideal.Mlp

open Cert.Kernel10Ideal Cert.Kernel10Ideal.Gen Cert.Layer
open Idealize.ShloMosaic Idealize.ShloMosaic.TcCoe

variable (m : (ℓ : Loc nD τ sig) → Buf (Elt Ideal) ℓ)

/-- The arguments, by position; a row is a batch's and a place's. -/
def rows (c : Dev nD) (R : Fin 256) (k : Fin 1024) : EReal :=
  m ((c : Thread nD τ).loc main_arg0) (ix3 ⟨R.val / 8, by omega⟩ ⟨R.val % 8, by omega⟩ k)
def gain (c : Dev nD) (k : Fin 1024) : EReal := m ((c : Thread nD τ).loc main_arg1) (ix1 k)
def up (c : Dev nD) (k : Fin 1024) (f : Fin 4096) : EReal := m ((c : Thread nD τ).loc main_arg2) (ix2 k f)
def down (c : Dev nD) (f : Fin 4096) (k : Fin 1024) : EReal := m ((c : Thread nD τ).loc main_arg3) (ix2 f k)
def gain' (c : Dev nD) (k : Fin 1024) : EReal := m ((c : Thread nD τ).loc main_arg4) (ix1 k)

/-- The place of each window's block. -/
theorem at_x : ∀ t : Fin cfg0.N, (cfg0.win 0).index t = ![t.val / 8, 0] := by decide +kernel
theorem at_w : ∀ t : Fin cfg0.N, (cfg0.win 1).index t = ![0, 0] := by decide +kernel
theorem at_u : ∀ t : Fin cfg0.N, (cfg0.win 2).index t = ![0, t.val % 8] := by decide +kernel
theorem at_d : ∀ t : Fin cfg0.N, (cfg0.win 3).index t = ![t.val % 8, 0] := by decide +kernel
theorem at_f : ∀ t : Fin cfg0.N, (cfg0.win 4).index t = ![0, 0] := by decide +kernel
theorem at_o : ∀ t : Fin cfg0.N, (cfg0.win 5).index t = ![t.val / 8, 0] := by decide +kernel

theorem point_lt (t : Fin cfg0.N) : t.val < 8 := t.isLt

/-- The arguments as the host lays them out. -/
theorem rows_entry (c : Dev nD) (R : Fin 256) (k : Fin 1024) : V m c main_v0 (ix2 R k) = rows m c R k := by
  unfold rows
  entry_read
  pointwise
theorem gain_entry (c : Dev nD) (k : Fin 1024) : V m c main_v3 (ix2 0 k) = gain m c k := by
  unfold gain
  entry_read
  pointwise
theorem up_entry (c : Dev nD) (k : Fin 1024) (f : Fin 4096) : V m c main_v1 (ix2 k f) = up m c k f := by
  unfold up
  entry_read
  pointwise
theorem down_entry (c : Dev nD) (f : Fin 4096) (k : Fin 1024) : V m c main_v2 (ix2 f k) = down m c f k := by
  unfold down
  entry_read
  pointwise
theorem gain'_entry (c : Dev nD) (k : Fin 1024) : V m c main_v4 (ix2 0 k) = gain' m c k := by
  unfold gain'
  entry_read
  pointwise

theorem x_at (c : Dev nD) (t : Fin cfg0.N) (i : Fin 1) (hi : t.val / 8 = i.val) (r : Fin 256) (k : Fin 1024) :
    iblk m c 0 t (ix2 r k) = rows m c ⟨256 * i.val + r.val, by omega⟩ k := by
  rw [← rows_entry]
  have e := at_x t
  rw [hi] at e
  blk_ext [iblk, e]

theorem w_at (c : Dev nD) (t : Fin cfg0.N) (k : Fin 1024) : iblk m c 1 t (ix2 0 k) = gain m c k := by
  rw [← gain_entry]
  blk_ext [iblk, at_w t]

theorem u_at (c : Dev nD) (t : Fin cfg0.N) (j : Fin 8) (hj : t.val % 8 = j.val) (k : Fin 1024) (f : Fin 512) :
    iblk m c 2 t (ix2 k f) = up m c k ⟨512 * j.val + f.val, by omega⟩ := by
  rw [← up_entry]
  have e := at_u t
  rw [hj] at e
  blk_ext [iblk, e]

theorem d_at (c : Dev nD) (t : Fin cfg0.N) (j : Fin 8) (hj : t.val % 8 = j.val) (f : Fin 512) (k : Fin 1024) :
    iblk m c 3 t (ix2 f k) = down m c ⟨512 * j.val + f.val, by omega⟩ k := by
  rw [← down_entry]
  have e := at_d t
  rw [hj] at e
  blk_ext [iblk, e]

theorem f_at (c : Dev nD) (t : Fin cfg0.N) (k : Fin 1024) : iblk m c 4 t (ix2 0 k) = gain' m c k := by
  rw [← gain'_entry]
  blk_ext [iblk, at_f t]

end Cert.Kernel10Ideal.Mlp

end
-- ==== Proof.SampleMlpFold.lean ====
/- What the sample batch's feed-forward kernel's buffers hold after each point, and the array after the run: after block `j`
   the first buffer holds the normalised rows, the second what units `0 … 512·j + 511` give; after the last block the output
   block holds the rows of the whole block, and the blocks are the array. -/
module

public import Idealize.ShloMosaic.Lib.Pipeline.Covers
public import proofs.«01_k».proof.Proof.SampleMlpBlocks

@[expose] public section

noncomputable section

namespace Cert.Kernel10Ideal.Mlp

open Cert.Kernel10Ideal Cert.Kernel10Ideal.Gen Cert.Layer
open Idealize.ShloMosaic Idealize.ShloMosaic.TcCoe

variable (m : (ℓ : Loc nD τ sig) → Buf (Elt Ideal) ℓ)

/-- A block's row in the array. -/
abbrev place (i : Fin 1) (r : Fin 256) : Fin 256 := ⟨256 * i.val + r.val, by omega⟩

/-- The carried buffers hold the normalised rows of block `i` and what the first `n` units give. -/
structure Holds (c : Dev nD) (i : Fin 1) (n : ℕ)
    (p : Vec Ideal S256x1024 .f32 × Vec Ideal S256x1024 .bf16 × Vec Ideal S256x1024 .f32) : Prop where
  row : ∀ (r : Fin 256) (k : Fin 1024), p.2.1 (ix2 r k) = normed (rows m c (place i r)) (gain m c) k
  sum : ∀ (r : Fin 256) (k : Fin 1024), p.2.2 (ix2 r k) = given (normed (rows m c (place i r)) (gain m c)) (up m c) (down m c) n k

/-- The output block holds the rows of the feed-forward block. -/
def Done (c : Dev nD) (i : Fin 1) (o : Vec Ideal S256x1024 .f32) : Prop :=
  ∀ (r : Fin 256) (k : Fin 1024), o (ix2 r k) = feed (rows m c (place i r)) (gain m c) (up m c) (down m c) (gain' m c) k

variable {m}

/-- A carried buffer read whole. -/
theorem carried_row (v : Vec Ideal S256x1024 .bf16) : View.read (Elt Ideal) (View.whole cc0_scratch0)
    ((Memref.isWhole_whole (κ := .tc) cc0_scratch0).unread (Val := Elt Ideal) v) = v :=
  Memref.IsWhole.read_unread (Memref.isWhole_whole (κ := .tc) cc0_scratch0) v
theorem carried_sum (v : Vec Ideal S256x1024 .f32) : View.read (Elt Ideal) (View.whole cc0_scratch1)
    ((Memref.isWhole_whole (κ := .tc) cc0_scratch1).unread (Val := Elt Ideal) v) = v :=
  Memref.IsWhole.read_unread (Memref.isWhole_whole (κ := .tc) cc0_scratch1) v

/-- A point starts a block of rows with them normalised. -/
theorem row_first (c : Dev nD) (t : Fin cfg0.N) (i : Fin 1) (hi : t.val / 8 = i.val) (r : Fin 256) (k : Fin 1024) :
    k0_pay1 (F := Ideal) (iblk m c 0 t) (iblk m c 1 t) (ix2 r k) = normed (rows m c (place i r)) (gain m c) k := by
  rw [start_at]
  refine congrFun (congrArg₂ normed (funext fun j => ?_) (funext fun j => ?_)) k
  · exact x_at m c t i hi r j
  · exact w_at m c t j

/-- A point adds its block of units. -/
theorem sum_next (c : Dev nD) (t : Fin cfg0.N) (i : Fin 1) (j : Fin 8) (hj : t.val % 8 = j.val)
    (h : Vec Ideal S256x1024 .bf16) (a : Vec Ideal S256x1024 .f32)
    (eh : ∀ (r : Fin 256) (k : Fin 1024), h (ix2 r k) = normed (rows m c (place i r)) (gain m c) k)
    (ea : ∀ (r : Fin 256) (k : Fin 1024), a (ix2 r k) = given (normed (rows m c (place i r)) (gain m c)) (up m c) (down m c) (512 * j.val) k)
    (r : Fin 256) (k : Fin 1024) :
    k0_pay3 (F := Ideal) h (iblk m c 2 t) a (iblk m c 3 t) (ix2 r k)
      = given (normed (rows m c (place i r)) (gain m c)) (up m c) (down m c) (512 * j.val + 512) k := by
  rw [add_at, ea, ← given_block _ _ _ _ (by omega)]
  refine congrArg (_ + ·) (Finset.sum_congr rfl fun f _ => ?_)
  rw [d_at m c t j hj]
  refine congrArg (· * _) (congrArg₂ unit (funext fun l => eh r l) (funext fun l => ?_))
  exact u_at m c t j hj l f

/-- The first point of a block of rows. -/
theorem holds_first (c : Dev nD) (t : Fin cfg0.N) (h0 : t.val % 8 = 0) (i : Fin 1) (hi : t.val / 8 = i.val) :
    Holds m c i 512 (outsAt0 m c t.val t.isLt) := by
  rw [outsAt0_A m c t h0 (by omega)]
  refine ⟨fun r k => ?_, fun r k => ?_⟩
  · frame_out
    exact row_first c t i hi r k
  · frame_out
    exact sum_next c t i 0 h0 _ _ (row_first c t i hi) (fun r k => (zero_at _).trans (given_zero _ _ _ k).symm) r k

/-- A later point, over what the point before left. -/
theorem holds_later (c : Dev nD) (t : Fin cfg0.N) (i : Fin 1) (j : Fin 8) (hj : t.val % 8 = j.val) (h0 : ¬t.val % 8 = 0)
    (H : Holds m c i (512 * j.val) (outsAt0 m c (t.val - 1) (Nat.lt_of_le_of_lt (Nat.sub_le _ _) t.isLt))) :
    Holds m c i (512 * j.val + 512) (outsAt0 m c t.val t.isLt) := by
  by_cases h1 : t.val % 8 = 7
  · rw [outsAt0_C m c t h0 h1]
    refine ⟨fun r k => ?_, fun r k => ?_⟩
    · frame_out
      exact H.row r k
    · frame_out
      rw [carried_row, carried_sum]
      exact sum_next c t i j hj _ _ H.row H.sum r k
  · rw [outsAt0_B m c t h0 h1]
    refine ⟨fun r k => ?_, fun r k => ?_⟩
    · frame_out
      exact H.row r k
    · frame_out
      rw [carried_row, carried_sum]
      exact sum_next c t i j hj _ _ H.row H.sum r k

/-- After each point. -/
theorem holds (c : Dev nD) : ∀ (n : ℕ) (hn : n < cfg0.N) (i : Fin 1), n / 8 = i.val →
    Holds m c i (512 * (n % 8) + 512) (outsAt0 m c n hn) := by
  intro n
  induction n with
  | zero => exact fun hn i hi => holds_first c ⟨0, hn⟩ rfl i hi
  | succ n ih =>
    intro hn i hi
    by_cases h0 : (n + 1) % 8 = 0
    · rw [h0]
      exact holds_first c ⟨n + 1, hn⟩ h0 i hi
    · have H := ih (Nat.lt_of_succ_lt hn) i (by omega)
      rw [show 512 * (n % 8) + 512 = 512 * ((n + 1) % 8) by omega] at H
      exact holds_later c ⟨n + 1, hn⟩ i ⟨(n + 1) % 8, by omega⟩ rfl h0 H

/-- The last point of a block of rows stores them. -/
theorem done (c : Dev nD) (t : Fin cfg0.N) (h7 : t.val % 8 = 7) (i : Fin 1) (hi : t.val / 8 = i.val) :
    Done m c i (outsAt0 m c t.val t.isLt).1 := by
  have lt := point_lt t
  have H := holds (m := m) c (t.val - 1) (Nat.lt_of_le_of_lt (Nat.sub_le _ _) t.isLt) i (by omega)
  rw [show 512 * ((t.val - 1) % 8) + 512 = 512 * (7 : Fin 8).val by show _ = 512 * 7; omega] at H
  rw [outsAt0_C m c t (by omega) h7]
  intro r k
  frame_out
  rw [carried_row, carried_sum]
  refine (finish_at _ _ _ r k).trans ?_
  refine congrFun (congrArg₂ normed (funext fun j => ?_) (funext fun j => ?_)) k
  · rw [x_at m c t i hi r j]
    rw [sum_next c t i 7 h7 _ _ H.row H.sum r j]
    exact congrArg (rows m c (place i r) j + ·) (given_all _ _ _ j)
  · exact f_at m c t j

variable (m)

/-- The array of the feed-forward block's rows. -/
def outArray (c : Dev nD) : Vec Ideal S256x1024 .f32 := fun y =>
  feed (rows m c (y 0)) (gain m c) (up m c) (down m c) (gain' m c) (y 1)

variable {m}

/-- Every block of the array is some point's. -/
theorem covers : (cfg0.win 5).Covers := by
  refine Pipeline.Window.covers_of_index_surj _ rfl (by decide) fun β => ?_
  have b0 : (β 0).val < 1 := (β 0).isLt
  have b1 : (β 1).val < 1 := (β 1).isLt
  refine ⟨⟨(β 0).val * 8, by show _ < 8; omega⟩, fun a => ?_⟩
  rw [at_o]
  match a with
  | ⟨0, _⟩ => show (β 0).val * 8 / 8 = (β 0).val; omega
  | ⟨1, _⟩ => show 0 = (β 1).val; omega

/-- The result array after the run. -/
theorem arr_eq (c : Dev nD) : (dats m 0 c).arrAt 5 cfg0.N = outArray m c := by
  refine (dats m 0 c).arrAt_eq_of_covers 5 _ covers fun t hf y => ?_
  have e := at_o t
  have lt := point_lt t
  have y0 : (y 0).val < 256 := (y 0).isLt
  have y1 : (y 1).val < 1024 := (y 1).isLt
  have e0 : (((cfg0.win 5).blk t).view.emb y 0).val = 256 * (t.val / 8) + (y 0).val := by
    blk_simp [e]; omega
  have e1 : (((cfg0.win 5).blk t).view.emb y 1).val = (y 1).val := by
    blk_simp [e]
  have D := done (m := m) c t ((flush0_5 t).1 hf) ⟨t.val / 8, by omega⟩ rfl ⟨(y 0).val, y0⟩ ⟨(y 1).val, y1⟩
  have ey : (ix2 ⟨(y 0).val, y0⟩ ⟨(y 1).val, y1⟩ : S256x1024.Idx) = y := by
    funext a
    match a with
    | ⟨0, _⟩ => rfl
    | ⟨1, _⟩ => rfl
  have R : outArray m c (((cfg0.win 5).blk t).view.emb y)
      = feed (rows m c (place ⟨t.val / 8, by omega⟩ ⟨(y 0).val, y0⟩)) (gain m c) (up m c) (down m c) (gain' m c) ⟨(y 1).val, y1⟩ := by
    unfold outArray
    congr 2
    · exact Fin.ext e0
    · exact Fin.ext e1
  refine Eq.trans ?_ R.symm
  blk_simp
  rw [after0_5]
  exact (congrArg (outsAt0 m c t.val t.isLt).1 ey.symm).trans D

end Cert.Kernel10Ideal.Mlp

end
-- ==== Proof.SampleMlpRef.lean ====
/- What the reference of the sample batch's feed-forward block holds, at row `R` and column `k`: the block of that row. -/
module

public import Idealize.ShloMosaic.Lib.Pipeline.ValueKit
public import proofs.«01_k».proof.Proof.Gen.Reference10Ideal.Read
public import proofs.«01_k».proof.Proof.MlpProblem

@[expose] public section

set_option maxRecDepth 16384

noncomputable section

namespace Cert.Reference10Ideal.Mlp

open Cert.Reference10Ideal Cert.Reference10Ideal.Gen Cert.Reference10Ideal.Read Cert.Layer
open Idealize.ShloMosaic

variable (x0 : FVec Ideal S32x8x1024 .f32) (x1 : FVec Ideal S1024 .f32) (x2 : FVec Ideal S1024x4096 .f32)
  (x3 : FVec Ideal S4096x1024 .f32) (x4 : FVec Ideal S1024 .f32)

/-- The normalised input. -/
theorem norm_at (b : Fin 32) (s : Fin 8) (k : Fin 1024) :
    val_main_v12 (F := Ideal) x0 x1 (ix3 b s k) = normed (fun j => x0 (ix3 b s j)) (fun j => x1 (ix1 j)) k := by
  unfold normed scale
  pointwise [val_main_v0, val_main_cst, val_main_v1, val_main_v2, val_main_cst_0, val_main_v3, val_main_v4, val_main_cst_1,
    val_main_v5, val_main_v6, val_main_v7, val_main_v8, val_main_v9, val_main_v10, val_main_v11, val_main_v12]

/-- The squared positive parts. -/
theorem unit_at (b : Fin 32) (s : Fin 8) (f : Fin 4096) :
    val_main_v15 (F := Ideal) x0 x1 x2 (ix3 b s f)
      = unit (normed (fun j => x0 (ix3 b s j)) (fun j => x1 (ix1 j))) (fun j => x2 (ix2 j f)) := by
  unfold unit
  simp only [← norm_at]
  unfold val_main_v15 val_main_v14 val_main_v13 val_main_call0_v0 val_main_call0_cst
  generalize val_main_v12 (F := Ideal) x0 x1 = h
  pointwise

/-- The input with the second product added. -/
theorem residual_at (b : Fin 32) (s : Fin 8) (k : Fin 1024) :
    val_main_v17 (F := Ideal) x0 x1 x2 x3 (ix3 b s k)
      = summed (fun j => x0 (ix3 b s j)) (fun j => x1 (ix1 j)) (fun j f => x2 (ix2 j f)) (fun f j => x3 (ix2 f j)) k := by
  unfold summed
  simp only [← unit_at]
  unfold val_main_v17 val_main_v16
  generalize val_main_v15 (F := Ideal) x0 x1 x2 = h
  pointwise

/-- The result, by batch and position. -/
theorem feed_at (b : Fin 32) (s : Fin 8) (k : Fin 1024) :
    val_main_v30 (F := Ideal) x0 x1 x2 x3 x4 (ix3 b s k)
      = feed (fun j => x0 (ix3 b s j)) (fun j => x1 (ix1 j)) (fun j f => x2 (ix2 j f)) (fun f j => x3 (ix2 f j))
          (fun j => x4 (ix1 j)) k := by
  unfold feed normed scale
  simp only [← residual_at]
  unfold val_main_v30 val_main_v29 val_main_v28 val_main_v27 val_main_v26 val_main_v25 val_main_v24 val_main_v23 val_main_cst_4
    val_main_v22 val_main_v21 val_main_cst_3 val_main_v20 val_main_v19 val_main_cst_2 val_main_v18
  generalize val_main_v17 (F := Ideal) x0 x1 x2 x3 = h
  pointwise

/-- The result, by row. -/
theorem result_at (R : Fin 256) (k : Fin 1024) :
    val_main_v31 (F := Ideal) x0 x1 x2 x3 x4 (ix2 R k)
      = feed (fun j => x0 (ix3 ⟨R.val / 8, by omega⟩ ⟨R.val % 8, by omega⟩ j)) (fun j => x1 (ix1 j))
          (fun j f => x2 (ix2 j f)) (fun f j => x3 (ix2 f j)) (fun j => x4 (ix1 j)) k := by
  rw [← feed_at, val_main_v31_apply]
  refine congrArg _ (funext fun a => ?_)
  match a with
  | ⟨0, _⟩ => exact Fin.ext (by show (R.val * 1024 + k.val) / 8192 = R.val / 8; omega)
  | ⟨1, _⟩ => exact Fin.ext (by show (R.val * 1024 + k.val) / 1024 % 8 = R.val % 8; omega)
  | ⟨2, _⟩ => exact Fin.ext (by show (R.val * 1024 + k.val) % 1024 = k.val; omega)

end Cert.Reference10Ideal.Mlp

end
-- ==== Proof.SampleMlpClaim.lean ====
/- The sample batch's feed-forward block's claims: its reference's frame, and that the idealized kernel and the reference end
   with one array, the block's rows. -/
module

public import proofs.«01_k».proof.Defs
public import proofs.«01_k».proof.Proof.Gen.Reference10Ideal
public import proofs.«01_k».proof.Proof.Gen.Reference10Ideal.Run
public import proofs.«01_k».proof.Proof.SampleMlpFold
public import proofs.«01_k».proof.Proof.SampleMlpRef
public import Idealize.ShloMosaic.Lib.Quiescent

@[expose] public section

noncomputable section

namespace Cert.SampleMlp

open Idealize.ShloMosaic Idealize.SL.Sem

/-- The reference ends with its arguments unchanged and no counter raised: it has none. -/
theorem reference_frame : Cert.quiescent_Reference10Ideal (hReference10Ideal := Cert.Reference10Ideal.Gen.facts) := fun m g _ =>
  (θ_run Cert.Reference10Ideal.defs _ _).mono
    (fun r h => ⟨fun c => (h c).2, sem_eq_zero_of_no_sems rfl r.2⟩) (Cert.Reference10Ideal.Value.run m g)

/-- The idealized kernel ends with the block's rows, and so does the reference of arguments it shares. -/
theorem results : Cert.algebraic_Kernel10Ideal_Reference10Ideal (hKernel10Ideal := Cert.Kernel10Ideal.Gen.facts)
    (hReference10Ideal := Cert.Reference10Ideal.Gen.facts) := fun m g m' g' _ agree => by
  refine ⟨Cert.Kernel10Ideal.Mlp.outArray m, ?_, ?_⟩
  · refine (θ_run Cert.Kernel10Ideal.defs _ _).mono (fun r h c => ⟨((h.1 c).1 5).trans ?_, h.2.1 c⟩)
      (θ_run_and (Cert.Kernel10Ideal.Gen.run_main m g) (Cert.Kernel10Ideal.Gen.frame m g))
    exact Cert.Kernel10Ideal.Mlp.arr_eq c
  · refine (θ_run Cert.Reference10Ideal.defs _ _).mono (fun r h c => ⟨(h c).1.trans ?_, (h c).2⟩)
      (Cert.Reference10Ideal.Value.run m' g')
    obtain ⟨e0, e1, e2, e3, e4⟩ := agree c
    rw [Cert.Reference10Ideal.Read.val_main_v31_eq, e0, e1, e2, e3, e4]
    funext y
    obtain ⟨R, k, rfl⟩ : ∃ (R : Fin 256) (k : Fin 1024), y = ix2 R k := ⟨y 0, y 1, eq_ix2 y⟩
    exact Cert.Reference10Ideal.Mlp.result_at _ _ _ _ _ R k

end Cert.SampleMlp

end
-- ==== Proof.lean ====
/- The claims, assembled. The idealized kernel's frame and result come from its run (Proof/Trajectory, Proof/Fold), the
   frame of the kernel as printed from the same run (Proof/KernelFrame), the reference's result from its composed term
   (Proof/RefValue). Where the precondition holds (Proof/Precondition) both results are the attention of Proof/Problem.
   The other calls' claims are their own modules': the feed-forward block with and without the norm at the end (Proof/Mlp…),
   the projections into the mixers (Proof/Project…) and out of them (Proof/Out…), and the sample batch's projections and
   last block (Proof/Sample…). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.KernelFrame
public import proofs.«01_k».proof.Proof.Fold
public import proofs.«01_k».proof.Proof.RefValue
public import proofs.«01_k».proof.Proof.Precondition
public import proofs.«01_k».proof.Proof.MlpClaim
public import proofs.«01_k».proof.Proof.MlpPlainClaim
public import proofs.«01_k».proof.Proof.ProjectAbBits
public import proofs.«01_k».proof.Proof.ProjectAbClaim
public import proofs.«01_k».proof.Proof.ProjectCdBits
public import proofs.«01_k».proof.Proof.ProjectCdClaim
public import proofs.«01_k».proof.Proof.OutAbClaim
public import proofs.«01_k».proof.Proof.OutCdClaim
public import proofs.«01_k».proof.Proof.SampleAbBits
public import proofs.«01_k».proof.Proof.SampleAbClaim
public import proofs.«01_k».proof.Proof.SampleCdBits
public import proofs.«01_k».proof.Proof.SampleCdClaim
public import proofs.«01_k».proof.Proof.SampleMlpClaim
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its result, its arguments unchanged and no counter raised: it has none. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, sem_eq_zero_of_no_sems rfl r.2⟩) (Cert.ReferenceIdeal.Value.run m g)

/-- Where the precondition holds of arguments the two programs share, the reference's result is the attention the kernel's
    output array holds. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (f : Cert.Stick.Finite (Cert.KernelIdeal.Stick.proj m c) (Cert.KernelIdeal.Stick.bias m c))
    (e0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.res_main_v29 m' c = Cert.KernelIdeal.Stick.outArray m c := by
  rw [Cert.ReferenceIdeal.Read.val_main_v29_eq, e0, e1]
  funext y
  obtain ⟨b, Q, l, rfl⟩ : ∃ (b : Fin 8) (Q : Fin 4096) (l : Fin 512), y = ix3 b Q l := ⟨y 0, y 1, y 2, eq_ix3 y⟩
  exact Cert.ReferenceIdeal.Stick.result_at f b Q l

theorem claim : Cert.Claim := by
  refine ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Pre_finite_logits.facts, fun m g _ => Cert.Kernel.frame m g,
    fun m g _ => Cert.KernelIdeal.Stick.frame m g, fun m g _ => Cert.KernelIdeal.Stick.frame m g,
    fun m g _ => reference_frame m g, fun m g _ => reference_frame m g, fun m g _ => Cert.Kernel2.Gen.frame m g,
    fun m g _ => Cert.Kernel2Ideal.Gen.frame m g, Cert.Mlp.reference_frame, fun m g _ => Cert.Kernel3.frame m g,
    fun m g _ => Cert.Kernel3Ideal.Project.frame m g, Cert.Reference3Ideal.Project.reference_frame,
    fun m g _ => Cert.Kernel4.frame m g, fun m g _ => Cert.Kernel4Ideal.Project.frame m g,
    Cert.Reference4Ideal.Project.reference_frame, fun m g _ => Cert.Kernel5.Gen.frame m g,
    fun m g _ => Cert.Kernel5Ideal.Gen.frame m g, Cert.Reference5Ideal.Out.reference_frame,
    fun m g _ => Cert.Kernel6.Gen.frame m g, fun m g _ => Cert.Kernel6Ideal.Gen.frame m g,
    Cert.Reference6Ideal.Out.reference_frame, fun m g _ => Cert.Kernel7.Gen.frame m g,
    fun m g _ => Cert.Kernel7Ideal.Gen.frame m g, Cert.Reference7Ideal.Mlp.reference_frame,
    fun m g _ => Cert.Kernel8.frame m g, fun m g _ => Cert.Kernel8Ideal.Project.frame m g,
    Cert.Reference8Ideal.Project.reference_frame, fun m g _ => Cert.Kernel9.frame m g,
    fun m g _ => Cert.Kernel9Ideal.Project.frame m g, Cert.Reference9Ideal.Project.reference_frame,
    fun m g _ => Cert.Kernel10.Gen.frame m g, fun m g _ => Cert.Kernel10Ideal.Gen.frame m g,
    Cert.SampleMlp.reference_frame, trivial,
    fun m g m' g' pre agree => ⟨Cert.KernelIdeal.Stick.outArray m, ?_, ?_⟩, trivial, Cert.Mlp.results, trivial,
    Cert.Reference3Ideal.Project.results, trivial, Cert.Reference4Ideal.Project.results, trivial,
    Cert.Reference5Ideal.Out.results, trivial, Cert.Reference6Ideal.Out.results, trivial,
    Cert.Reference7Ideal.Mlp.results, trivial, Cert.Reference8Ideal.Project.results, trivial,
    Cert.Reference9Ideal.Project.results, trivial, Cert.SampleMlp.results⟩
  · refine (θ_run Cert.KernelIdeal.defs _ _).mono (fun r h c => ⟨(h.1 c).trans ?_, h.2.1 c⟩)
      (θ_run_and (Cert.KernelIdeal.Stick.run_result m g) (Cert.KernelIdeal.Stick.frame m g))
    exact Cert.KernelIdeal.Stick.arr_eq c (Cert.Pre_finite_logits.finite (pre c))
  · refine (θ_run Cert.ReferenceIdeal.defs _ _).mono (fun r h c => ⟨(h c).1.trans ?_, (h c).2⟩) (Cert.ReferenceIdeal.Value.run m' g')
    exact results_eq m m' c (Cert.Pre_finite_logits.finite (pre c)) (agree c).1 (agree c).2

end Cert.Proof

end
